-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_proper_boxes [hPre_proper_boxes : Cert.Pre_proper_boxes.Facts] (m : (ℓ : Loc Cert.KernelIdeal.nD Cert.KernelIdeal.τ Cert.KernelIdeal.sig) → Buf (Elt Ideal) ℓ) : Prop :=
  ∀ c : Dev Cert.KernelIdeal.nD,
    (Cert.Pre_proper_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_proper_boxes [hPre_proper_boxes : Cert.Pre_proper_boxes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_proper_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_proper_boxes [hKernelIdeal : Cert.KernelIdeal.Facts] [hPre_proper_boxes : Cert.Pre_proper_boxes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_proper_boxes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_proper_boxes [hReferenceIdeal : Cert.ReferenceIdeal.Facts] [hPre_proper_boxes : Cert.Pre_proper_boxes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_proper_boxes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_proper_boxes [hKernelIdeal : Cert.KernelIdeal.Facts] [hReferenceIdeal : Cert.ReferenceIdeal.Facts] [hPre_proper_boxes : Cert.Pre_proper_boxes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_proper_boxes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v29_0)) (v2 : (c : Dev Cert.KernelIdeal.nD) → Buf (Elt Ideal) ((c.tc : Thread Cert.KernelIdeal.nD Cert.KernelIdeal.τ).loc Cert.KernelIdeal.main_v29_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v29_0) = v1 c
          ∧ r.2.mem ((c.tc : Thread Cert.KernelIdeal.nD Cert.KernelIdeal.τ).loc Cert.KernelIdeal.main_v29_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_proper_boxes : Cert.Pre_proper_boxes.Facts),
    quiescent_Kernel (hKernel := hKernel)
    ∧ quiescent_KernelIdeal (hKernelIdeal := hKernelIdeal)
    ∧ quiescent_KernelIdeal_pre_proper_boxes (hKernelIdeal := hKernelIdeal) (hPre_proper_boxes := hPre_proper_boxes)
    ∧ quiescent_ReferenceIdeal (hReferenceIdeal := hReferenceIdeal)
    ∧ quiescent_ReferenceIdeal_pre_proper_boxes (hReferenceIdeal := hReferenceIdeal) (hPre_proper_boxes := hPre_proper_boxes)
    ∧ preserves_Kernel_KernelIdeal
    ∧ algebraic_KernelIdeal_ReferenceIdeal_pre_proper_boxes (hKernelIdeal := hKernelIdeal) (hReferenceIdeal := hReferenceIdeal) (hPre_proper_boxes := hPre_proper_boxes)
-- ==== Pre_proper_boxes.lean ====
abbrev S8x20000x4 : Shape := ⟨3, ![8, 20000, 4]⟩
abbrev S8x20000x80 : Shape := ⟨3, ![8, 20000, 80]⟩
abbrev S8x20000x1 : Shape := ⟨3, ![8, 20000, 1]⟩
abbrev S_ : Shape := ⟨0, ![]⟩

class Facts : Prop where
  slices_S8x20000x4_S8x20000x1_0_0_0 : S8x20000x4.Slices ![0, 0, 0] S8x20000x1
  slices_S8x20000x4_S8x20000x1_0_0_1 : S8x20000x4.Slices ![0, 0, 1] S8x20000x1
  slices_S8x20000x4_S8x20000x1_0_0_2 : S8x20000x4.Slices ![0, 0, 2] S8x20000x1
  slices_S8x20000x4_S8x20000x1_0_0_3 : S8x20000x4.Slices ![0, 0, 3] S8x20000x1
  bcast_S_S8x20000x4 : S_.BroadcastsInDim S8x20000x4 (![] : Fin 0 → Fin S8x20000x4.rank)
  reducesTo_S8x20000x4_S_d0_1_2 : S8x20000x4.ReducesTo [0, 1, 2] S_
  h_S_ : 0 < S_.numel
  reducesTo_S8x20000x1_S_d0_1_2 : S8x20000x1.ReducesTo [0, 1, 2] S_
  bcast_S_S8x20000x1 : S_.BroadcastsInDim S8x20000x1 (![] : Fin 0 → Fin S8x20000x1.rank)

variable [Facts]

def fn {F : FTy → Type} [FloatOps F] (main_arg0 : FVec F S8x20000x4 .f32) (main_arg1 : FVec F S8x20000x80 .f32) : IVec S_ 1 :=
  let main_v0 : FVec F S8x20000x1 .f32 := (extractStridedSlice S8x20000x1 ![0, 0, 0] · slices_S8x20000x4_S8x20000x1_0_0_0) main_arg0
  let main_v1 : FVec F S8x20000x1 .f32 := (extractStridedSlice S8x20000x1 ![0, 0, 1] · slices_S8x20000x4_S8x20000x1_0_0_1) main_arg0
  let main_v2 : FVec F S8x20000x1 .f32 := (extractStridedSlice S8x20000x1 ![0, 0, 2] · slices_S8x20000x4_S8x20000x1_0_0_2) main_arg0
  let main_v3 : FVec F S8x20000x1 .f32 := (extractStridedSlice S8x20000x1 ![0, 0, 3] · slices_S8x20000x4_S8x20000x1_0_0_3) main_arg0
  let main_v4 : FVec F S8x20000x4 .f32 := Host.absf main_arg0
  let main_cst : FVec F S_ .f32 := constant S_ .f32 0x7F800000#32
  let main_v5 : FVec F S8x20000x4 .f32 := broadcastInDim S8x20000x4 ![] bcast_S_S8x20000x4 main_cst
  let main_v6 : IVec S8x20000x4 1 := cmpf .olt main_v4 main_v5
  let main_c : IVec S_ 1 := constantI S_ 1 1#1
  let main_v7 : IVec S_ 1 := (fun x v => Host.reduce IntOp.andi x v reducesTo_S8x20000x4_S_d0_1_2 h_S_) main_v6 main_c
  let main_v8 : IVec S8x20000x1 1 := cmpf .olt main_v0 main_v2
  let main_c_0 : IVec S_ 1 := constantI S_ 1 1#1
  let main_v9 : IVec S_ 1 := (fun x v => Host.reduce IntOp.andi x v reducesTo_S8x20000x1_S_d0_1_2 h_S_) main_v8 main_c_0
  let main_v10 : FVec F S8x20000x1 .f32 := subf main_v2 main_v0
  let main_v11 : FVec F S8x20000x1 .f32 := subf main_v3 main_v1
  let main_v12 : FVec F S8x20000x1 .f32 := mulf main_v10 main_v11
  let main_cst_1 : FVec F S_ .f32 := constant S_ .f32 0x322BCC77#32
  let main_v13 : FVec F S8x20000x1 .f32 := broadcastInDim S8x20000x1 ![] bcast_S_S8x20000x1 main_cst_1
  let main_v14 : IVec S8x20000x1 1 := cmpf .ogt main_v12 main_v13
  let main_c_2 : IVec S_ 1 := constantI S_ 1 1#1
  let main_v15 : IVec S_ 1 := (fun x v => Host.reduce IntOp.andi x v reducesTo_S8x20000x1_S_d0_1_2 h_S_) main_v14 main_c_2
  let main_v16 : IVec S_ 1 := andi main_v7 main_v9
  let main_v17 : IVec S_ 1 := andi main_v16 main_v15
  main_v17
-- ==== Kernel.lean ====
abbrev S8x20000x4 : Shape := ⟨3, ![8, 20000, 4]⟩
abbrev S8x20000x80 : Shape := ⟨3, ![8, 20000, 80]⟩
abbrev S8x20000x1 : Shape := ⟨3, ![8, 20000, 1]⟩
abbrev S1x4000x80 : Shape := ⟨3, ![1, 4000, 80]⟩
abbrev S1x4000x1 : Shape := ⟨3, ![1, 4000, 1]⟩
abbrev S4000x80 : Shape := ⟨2, ![4000, 80]⟩
abbrev S4000 : Shape := ⟨1, ![4000]⟩
abbrev S4000x1 : Shape := ⟨2, ![4000, 1]⟩
abbrev S8x20000 : Shape := ⟨2, ![8, 20000]⟩
abbrev S_ : Shape := ⟨0, ![]⟩
abbrev S8x20480 : Shape := ⟨2, ![8, 20480]⟩
abbrev S8x160x128 : Shape := ⟨3, ![8, 160, 128]⟩
abbrev S20480 : Shape := ⟨1, ![20480]⟩
abbrev S1x160x128 : Shape := ⟨3, ![1, 160, 128]⟩
abbrev S8x300 : Shape := ⟨2, ![8, 300]⟩
abbrev S2x160x128 : Shape := ⟨3, ![2, 160, 128]⟩
abbrev S1x300 : Shape := ⟨2, ![1, 300]⟩
abbrev S2x128 : Shape := ⟨2, ![2, 128]⟩
abbrev S2x1x128 : Shape := ⟨3, ![2, 1, 128]⟩
abbrev S2x1 : Shape := ⟨2, ![2, 1]⟩
abbrev S2x1x1 : Shape := ⟨3, ![2, 1, 1]⟩
abbrev S2x300 : Shape := ⟨2, ![2, 300]⟩
abbrev S8x300x1 : Shape := ⟨3, ![8, 300, 1]⟩
abbrev S8x300x4 : Shape := ⟨3, ![8, 300, 4]⟩

abbrev nBuf : Space → Nat
  | .hbm => 56
  | .vmem => 20
  | .smem => 0
  | _ => 0

abbrev bufTy : (tb : Table) → Fin (tcTables nBuf tb) → BufTy
  | .hbm, ⟨0, _⟩ => ⟨S8x20000x4, .f32⟩
  | .hbm, ⟨1, _⟩ => ⟨S8x20000x80, .f32⟩
  | .hbm, ⟨2, _⟩ => ⟨S8x20000x1, .f32⟩
  | .hbm, ⟨3, _⟩ => ⟨S8x20000x1, .i32⟩
  | .hbm, ⟨4, _⟩ => ⟨S8x20000, .f32⟩
  | .hbm, ⟨5, _⟩ => ⟨S_, .f32⟩
  | .hbm, ⟨6, _⟩ => ⟨S_, .f32⟩
  | .hbm, ⟨7, _⟩ => ⟨S8x20480, .f32⟩
  | .hbm, ⟨8, _⟩ => ⟨S8x160x128, .f32⟩
  | .hbm, ⟨9, _⟩ => ⟨S8x20000, .i32⟩
  | .hbm, ⟨10, _⟩ => ⟨S_, .i32⟩
  | .hbm, ⟨11, _⟩ => ⟨S_, .i32⟩
  | .hbm, ⟨12, _⟩ => ⟨S8x20480, .i32⟩
  | .hbm, ⟨13, _⟩ => ⟨S8x160x128, .i32⟩
  | .hbm, ⟨14, _⟩ => ⟨S20480, .i32⟩
  | .hbm, ⟨15, _⟩ => ⟨S1x160x128, .i32⟩
  | .hbm, ⟨16, _⟩ => ⟨S_, .i32⟩
  | .hbm, ⟨17, _⟩ => ⟨S1x160x128, .i32⟩
  | .hbm, ⟨18, _⟩ => ⟨S1x160x128, .i32⟩
  | .hbm, ⟨19, _⟩ => ⟨S8x160x128, .i32⟩
  | .hbm, ⟨20, _⟩ => ⟨S8x160x128, .i32⟩
  | .hbm, ⟨21, _⟩ => ⟨S8x20000x1, .f32⟩
  | .hbm, ⟨22, _⟩ => ⟨S8x20000, .f32⟩
  | .hbm, ⟨23, _⟩ => ⟨S_, .i32⟩
  | .hbm, ⟨24, _⟩ => ⟨S_, .f32⟩
  | .hbm, ⟨25, _⟩ => ⟨S8x20480, .f32⟩
  | .hbm, ⟨26, _⟩ => ⟨S8x160x128, .f32⟩
  | .hbm, ⟨27, _⟩ => ⟨S8x20000x1, .f32⟩
  | .hbm, ⟨28, _⟩ => ⟨S8x20000, .f32⟩
  | .hbm, ⟨29, _⟩ => ⟨S_, .i32⟩
  | .hbm, ⟨30, _⟩ => ⟨S_, .f32⟩
  | .hbm, ⟨31, _⟩ => ⟨S8x20480, .f32⟩
  | .hbm, ⟨32, _⟩ => ⟨S8x160x128, .f32⟩
  | .hbm, ⟨33, _⟩ => ⟨S8x20000x1, .f32⟩
  | .hbm, ⟨34, _⟩ => ⟨S8x20000, .f32⟩
  | .hbm, ⟨35, _⟩ => ⟨S_, .i32⟩
  | .hbm, ⟨36, _⟩ => ⟨S_, .f32⟩
  | .hbm, ⟨37, _⟩ => ⟨S8x20480, .f32⟩
  | .hbm, ⟨38, _⟩ => ⟨S8x160x128, .f32⟩
  | .hbm, ⟨39, _⟩ => ⟨S8x20000x1, .f32⟩
  | .hbm, ⟨40, _⟩ => ⟨S8x20000, .f32⟩
  | .hbm, ⟨41, _⟩ => ⟨S_, .i32⟩
  | .hbm, ⟨42, _⟩ => ⟨S_, .f32⟩
  | .hbm, ⟨43, _⟩ => ⟨S8x20480, .f32⟩
  | .hbm, ⟨44, _⟩ => ⟨S8x160x128, .f32⟩
  | .hbm, ⟨45, _⟩ => ⟨S8x300, .f32⟩
  | .hbm, ⟨46, _⟩ => ⟨S8x300, .i32⟩
  | .hbm, ⟨47, _⟩ => ⟨S8x300, .f32⟩
  | .hbm, ⟨48, _⟩ => ⟨S8x300, .f32⟩
  | .hbm, ⟨49, _⟩ => ⟨S8x300, .f32⟩
  | .hbm, ⟨50, _⟩ => ⟨S8x300, .f32⟩
  | .hbm, ⟨51, _⟩ => ⟨S8x300x1, .f32⟩
  | .hbm, ⟨52, _⟩ => ⟨S8x300x1, .f32⟩
  | .hbm, ⟨53, _⟩ => ⟨S8x300x1, .f32⟩
  | .hbm, ⟨54, _⟩ => ⟨S8x300x1, .f32⟩
  | .hbm, ⟨55, _⟩ => ⟨S8x300x4, .f32⟩
  | .local _ .vmem, ⟨0, _⟩ => ⟨S1x4000x80, .f32⟩
  | .local _ .vmem, ⟨1, _⟩ => ⟨S1x4000x80, .f32⟩
  | .local _ .vmem, ⟨2, _⟩ => ⟨S1x4000x1, .f32⟩
  | .local _ .vmem, ⟨3, _⟩ => ⟨S1x4000x1, .f32⟩
  | .local _ .vmem, ⟨4, _⟩ => ⟨S1x4000x1, .i32⟩
  | .local _ .vmem, ⟨5, _⟩ => ⟨S1x4000x1, .i32⟩
  | .local _ .vmem, ⟨6, _⟩ => ⟨S8x160x128, .f32⟩
  | .local _ .vmem, ⟨7, _⟩ => ⟨S8x160x128, .i32⟩
  | .local _ .vmem, ⟨8, _⟩ => ⟨S8x160x128, .f32⟩
  | .local _ .vmem, ⟨9, _⟩ => ⟨S8x160x128, .f32⟩
  | .local _ .vmem, ⟨10, _⟩ => ⟨S8x160x128, .f32⟩
  | .local _ .vmem, ⟨11, _⟩ => ⟨S8x160x128, .f32⟩
  | .local _ .vmem, ⟨12, _⟩ => ⟨S8x300, .f32⟩
  | .local _ .vmem, ⟨13, _⟩ => ⟨S8x300, .i32⟩
  | .local _ .vmem, ⟨14, _⟩ => ⟨S8x300, .f32⟩
  | .local _ .vmem, ⟨15, _⟩ => ⟨S8x300, .f32⟩
  | .local _ .vmem, ⟨16, _⟩ => ⟨S8x300, .f32⟩
  | .local _ .vmem, ⟨17, _⟩ => ⟨S8x300, .f32⟩
  | .local _ .vmem, ⟨18, _⟩ => ⟨S8x160x128, .f32⟩
  | .local _ .vmem, ⟨19, _⟩ => ⟨S8x160x128, .f32⟩
  | _, _ => ⟨S8x20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_call2_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_call3_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_call4_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_call5_v0 : Ref sig .tc := ⟨.hbm, 42, rfl⟩
abbrev main_v27 : Ref sig .tc := ⟨.hbm, 43, rfl⟩
abbrev main_v28 : Ref sig .tc := ⟨.hbm, 44, rfl⟩
abbrev main_v29_0 : Ref sig .tc := ⟨.hbm, 45, rfl⟩
abbrev main_v29_1 : Ref sig .tc := ⟨.hbm, 46, rfl⟩
abbrev main_v29_2 : Ref sig .tc := ⟨.hbm, 47, rfl⟩
abbrev main_v29_3 : Ref sig .tc := ⟨.hbm, 48, rfl⟩
abbrev main_v29_4 : Ref sig .tc := ⟨.hbm, 49, rfl⟩
abbrev main_v29_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg10_0 : Ref sig .tc := ⟨.vmem, 16, rfl⟩
abbrev cc1_stg11_0 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17

abbrev nD : Nat := 1
abbrev τ : Topo := Topo.v7x

variable {F : FTy → Type} [FloatOps F]

abbrev grid0 : Pipeline.Grid := ⟨2, ![8, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4000x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := .none

@[reducible] def k1_t1_loop : Scf.Loop 32 :=
  let c0_i32 : BitVec 32 := 0#32
  let c300_i32 : BitVec 32 := 300#32
  let v76 : BitVec 32 := Scalar.addi c0_i32 c300_i32
  let c1_i32 : BitVec 32 := 1#32
  ⟨c0_i32, v76, c1_i32⟩
abbrev stage1_0 : Fin 1 → Memref sig .tc .vmem S8x160x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x160x128 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x160x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x160x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S8x160x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S8x160x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S8x300 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S8x300 .i32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S8x300 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S8x300 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S8x300 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S8x300 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
-- ==== ReferenceIdeal.lean ====
abbrev S8x20000x4 : Shape := ⟨3, ![8, 20000, 4]⟩
abbrev S8x20000x80 : Shape := ⟨3, ![8, 20000, 80]⟩
abbrev S_ : Shape := ⟨0, ![]⟩
abbrev S8x20000 : Shape := ⟨2, ![8, 20000]⟩
abbrev S300x8 : Shape := ⟨2, ![300, 8]⟩
abbrev S8x1 : Shape := ⟨2, ![8, 1]⟩
abbrev S8x1x1 : Shape := ⟨3, ![8, 1, 1]⟩
abbrev S8x1x4 : Shape := ⟨3, ![8, 1, 4]⟩
abbrev S8x20000x1 : Shape := ⟨3, ![8, 20000, 1]⟩
abbrev S20000 : Shape := ⟨1, ![20000]⟩
abbrev S1x20000 : Shape := ⟨2, ![1, 20000]⟩
abbrev S8 : Shape := ⟨1, ![8]⟩
abbrev S1x8 : Shape := ⟨2, ![1, 8]⟩
abbrev S8x300 : Shape := ⟨2, ![8, 300]⟩
abbrev S8x300x1 : Shape := ⟨3, ![8, 300, 1]⟩
abbrev S8x300x80 : Shape := ⟨3, ![8, 300, 80]⟩
abbrev S8x300x1x1 : Shape := ⟨4, ![8, 300, 1, 1]⟩
abbrev S8x300x4 : Shape := ⟨3, ![8, 300, 4]⟩

abbrev nBuf : Space → Nat
  | .hbm => 159
  | .vmem => 0
  | .smem => 0
  | _ => 0

abbrev hbmTy0_0 (i : Nat) : BufTy := match i % 128 with
  | 0 => ⟨S8x20000x4, .f32⟩
  | 1 => ⟨S8x20000x80, .f32⟩
  | 2 => ⟨S_, .f32⟩
  | 3 => ⟨S8x20000, .f32⟩
  | 4 => ⟨S_, .f32⟩
  | 5 => ⟨S8x20000, .f32⟩
  | 6 => ⟨S8x20000, .i1⟩
  | 7 => ⟨S_, .f32⟩
  | 8 => ⟨S_, .f32⟩
  | 9 => ⟨S8x20000, .f32⟩
  | 10 => ⟨S8x20000, .f32⟩
  | 11 => ⟨S_, .i32⟩
  | 12 => ⟨S300x8, .i32⟩
  | 13 => ⟨S_, .i1⟩
  | 14 => ⟨S300x8, .i1⟩
  | 15 => ⟨S_, .i32⟩
  | 16 => ⟨S8x20000x4, .f32⟩
  | 17 => ⟨S_, .i32⟩
  | 18 => ⟨S8x20000, .f32⟩
  | 19 => ⟨S300x8, .i32⟩
  | 20 => ⟨S300x8, .i1⟩
  | 21 => ⟨S_, .i32⟩
  | 22 => ⟨S_, .i1⟩
  | 23 => ⟨S8x1, .f32⟩
  | 24 => ⟨S8x1, .i32⟩
  | 25 => ⟨S8x1x1, .i32⟩
  | 26 => ⟨S8x1x4, .f32⟩
  | 27 => ⟨S8x1x1, .f32⟩
  | 28 => ⟨S8x1, .f32⟩
  | 29 => ⟨S8x20000x1, .f32⟩
  | 30 => ⟨S8x20000, .f32⟩
  | 31 => ⟨S8x20000, .f32⟩
  | 32 => ⟨S8x20000, .f32⟩
  | 33 => ⟨S8x1x1, .f32⟩
  | 34 => ⟨S8x1, .f32⟩
  | 35 => ⟨S8x20000x1, .f32⟩
  | 36 => ⟨S8x20000, .f32⟩
  | 37 => ⟨S8x20000, .f32⟩
  | 38 => ⟨S8x20000, .f32⟩
  | 39 => ⟨S8x1x1, .f32⟩
  | 40 => ⟨S8x1, .f32⟩
  | 41 => ⟨S8x20000x1, .f32⟩
  | 42 => ⟨S8x20000, .f32⟩
  | 43 => ⟨S8x20000, .f32⟩
  | 44 => ⟨S8x20000, .f32⟩
  | 45 => ⟨S8x1x1, .f32⟩
  | 46 => ⟨S8x1, .f32⟩
  | 47 => ⟨S8x20000x1, .f32⟩
  | 48 => ⟨S8x20000, .f32⟩
  | 49 => ⟨S8x20000, .f32⟩
  | 50 => ⟨S8x20000, .f32⟩
  | 51 => ⟨S8x20000, .f32⟩
  | 52 => ⟨S_, .f32⟩
  | 53 => ⟨S8x20000, .f32⟩
  | 54 => ⟨S8x20000, .f32⟩
  | 55 => ⟨S8x20000, .f32⟩
  | 56 => ⟨S_, .f32⟩
  | 57 => ⟨S8x20000, .f32⟩
  | 58 => ⟨S8x20000, .f32⟩
  | 59 => ⟨S8x20000, .f32⟩
  | 60 => ⟨S8x1x1, .f32⟩
  | 61 => ⟨S8x1, .f32⟩
  | 62 => ⟨S8x1x1, .f32⟩
  | 63 => ⟨S8x1, .f32⟩
  | 64 => ⟨S8x1, .f32⟩
  | 65 => ⟨S8x1x1, .f32⟩
  | 66 => ⟨S8x1, .f32⟩
  | 67 => ⟨S8x1x1, .f32⟩
  | 68 => ⟨S8x1, .f32⟩
  | 69 => ⟨S8x1, .f32⟩
  | 70 => ⟨S8x1, .f32⟩
  | 71 => ⟨S8x20000x1, .f32⟩
  | 72 => ⟨S8x20000, .f32⟩
  | 73 => ⟨S8x20000x1, .f32⟩
  | 74 => ⟨S8x20000, .f32⟩
  | 75 => ⟨S8x20000, .f32⟩
  | 76 => ⟨S8x20000x1, .f32⟩
  | 77 => ⟨S8x20000, .f32⟩
  | 78 => ⟨S8x20000x1, .f32⟩
  | 79 => ⟨S8x20000, .f32⟩
  | 80 => ⟨S8x20000, .f32⟩
  | 81 => ⟨S8x20000, .f32⟩
  | 82 => ⟨S8x20000, .f32⟩
  | 83 => ⟨S8x20000, .f32⟩
  | 84 => ⟨S8x20000, .f32⟩
  | 85 => ⟨S_, .f32⟩
  | 86 => ⟨S8x20000, .f32⟩
  | 87 => ⟨S8x20000, .f32⟩
  | 88 => ⟨S8x20000, .f32⟩
  | 89 => ⟨S_, .f32⟩
  | 90 => ⟨S8x20000, .f32⟩
  | 91 => ⟨S8x20000, .i1⟩
  | 92 => ⟨S_, .f32⟩
  | 93 => ⟨S_, .f32⟩
  | 94 => ⟨S8x20000, .f32⟩
  | 95 => ⟨S8x20000, .f32⟩
  | 96 => ⟨S20000, .i32⟩
  | 97 => ⟨S1x20000, .i32⟩
  | 98 => ⟨S8x20000, .i32⟩
  | 99 => ⟨S8x20000, .i32⟩
  | 100 => ⟨S8x20000, .i1⟩
  | 101 => ⟨S_, .f32⟩
  | 102 => ⟨S_, .f32⟩
  | 103 => ⟨S8x20000, .f32⟩
  | 104 => ⟨S8x20000, .f32⟩
  | 105 => ⟨S8, .i32⟩
  | 106 => ⟨S8, .f32⟩
  | 107 => ⟨S_, .f32⟩
  | 108 => ⟨S8, .f32⟩
  | 109 => ⟨S8, .i1⟩
  | 110 => ⟨S1x8, .i32⟩
  | 111 => ⟨S_, .i32⟩
  | 112 => ⟨S300x8, .i32⟩
  | 113 => ⟨S1x8, .i1⟩
  | 114 => ⟨S_, .i32⟩
  | 115 => ⟨S300x8, .i1⟩
  | 116 => ⟨S_, .i32⟩
  | 117 => ⟨S_, .i32⟩
  | 118 => ⟨S8x300, .i32⟩
  | 119 => ⟨S8x300, .i1⟩
  | 120 => ⟨S8x20000x1, .f32⟩
  | 121 => ⟨S8x20000x1, .i32⟩
  | 122 => ⟨S8x20000, .i32⟩
  | 123 => ⟨S8x300x1, .i32⟩
  | 124 => ⟨S8x300, .i32⟩
  | 125 => ⟨S8x300x1, .i32⟩
  | 126 => ⟨S8x300x80, .f32⟩
  | 127 => ⟨S8x300x1, .i32⟩
  | _ => ⟨S8x20000x4, .f32⟩

abbrev hbmTy0_1 (i : Nat) : BufTy := match i % 128 with
  | 0 => ⟨S8x300x1x1, .i32⟩
  | 1 => ⟨S8x300x1, .f32⟩
  | 2 => ⟨S8x300, .f32⟩
  | 3 => ⟨S_, .f32⟩
  | 4 => ⟨S_, .f32⟩
  | 5 => ⟨S8x300, .f32⟩
  | 6 => ⟨S8x300, .f32⟩
  | 7 => ⟨S8x300, .f32⟩
  | 8 => ⟨S8x300, .i32⟩
  | 9 => ⟨S8x300x1, .i32⟩
  | 10 => ⟨S8x300, .i32⟩
  | 11 => ⟨S8x300x1, .i32⟩
  | 12 => ⟨S8x300, .i1⟩
  | 13 => ⟨S8x300x1, .i1⟩
  | 14 => ⟨S8x300x1, .i32⟩
  | 15 => ⟨S8x300x4, .f32⟩
  | 16 => ⟨S_, .f32⟩
  | 17 => ⟨S_, .f32⟩
  | 18 => ⟨S8x300x4, .i1⟩
  | 19 => ⟨S8x300x4, .f32⟩
  | 20 => ⟨S8x300x4, .f32⟩
  | 21 => ⟨S_, .f32⟩
  | 22 => ⟨S_, .f32⟩
  | 23 => ⟨S8x300, .f32⟩
  | 24 => ⟨S8x300, .f32⟩
  | 25 => ⟨S8x300x1, .i32⟩
  | 26 => ⟨S8x300, .i32⟩
  | 27 => ⟨S_, .i32⟩
  | 28 => ⟨S_, .i32⟩
  | 29 => ⟨S8x300, .i32⟩
  | 30 => ⟨S8x300, .i32⟩
  | _ => ⟨S8x20000x4, .f32⟩

abbrev hbmTy (i : Nat) : BufTy := match i / 128 with
  | 0 => hbmTy0_0 i
  | 1 => hbmTy0_1 i
  | _ => ⟨S8x20000x4, .f32⟩

abbrev bufTy : (tb : Table) → Fin (tcTables nBuf tb) → BufTy
  | .hbm, ⟨i, _⟩ => hbmTy i
  | _, _ => ⟨S8x20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_c_2 : Ref sig .tc := ⟨.hbm, 13, rfl⟩
abbrev main_v5 : Ref sig .tc := ⟨.hbm, 14, rfl⟩
abbrev main_c_3 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev main_while0c_c_14 : Ref sig .tc := ⟨.hbm, 21, rfl⟩
abbrev main_while0c_v31 : Ref sig .tc := ⟨.hbm, 22, rfl⟩
abbrev main_while0b_values_14 : Ref sig .tc := ⟨.hbm, 23, rfl⟩
abbrev main_while0b_indices_15 : Ref sig .tc := ⟨.hbm, 24, rfl⟩
abbrev main_while0b_v31 : Ref sig .tc := ⟨.hbm, 25, rfl⟩
abbrev main_while0b_v32 : Ref sig .tc := ⟨.hbm, 26, rfl⟩
abbrev main_while0b_v33 : Ref sig .tc := ⟨.hbm, 27, rfl⟩
abbrev main_while0b_v34 : Ref sig .tc := ⟨.hbm, 28, rfl⟩
abbrev main_while0b_v35 : Ref sig .tc := ⟨.hbm, 29, rfl⟩
abbrev main_while0b_v36 : Ref sig .tc := ⟨.hbm, 30, rfl⟩
abbrev main_while0b_v37 : Ref sig .tc := ⟨.hbm, 31, rfl⟩
abbrev main_while0b_v38 : Ref sig .tc := ⟨.hbm, 32, rfl⟩
abbrev main_while0b_v39 : Ref sig .tc := ⟨.hbm, 33, rfl⟩
abbrev main_while0b_v40 : Ref sig .tc := ⟨.hbm, 34, rfl⟩
abbrev main_while0b_v41 : Ref sig .tc := ⟨.hbm, 35, rfl⟩
abbrev main_while0b_v42 : Ref sig .tc := ⟨.hbm, 36, rfl⟩
abbrev main_while0b_v43 : Ref sig .tc := ⟨.hbm, 37, rfl⟩
abbrev main_while0b_v44 : Ref sig .tc := ⟨.hbm, 38, rfl⟩
abbrev main_while0b_v45 : Ref sig .tc := ⟨.hbm, 39, rfl⟩
abbrev main_while0b_v46 : Ref sig .tc := ⟨.hbm, 40, rfl⟩
abbrev main_while0b_v47 : Ref sig .tc := ⟨.hbm, 41, rfl⟩
abbrev main_while0b_v48 : Ref sig .tc := ⟨.hbm, 42, rfl⟩
abbrev main_while0b_v49 : Ref sig .tc := ⟨.hbm, 43, rfl⟩
abbrev main_while0b_v50 : Ref sig .tc := ⟨.hbm, 44, rfl⟩
abbrev main_while0b_v51 : Ref sig .tc := ⟨.hbm, 45, rfl⟩
abbrev main_while0b_v52 : Ref sig .tc := ⟨.hbm, 46, rfl⟩
abbrev main_while0b_v53 : Ref sig .tc := ⟨.hbm, 47, rfl⟩
abbrev main_while0b_v54 : Ref sig .tc := ⟨.hbm, 48, rfl⟩
abbrev main_while0b_v55 : Ref sig .tc := ⟨.hbm, 49, rfl⟩
abbrev main_while0b_v56 : Ref sig .tc := ⟨.hbm, 50, rfl⟩
abbrev main_while0b_v57 : Ref sig .tc := ⟨.hbm, 51, rfl⟩
abbrev main_while0b_cst_16 : Ref sig .tc := ⟨.hbm, 52, rfl⟩
abbrev main_while0b_v58 : Ref sig .tc := ⟨.hbm, 53, rfl⟩
abbrev main_while0b_v59 : Ref sig .tc := ⟨.hbm, 54, rfl⟩
abbrev main_while0b_v60 : Ref sig .tc := ⟨.hbm, 55, rfl⟩
abbrev main_while0b_cst_17 : Ref sig .tc := ⟨.hbm, 56, rfl⟩
abbrev main_while0b_v61 : Ref sig .tc := ⟨.hbm, 57, rfl⟩
abbrev main_while0b_v62 : Ref sig .tc := ⟨.hbm, 58, rfl⟩
abbrev main_while0b_v63 : Ref sig .tc := ⟨.hbm, 59, rfl⟩
abbrev main_while0b_v64 : Ref sig .tc := ⟨.hbm, 60, rfl⟩
abbrev main_while0b_v65 : Ref sig .tc := ⟨.hbm, 61, rfl⟩
abbrev main_while0b_v66 : Ref sig .tc := ⟨.hbm, 62, rfl⟩
abbrev main_while0b_v67 : Ref sig .tc := ⟨.hbm, 63, rfl⟩
abbrev main_while0b_v68 : Ref sig .tc := ⟨.hbm, 64, rfl⟩
abbrev main_while0b_v69 : Ref sig .tc := ⟨.hbm, 65, rfl⟩
abbrev main_while0b_v70 : Ref sig .tc := ⟨.hbm, 66, rfl⟩
abbrev main_while0b_v71 : Ref sig .tc := ⟨.hbm, 67, rfl⟩
abbrev main_while0b_v72 : Ref sig .tc := ⟨.hbm, 68, rfl⟩
abbrev main_while0b_v73 : Ref sig .tc := ⟨.hbm, 69, rfl⟩
abbrev main_while0b_v74 : Ref sig .tc := ⟨.hbm, 70, rfl⟩
abbrev main_while0b_v75 : Ref sig .tc := ⟨.hbm, 71, rfl⟩
abbrev main_while0b_v76 : Ref sig .tc := ⟨.hbm, 72, rfl⟩
abbrev main_while0b_v77 : Ref sig .tc := ⟨.hbm, 73, rfl⟩
abbrev main_while0b_v78 : Ref sig .tc := ⟨.hbm, 74, rfl⟩
abbrev main_while0b_v79 : Ref sig .tc := ⟨.hbm, 75, rfl⟩
abbrev main_while0b_v80 : Ref sig .tc := ⟨.hbm, 76, rfl⟩
abbrev main_while0b_v81 : Ref sig .tc := ⟨.hbm, 77, rfl⟩
abbrev main_while0b_v82 : Ref sig .tc := ⟨.hbm, 78, rfl⟩
abbrev main_while0b_v83 : Ref sig .tc := ⟨.hbm, 79, rfl⟩
abbrev main_while0b_v84 : Ref sig .tc := ⟨.hbm, 80, rfl⟩
abbrev main_while0b_v85 : Ref sig .tc := ⟨.hbm, 81, rfl⟩
abbrev main_while0b_v86 : Ref sig .tc := ⟨.hbm, 82, rfl⟩
abbrev main_while0b_v87 : Ref sig .tc := ⟨.hbm, 83, rfl⟩
abbrev main_while0b_v88 : Ref sig .tc := ⟨.hbm, 84, rfl⟩
abbrev main_while0b_cst_18 : Ref sig .tc := ⟨.hbm, 85, rfl⟩
abbrev main_while0b_v89 : Ref sig .tc := ⟨.hbm, 86, rfl⟩
abbrev main_while0b_v90 : Ref sig .tc := ⟨.hbm, 87, rfl⟩
abbrev main_while0b_v91 : Ref sig .tc := ⟨.hbm, 88, rfl⟩
abbrev main_while0b_cst_19 : Ref sig .tc := ⟨.hbm, 89, rfl⟩
abbrev main_while0b_v92 : Ref sig .tc := ⟨.hbm, 90, rfl⟩
abbrev main_while0b_v93 : Ref sig .tc := ⟨.hbm, 91, rfl⟩
abbrev main_while0b_cst_20 : Ref sig .tc := ⟨.hbm, 92, rfl⟩
abbrev main_while0b_call1_v0 : Ref sig .tc := ⟨.hbm, 93, rfl⟩
abbrev main_while0b_call1_v1 : Ref sig .tc := ⟨.hbm, 94, rfl⟩
abbrev main_while0b_v94 : Ref sig .tc := ⟨.hbm, 95, rfl⟩
abbrev main_while0b_v95 : Ref sig .tc := ⟨.hbm, 96, rfl⟩
abbrev main_while0b_v96 : Ref sig .tc := ⟨.hbm, 97, rfl⟩
abbrev main_while0b_v97 : Ref sig .tc := ⟨.hbm, 98, rfl⟩
abbrev main_while0b_v98 : Ref sig .tc := ⟨.hbm, 99, rfl⟩
abbrev main_while0b_v99 : Ref sig .tc := ⟨.hbm, 100, rfl⟩
abbrev main_while0b_cst_21 : Ref sig .tc := ⟨.hbm, 101, rfl⟩
abbrev main_while0b_call2_v0 : Ref sig .tc := ⟨.hbm, 102, rfl⟩
abbrev main_while0b_call2_v1 : Ref sig .tc := ⟨.hbm, 103, rfl⟩
abbrev main_while0b_v100 : Ref sig .tc := ⟨.hbm, 104, rfl⟩
abbrev main_while0b_v101 : Ref sig .tc := ⟨.hbm, 105, rfl⟩
abbrev main_while0b_v102 : Ref sig .tc := ⟨.hbm, 106, rfl⟩
abbrev main_while0b_cst_22 : Ref sig .tc := ⟨.hbm, 107, rfl⟩
abbrev main_while0b_v103 : Ref sig .tc := ⟨.hbm, 108, rfl⟩
abbrev main_while0b_v104 : Ref sig .tc := ⟨.hbm, 109, rfl⟩
abbrev main_while0b_call3_v0 : Ref sig .tc := ⟨.hbm, 110, rfl⟩
abbrev main_while0b_call3_c : Ref sig .tc := ⟨.hbm, 111, rfl⟩
abbrev main_while0b_v105 : Ref sig .tc := ⟨.hbm, 112, rfl⟩
abbrev main_while0b_call4_v0 : Ref sig .tc := ⟨.hbm, 113, rfl⟩
abbrev main_while0b_call4_c : Ref sig .tc := ⟨.hbm, 114, rfl⟩
abbrev main_while0b_v106 : Ref sig .tc := ⟨.hbm, 115, rfl⟩
abbrev main_while0b_c_23 : Ref sig .tc := ⟨.hbm, 116, rfl⟩
abbrev main_while0b_v107 : Ref sig .tc := ⟨.hbm, 117, rfl⟩
abbrev main_v7 : Ref sig .tc := ⟨.hbm, 118, rfl⟩
abbrev main_v8 : Ref sig .tc := ⟨.hbm, 119, rfl⟩
abbrev main_values : Ref sig .tc := ⟨.hbm, 120, rfl⟩
abbrev main_indices : Ref sig .tc := ⟨.hbm, 121, rfl⟩
abbrev main_v9 : Ref sig .tc := ⟨.hbm, 122, rfl⟩
abbrev main_v10 : Ref sig .tc := ⟨.hbm, 123, rfl⟩
abbrev main_v11 : Ref sig .tc := ⟨.hbm, 124, rfl⟩
abbrev main_v12 : Ref sig .tc := ⟨.hbm, 125, rfl⟩
abbrev main_v13 : Ref sig .tc := ⟨.hbm, 126, rfl⟩
abbrev main_v14 : Ref sig .tc := ⟨.hbm, 127, rfl⟩
abbrev main_v15 : Ref sig .tc := ⟨.hbm, 128, rfl⟩
abbrev main_v16 : Ref sig .tc := ⟨.hbm, 129, rfl⟩
abbrev main_v17 : Ref sig .tc := ⟨.hbm, 130, rfl⟩
abbrev main_cst_4 : Ref sig .tc := ⟨.hbm, 131, rfl⟩
abbrev main_call5_v0 : Ref sig .tc := ⟨.hbm, 132, rfl⟩
abbrev main_call5_v1 : Ref sig .tc := ⟨.hbm, 133, rfl⟩
abbrev main_v18 : Ref sig .tc := ⟨.hbm, 134, rfl⟩
abbrev main_values_5 : Ref sig .tc := ⟨.hbm, 135, rfl⟩
abbrev main_indices_6 : Ref sig .tc := ⟨.hbm, 136, rfl⟩
abbrev main_v19 : Ref sig .tc := ⟨.hbm, 137, rfl⟩
abbrev main_v20 : Ref sig .tc := ⟨.hbm, 138, rfl⟩
abbrev main_v21 : Ref sig .tc := ⟨.hbm, 139, rfl⟩
abbrev main_v22 : Ref sig .tc := ⟨.hbm, 140, rfl⟩
abbrev main_v23 : Ref sig .tc := ⟨.hbm, 141, rfl⟩
abbrev main_v24 : Ref sig .tc := ⟨.hbm, 142, rfl⟩
abbrev main_v25 : Ref sig .tc := ⟨.hbm, 143, rfl⟩
abbrev main_cst_7 : Ref sig .tc := ⟨.hbm, 144, rfl⟩
abbrev main_call6_v0 : Ref sig .tc := ⟨.hbm, 145, rfl⟩
abbrev main_call6_v1 : Ref sig .tc := ⟨.hbm, 146, rfl⟩
abbrev main_call6_v2 : Ref sig .tc := ⟨.hbm, 147, rfl⟩
abbrev main_v26 : Ref sig .tc := ⟨.hbm, 148, rfl⟩
abbrev main_cst_8 : Ref sig .tc := ⟨.hbm, 149, rfl⟩
abbrev main_call7_v0 : Ref sig .tc := ⟨.hbm, 150, rfl⟩
abbrev main_call7_v1 : Ref sig .tc := ⟨.hbm, 151, rfl⟩
abbrev main_v27 : Ref sig .tc := ⟨.hbm, 152, rfl⟩
abbrev main_v28 : Ref sig .tc := ⟨.hbm, 153, rfl⟩
abbrev main_v29 : Ref sig .tc := ⟨.hbm, 154, rfl⟩
abbrev main_c_9 : Ref sig .tc := ⟨.hbm, 155, rfl⟩
abbrev main_call8_v0 : Ref sig .tc := ⟨.hbm, 156, rfl⟩
abbrev main_call8_v1 : Ref sig .tc := ⟨.hbm, 157, rfl⟩
abbrev main_v30 : Ref sig .tc := ⟨.hbm, 158, rfl⟩

abbrev nD : Nat := 1
abbrev τ : Topo := Topo.v7x

variable {F : FTy → Type} [FloatOps F]

abbrev main_while0_count : Scf.Loop 32 := ⟨0#32, 300#32, 1#32⟩
-- ==== Proof.IdealTrip.lean ====
/- One trip of the suppression loop, run once at a symbolic trip number. -/
module

public import proofs.«01_k».proof.Proof.Gen.KernelIdeal
public import proofs.«01_k».proof.Proof.Gen.KernelIdeal.Skeleton
public import proofs.«01_k».proof.Proof.Gen.KernelIdeal.Loops
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra the run is stated at: no counters beside the points-tos. -/
abbrev UU (nD : Nat) (τ : Topo) : Type := UR sig nD τ
/-- No recursion variants. -/
abbrev 𝒱₀ : Variants := Variants.none

local notation "𝕄" => MT nD τ sig Unit (Elt F) ℕ (UU nD τ) ℕ

/-- The four column maxima a trip carries: one for each pair of batches. -/
abbrev Acc (F : FTy → Type) [FloatOps F] : Type :=
  FVec F S2x1x128 .f32 × FVec F S2x1x128 .f32 × FVec F S2x1x128 .f32 × FVec F S2x1x128 .f32

variable (arg0 : Memref sig .tc .vmem S8x160x128 .f32)
  (harg0 : arg0.IsWhole)
  (arg1 : Memref sig .tc .vmem S8x160x128 .i32)
  (harg1 : arg1.IsWhole)
  (arg2 : Memref sig .tc .vmem S8x160x128 .f32)
  (harg2 : arg2.IsWhole)
  (arg3 : Memref sig .tc .vmem S8x160x128 .f32)
  (harg3 : arg3.IsWhole)
  (arg4 : Memref sig .tc .vmem S8x160x128 .f32)
  (harg4 : arg4.IsWhole)
  (arg5 : Memref sig .tc .vmem S8x160x128 .f32)
  (harg5 : arg5.IsWhole)
  (arg6 : Memref sig .tc .vmem S8x300 .f32)
  (harg6 : arg6.IsWhole)
  (arg7 : Memref sig .tc .vmem S8x300 .i32)
  (harg7 : arg7.IsWhole)
  (arg8 : Memref sig .tc .vmem S8x300 .f32)
  (harg8 : arg8.IsWhole)
  (arg9 : Memref sig .tc .vmem S8x300 .f32)
  (harg9 : arg9.IsWhole)
  (arg10 : Memref sig .tc .vmem S8x300 .f32)
  (harg10 : arg10.IsWhole)
  (arg11 : Memref sig .tc .vmem S8x300 .f32)
  (harg11 : arg11.IsWhole)
  (arg12 : Memref sig .tc .vmem S8x160x128 .f32)
  (harg12 : arg12.IsWhole)
  (arg13 : Memref sig .tc .vmem S8x160x128 .f32)
  (harg13 : arg13.IsWhole)
  (v20 : FVec F S2x160x128 .f32)
  (v22 : FVec F S2x160x128 .f32)
  (v24 : FVec F S2x160x128 .f32)
  (v26 : FVec F S2x160x128 .f32)
  (v28 : FVec F S2x160x128 .f32)
  (v30 : FVec F S2x160x128 .f32)
  (v32 : FVec F S2x160x128 .f32)
  (v34 : FVec F S2x160x128 .f32)
  (v36 : FVec F S2x160x128 .f32)
  (v38 : FVec F S2x160x128 .f32)
  (v40 : FVec F S2x160x128 .f32)
  (v42 : FVec F S2x160x128 .f32)
  (v44 : FVec F S2x160x128 .f32)
  (v46 : FVec F S2x160x128 .f32)
  (v48 : FVec F S2x160x128 .f32)
  (v50 : FVec F S2x160x128 .f32)
  (v52 : IVec S2x160x128 32)
  (v54 : IVec S2x160x128 32)
  (v56 : IVec S2x160x128 32)
  (v58 : IVec S2x160x128 32)
  (v59 : Vec F S2x160x128 .f32)
  (v60 : Vec F S2x160x128 .f32)
  (v61 : Vec F S2x160x128 .f32)
  (v62 : Vec F S2x160x128 .f32)
  (v63 : IVec S1x300 32)
  (c1073741824_i32 : BitVec 32)
  (c0_i32 : BitVec 32)
  (c1_i32 : BitVec 32)

/-- The seven buffers a trip writes, each held whole: the six results' tables and the table of scores still
available. -/
abbrev Trip (c : Dev nD) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) : sProp 𝕄 :=
  iprop((arg6.view.loc (c : Thread nD τ) ↦{fullShare} f6) ∗ (arg7.view.loc (c : Thread nD τ) ↦{fullShare} f7) ∗ (arg8.view.loc (c : Thread nD τ) ↦{fullShare} f8) ∗ (arg9.view.loc (c : Thread nD τ) ↦{fullShare} f9) ∗ (arg10.view.loc (c : Thread nD τ) ↦{fullShare} f10) ∗ (arg11.view.loc (c : Thread nD τ) ↦{fullShare} f11) ∗ (arg12.view.loc (c : Thread nD τ) ↦{fullShare} f12))

/-- One trip at a symbolic number `k` and carried values `a15 … a18`: what it carries on, and the pieces it writes into each
buffer. -/
@[irreducible] def trip (c : Dev nD) (k : Fin k1_t1_loop.trips) (a15 a16 a17 a18 : FVec F S2x1x128 .f32)
    (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) :
    Σ' (Y : Acc F) (L6 : List (View.Piece (Elt F) S8x300 .f32)) (L7 : List (View.Piece (Elt F) S8x300 .i32)) (L8 : List (View.Piece (Elt F) S8x300 .f32)) (L9 : List (View.Piece (Elt F) S8x300 .f32)) (L10 : List (View.Piece (Elt F) S8x300 .f32)) (L11 : List (View.Piece (Elt F) S8x300 .f32)), { L12 : List (View.Piece (Elt F) S8x160x128 .f32) //
      Trip arg6 arg7 arg8 arg9 arg10 arg11 arg12 c f6 f7 f8 f9 f10 f11 f12
      ⊢ wp frame (wpE (defs₀ (F := F)) 𝒱₀ (c : Thread nD τ) none) Set.univ (Gen.k1_t1_body (F := F) arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 k (a15, a16, a17, a18))
          (fun yld => iprop(⌜yld = Y⌝ ∗ Trip arg6 arg7 arg8 arg9 arg10 arg11 arg12 c (arg6.view.writes (Elt F) f6 L6) (arg7.view.writes (Elt F) f7 L7) (arg8.view.writes (Elt F) f8 L8) (arg9.view.writes (Elt F) f9 L9) (arg10.view.writes (Elt F) f10 L10) (arg11.view.writes (Elt F) f11 L11) (arg12.view.writes (Elt F) f12 L12))) } := by
  have hk : k.val < 300 := Nat.lt_of_lt_of_le k.isLt (by decide)
  refine ⟨?_, ?_, ?_, ?_, ?_, ?_, ?_, ?_, ?run⟩
  case run =>
    unfold Gen.k1_t1_body
    iintro ⟨H6, H7, H8, H9, H10, H11, H12⟩
    sl_exec_parts
    sl_step
    sl_close

end Cert.Proof.KernelIdeal

end
-- ==== Proof.IdealScore.lean ====
/- The score kernel, run: what it leaves in its two results is the printed arithmetic of its operand. -/
module

public import proofs.«01_k».proof.Proof.IdealTrip
public import Idealize.ShloMosaic.Lib.VecWindow

@[expose] public section

set_option maxRecDepth 65536

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (i : grid0.Coords) (arg2 : Memref sig .tc .vmem S1x4000x80 .f32) (harg2 : arg2.IsWhole)
  (arg3 : Memref sig .tc .vmem S1x4000x1 .f32) (harg3 : arg3.IsWhole)
  (arg4 : Memref sig .tc .vmem S1x4000x1 .i32) (harg4 : arg4.IsWhole)

/-- The score kernel's three buffers with their contents. -/
abbrev HeldS (c : Dev nD) (f2 : arg2.view.ty.Contents (Elt F)) (f3 : arg3.view.ty.Contents (Elt F)) (f4 : arg4.view.ty.Contents (Elt F)) : sProp 𝕄 :=
  iprop((arg2.view.loc (c : Thread nD τ) ↦{fullShare} f2) ∗ (arg3.view.loc (c : Thread nD τ) ↦{fullShare} f3) ∗ (arg4.view.loc (c : Thread nD τ) ↦{fullShare} f4))

/-- What the score kernel leaves in its results, with its run. -/
def score (c : Dev nD) (f2 : arg2.view.ty.Contents (Elt F)) (f3 : arg3.view.ty.Contents (Elt F)) (f4 : arg4.view.ty.Contents (Elt F)) :
    Σ' (W3 : arg3.view.ty.Contents (Elt F)), { W4 : arg4.view.ty.Contents (Elt F) //
      HeldS arg2 arg3 arg4 c f2 f3 f4
      ⊢ wp frame (wpE (defs₀ (F := F)) 𝒱₀ (c : Thread nD τ) none) Set.univ (cc0__score_kernel (F := F) i arg2 harg2 arg3 harg3 arg4 harg4)
          (fun _ => HeldS arg2 arg3 arg4 c f2 W3 W4) } := by
  refine ⟨?_, ?_, ?run⟩
  case run =>
    unfold HeldS
    iintro ⟨H2, H3, H4⟩
    rw [Gen.cc0__score_kernel_eq_skeleton]
    unfold Gen.cc0__score_kernel_skel
    sl_exec_parts
    sl_step
    sl_close

theorem store_whole {e : EltTy} (M : Memref sig .tc .vmem S1x4000x1 e) (f : M.view.ty.Contents (Elt F)) (w : S1x4000x1.Idx → Elt F e) :
    M.view.read (Elt F) (M.view.writes (Elt F) f [⟨Rect.unit (s := S1x4000x1) ![0, 0, 0] S1x4000x1.size Gen.inb_S1x4000x1_S1x4000x1_0_0_0, w⟩]) = w :=
  View.read_writes_full M.view f Gen.inb_S1x4000x1_S1x4000x1_0_0_0 w []

theorem load_whole {e : EltTy} (M : Memref sig .tc .vmem S1x4000x80 e) (f : M.view.ty.Contents (Elt F)) :
    M.view.readAt (Elt F) (Rect.unit (s := S1x4000x80) ![0, 0, 0] S1x4000x80.size Gen.inb_S1x4000x80_S1x4000x80_0_0_0).toLoadRect f = M.view.read (Elt F) f :=
  View.readAt_full M.view f Gen.inb_S1x4000x80_S1x4000x80_0_0_0

/-- The first result: the masked best scores of the operand's rows. -/
theorem score_read3 (c : Dev nD) (f2 : arg2.view.ty.Contents (Elt F)) (f3 : arg3.view.ty.Contents (Elt F)) (f4 : arg4.view.ty.Contents (Elt F)) :
    arg3.view.read (Elt F) (score i arg2 harg2 arg3 harg3 arg4 harg4 c f2 f3 f4).1 = Gen.k0_pay3 (arg2.view.read (Elt F) f2) := by
  unfold score
  dsimp only
  refine (store_whole arg3 f3 _).trans ?_
  rw [load_whole]

/-- The second result: the best classes of the operand's rows. -/
theorem score_read4 (c : Dev nD) (f2 : arg2.view.ty.Contents (Elt F)) (f3 : arg3.view.ty.Contents (Elt F)) (f4 : arg4.view.ty.Contents (Elt F)) :
    arg4.view.read (Elt F) (score i arg2 harg2 arg3 harg3 arg4 harg4 c f2 f3 f4).2.1 = Gen.k0_pay4 (arg2.view.read (Elt F) f2) := by
  unfold score
  dsimp only
  refine (store_whole arg4 f4 _).trans ?_
  rw [load_whole]

end Cert.Proof.KernelIdeal

end
-- ==== Proof.IdealLoop.lean ====
/- The suppression loop: the state before each trip, by recursion on the trips, and the loop's invariant. -/
module

public import proofs.«01_k».proof.Proof.IdealTrip

@[expose] public section

set_option maxRecDepth 16384
set_option maxHeartbeats 4000000

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- What a trip starts from: the four carried column maxima, and the contents of the seven buffers the loop writes. -/
structure St (F : FTy → Type) [FloatOps F] (arg6 : Memref sig .tc .vmem S8x300 .f32) (arg7 : Memref sig .tc .vmem S8x300 .i32) (arg8 : Memref sig .tc .vmem S8x300 .f32) (arg9 : Memref sig .tc .vmem S8x300 .f32) (arg10 : Memref sig .tc .vmem S8x300 .f32) (arg11 : Memref sig .tc .vmem S8x300 .f32) (arg12 : Memref sig .tc .vmem S8x160x128 .f32) where
  a15 : FVec F S2x1x128 .f32
  a16 : FVec F S2x1x128 .f32
  a17 : FVec F S2x1x128 .f32
  a18 : FVec F S2x1x128 .f32
  f6 : arg6.view.ty.Contents (Elt F)
  f7 : arg7.view.ty.Contents (Elt F)
  f8 : arg8.view.ty.Contents (Elt F)
  f9 : arg9.view.ty.Contents (Elt F)
  f10 : arg10.view.ty.Contents (Elt F)
  f11 : arg11.view.ty.Contents (Elt F)
  f12 : arg12.view.ty.Contents (Elt F)

variable (arg0 : Memref sig .tc .vmem S8x160x128 .f32)
  (harg0 : arg0.IsWhole)
  (arg1 : Memref sig .tc .vmem S8x160x128 .i32)
  (harg1 : arg1.IsWhole)
  (arg2 : Memref sig .tc .vmem S8x160x128 .f32)
  (harg2 : arg2.IsWhole)
  (arg3 : Memref sig .tc .vmem S8x160x128 .f32)
  (harg3 : arg3.IsWhole)
  (arg4 : Memref sig .tc .vmem S8x160x128 .f32)
  (harg4 : arg4.IsWhole)
  (arg5 : Memref sig .tc .vmem S8x160x128 .f32)
  (harg5 : arg5.IsWhole)
  (arg6 : Memref sig .tc .vmem S8x300 .f32)
  (harg6 : arg6.IsWhole)
  (arg7 : Memref sig .tc .vmem S8x300 .i32)
  (harg7 : arg7.IsWhole)
  (arg8 : Memref sig .tc .vmem S8x300 .f32)
  (harg8 : arg8.IsWhole)
  (arg9 : Memref sig .tc .vmem S8x300 .f32)
  (harg9 : arg9.IsWhole)
  (arg10 : Memref sig .tc .vmem S8x300 .f32)
  (harg10 : arg10.IsWhole)
  (arg11 : Memref sig .tc .vmem S8x300 .f32)
  (harg11 : arg11.IsWhole)
  (arg12 : Memref sig .tc .vmem S8x160x128 .f32)
  (harg12 : arg12.IsWhole)
  (arg13 : Memref sig .tc .vmem S8x160x128 .f32)
  (harg13 : arg13.IsWhole)
  (v20 : FVec F S2x160x128 .f32)
  (v22 : FVec F S2x160x128 .f32)
  (v24 : FVec F S2x160x128 .f32)
  (v26 : FVec F S2x160x128 .f32)
  (v28 : FVec F S2x160x128 .f32)
  (v30 : FVec F S2x160x128 .f32)
  (v32 : FVec F S2x160x128 .f32)
  (v34 : FVec F S2x160x128 .f32)
  (v36 : FVec F S2x160x128 .f32)
  (v38 : FVec F S2x160x128 .f32)
  (v40 : FVec F S2x160x128 .f32)
  (v42 : FVec F S2x160x128 .f32)
  (v44 : FVec F S2x160x128 .f32)
  (v46 : FVec F S2x160x128 .f32)
  (v48 : FVec F S2x160x128 .f32)
  (v50 : FVec F S2x160x128 .f32)
  (v52 : IVec S2x160x128 32)
  (v54 : IVec S2x160x128 32)
  (v56 : IVec S2x160x128 32)
  (v58 : IVec S2x160x128 32)
  (v59 : Vec F S2x160x128 .f32)
  (v60 : Vec F S2x160x128 .f32)
  (v61 : Vec F S2x160x128 .f32)
  (v62 : Vec F S2x160x128 .f32)
  (v63 : IVec S1x300 32)
  (c1073741824_i32 : BitVec 32)
  (c0_i32 : BitVec 32)
  (c1_i32 : BitVec 32)

/-- The state a trip leaves. -/
def next (c : Dev nD) (k : Fin k1_t1_loop.trips) (s : St F arg6 arg7 arg8 arg9 arg10 arg11 arg12) : St F arg6 arg7 arg8 arg9 arg10 arg11 arg12 where
  a15 := (trip arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c k s.a15 s.a16 s.a17 s.a18 s.f6 s.f7 s.f8 s.f9 s.f10 s.f11 s.f12).1.1
  a16 := (trip arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c k s.a15 s.a16 s.a17 s.a18 s.f6 s.f7 s.f8 s.f9 s.f10 s.f11 s.f12).1.2.1
  a17 := (trip arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c k s.a15 s.a16 s.a17 s.a18 s.f6 s.f7 s.f8 s.f9 s.f10 s.f11 s.f12).1.2.2.1
  a18 := (trip arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c k s.a15 s.a16 s.a17 s.a18 s.f6 s.f7 s.f8 s.f9 s.f10 s.f11 s.f12).1.2.2.2
  f6 := arg6.view.writes (Elt F) s.f6 (trip arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c k s.a15 s.a16 s.a17 s.a18 s.f6 s.f7 s.f8 s.f9 s.f10 s.f11 s.f12).2.1
  f7 := arg7.view.writes (Elt F) s.f7 (trip arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c k s.a15 s.a16 s.a17 s.a18 s.f6 s.f7 s.f8 s.f9 s.f10 s.f11 s.f12).2.2.1
  f8 := arg8.view.writes (Elt F) s.f8 (trip arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c k s.a15 s.a16 s.a17 s.a18 s.f6 s.f7 s.f8 s.f9 s.f10 s.f11 s.f12).2.2.2.1
  f9 := arg9.view.writes (Elt F) s.f9 (trip arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c k s.a15 s.a16 s.a17 s.a18 s.f6 s.f7 s.f8 s.f9 s.f10 s.f11 s.f12).2.2.2.2.1
  f10 := arg10.view.writes (Elt F) s.f10 (trip arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c k s.a15 s.a16 s.a17 s.a18 s.f6 s.f7 s.f8 s.f9 s.f10 s.f11 s.f12).2.2.2.2.2.1
  f11 := arg11.view.writes (Elt F) s.f11 (trip arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c k s.a15 s.a16 s.a17 s.a18 s.f6 s.f7 s.f8 s.f9 s.f10 s.f11 s.f12).2.2.2.2.2.2.1
  f12 := arg12.view.writes (Elt F) s.f12 (trip arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c k s.a15 s.a16 s.a17 s.a18 s.f6 s.f7 s.f8 s.f9 s.f10 s.f11 s.f12).2.2.2.2.2.2.2.1

/-- The state before trip `k`, from the state the loop is entered at. -/
def states (c : Dev nD) (s : St F arg6 arg7 arg8 arg9 arg10 arg11 arg12) : ℕ → St F arg6 arg7 arg8 arg9 arg10 arg11 arg12
  | 0 => s
  | k + 1 => if h : k < k1_t1_loop.trips then next arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c ⟨k, h⟩ (states c s k) else states c s k

/-- One trip takes the state before it to the state before the next. -/
theorem states_succ (c : Dev nD) (s : St F arg6 arg7 arg8 arg9 arg10 arg11 arg12) (k : Fin k1_t1_loop.trips) :
    states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c s (k.val + 1) = next arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c k (states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c s k.val) := by
  rw [states, dif_pos k.isLt]

/-- The sequence `f`, its first term spelt `a`. -/
@[reducible] def start {α : Type} (a : α) (f : ℕ → α) : ℕ → α
  | 0 => a
  | k + 1 => f (k + 1)

/-- Before trip `k` the carried values and the seven buffers are the state before it. -/
abbrev heldAt (c : Dev nD) (g6 : arg6.view.ty.Contents (Elt F)) (g7 : arg7.view.ty.Contents (Elt F)) (g8 : arg8.view.ty.Contents (Elt F)) (g9 : arg9.view.ty.Contents (Elt F)) (g10 : arg10.view.ty.Contents (Elt F)) (g11 : arg11.view.ty.Contents (Elt F)) (g12 : arg12.view.ty.Contents (Elt F)) (init : Acc F) (k : ℕ) (acc : Acc F) : sProp 𝕄 :=
  iprop(⌜acc = ((states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c ⟨init.1, init.2.1, init.2.2.1, init.2.2.2, g6, g7, g8, g9, g10, g11, g12⟩ k).a15, (states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c ⟨init.1, init.2.1, init.2.2.1, init.2.2.2, g6, g7, g8, g9, g10, g11, g12⟩ k).a16, (states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c ⟨init.1, init.2.1, init.2.2.1, init.2.2.2, g6, g7, g8, g9, g10, g11, g12⟩ k).a17, (states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c ⟨init.1, init.2.1, init.2.2.1, init.2.2.2, g6, g7, g8, g9, g10, g11, g12⟩ k).a18)⌝ ∗ (arg6.view.loc (c : Thread nD τ) ↦{fullShare} (states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c ⟨init.1, init.2.1, init.2.2.1, init.2.2.2, g6, g7, g8, g9, g10, g11, g12⟩ k).f6) ∗ (arg7.view.loc (c : Thread nD τ) ↦{fullShare} (states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c ⟨init.1, init.2.1, init.2.2.1, init.2.2.2, g6, g7, g8, g9, g10, g11, g12⟩ k).f7) ∗ (arg8.view.loc (c : Thread nD τ) ↦{fullShare} (states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c ⟨init.1, init.2.1, init.2.2.1, init.2.2.2, g6, g7, g8, g9, g10, g11, g12⟩ k).f8) ∗ (arg9.view.loc (c : Thread nD τ) ↦{fullShare} (states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c ⟨init.1, init.2.1, init.2.2.1, init.2.2.2, g6, g7, g8, g9, g10, g11, g12⟩ k).f9) ∗ (arg10.view.loc (c : Thread nD τ) ↦{fullShare} (states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c ⟨init.1, init.2.1, init.2.2.1, init.2.2.2, g6, g7, g8, g9, g10, g11, g12⟩ k).f10) ∗ (arg11.view.loc (c : Thread nD τ) ↦{fullShare} (states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c ⟨init.1, init.2.1, init.2.2.1, init.2.2.2, g6, g7, g8, g9, g10, g11, g12⟩ k).f11) ∗ (arg12.view.loc (c : Thread nD τ) ↦{fullShare} (states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c ⟨init.1, init.2.1, init.2.2.1, init.2.2.2, g6, g7, g8, g9, g10, g11, g12⟩ k).f12))

/-- The same, the first trip's spelt as what the loop is entered with. -/
abbrev inv (c : Dev nD) (g6 : arg6.view.ty.Contents (Elt F)) (g7 : arg7.view.ty.Contents (Elt F)) (g8 : arg8.view.ty.Contents (Elt F)) (g9 : arg9.view.ty.Contents (Elt F)) (g10 : arg10.view.ty.Contents (Elt F)) (g11 : arg11.view.ty.Contents (Elt F)) (g12 : arg12.view.ty.Contents (Elt F)) (init : Acc F) (k : ℕ) (acc : Acc F) : sProp 𝕄 :=
  iprop(⌜acc = start init (fun k => ((states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c ⟨init.1, init.2.1, init.2.2.1, init.2.2.2, g6, g7, g8, g9, g10, g11, g12⟩ k).a15, (states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c ⟨init.1, init.2.1, init.2.2.1, init.2.2.2, g6, g7, g8, g9, g10, g11, g12⟩ k).a16, (states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c ⟨init.1, init.2.1, init.2.2.1, init.2.2.2, g6, g7, g8, g9, g10, g11, g12⟩ k).a17, (states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c ⟨init.1, init.2.1, init.2.2.1, init.2.2.2, g6, g7, g8, g9, g10, g11, g12⟩ k).a18)) k⌝ ∗ (arg6.view.loc (c : Thread nD τ) ↦{fullShare} start g6 (fun k => (states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c ⟨init.1, init.2.1, init.2.2.1, init.2.2.2, g6, g7, g8, g9, g10, g11, g12⟩ k).f6) k) ∗ (arg7.view.loc (c : Thread nD τ) ↦{fullShare} start g7 (fun k => (states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c ⟨init.1, init.2.1, init.2.2.1, init.2.2.2, g6, g7, g8, g9, g10, g11, g12⟩ k).f7) k) ∗ (arg8.view.loc (c : Thread nD τ) ↦{fullShare} start g8 (fun k => (states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c ⟨init.1, init.2.1, init.2.2.1, init.2.2.2, g6, g7, g8, g9, g10, g11, g12⟩ k).f8) k) ∗ (arg9.view.loc (c : Thread nD τ) ↦{fullShare} start g9 (fun k => (states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c ⟨init.1, init.2.1, init.2.2.1, init.2.2.2, g6, g7, g8, g9, g10, g11, g12⟩ k).f9) k) ∗ (arg10.view.loc (c : Thread nD τ) ↦{fullShare} start g10 (fun k => (states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c ⟨init.1, init.2.1, init.2.2.1, init.2.2.2, g6, g7, g8, g9, g10, g11, g12⟩ k).f10) k) ∗ (arg11.view.loc (c : Thread nD τ) ↦{fullShare} start g11 (fun k => (states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c ⟨init.1, init.2.1, init.2.2.1, init.2.2.2, g6, g7, g8, g9, g10, g11, g12⟩ k).f11) k) ∗ (arg12.view.loc (c : Thread nD τ) ↦{fullShare} start g12 (fun k => (states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c ⟨init.1, init.2.1, init.2.2.1, init.2.2.2, g6, g7, g8, g9, g10, g11, g12⟩ k).f12) k))

/-- The two spellings agree. -/
theorem inv_eq (c : Dev nD) (g6 : arg6.view.ty.Contents (Elt F)) (g7 : arg7.view.ty.Contents (Elt F)) (g8 : arg8.view.ty.Contents (Elt F)) (g9 : arg9.view.ty.Contents (Elt F)) (g10 : arg10.view.ty.Contents (Elt F)) (g11 : arg11.view.ty.Contents (Elt F)) (g12 : arg12.view.ty.Contents (Elt F)) (init : Acc F) (k : ℕ) (acc : Acc F) :
    inv arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c g6 g7 g8 g9 g10 g11 g12 init k acc = heldAt arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c g6 g7 g8 g9 g10 g11 g12 init k acc := by
  cases k <;> rfl

/-- One trip keeps it. -/
theorem heldAt_step (c : Dev nD) (g6 : arg6.view.ty.Contents (Elt F)) (g7 : arg7.view.ty.Contents (Elt F)) (g8 : arg8.view.ty.Contents (Elt F)) (g9 : arg9.view.ty.Contents (Elt F)) (g10 : arg10.view.ty.Contents (Elt F)) (g11 : arg11.view.ty.Contents (Elt F)) (g12 : arg12.view.ty.Contents (Elt F)) (init : Acc F) (k : Fin k1_t1_loop.trips) (acc : Acc F) :
    heldAt arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c g6 g7 g8 g9 g10 g11 g12 init k.val acc
    ⊢ wp frame (wpE (defs₀ (F := F)) 𝒱₀ (c : Thread nD τ) none) Set.univ (Gen.k1_t1_body (F := F) arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 k acc)
        (fun y => heldAt arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c g6 g7 g8 g9 g10 g11 g12 init (k.val + 1) y) := by
  unfold heldAt
  rw [states_succ]
  generalize (states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c ⟨init.1, init.2.1, init.2.2.1, init.2.2.2, g6, g7, g8, g9, g10, g11, g12⟩ k.val) = s
  iintro ⟨%hacc, H6, H7, H8, H9, H10, H11, H12⟩
  subst hacc
  iapply (wp_wand_r frame (wpE (defs₀ (F := F)) 𝒱₀ (c : Thread nD τ) none) (E := Set.univ) (Q := fun yld => iprop(⌜yld = (trip arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c k s.a15 s.a16 s.a17 s.a18 s.f6 s.f7 s.f8 s.f9 s.f10 s.f11 s.f12).1⌝ ∗ Trip arg6 arg7 arg8 arg9 arg10 arg11 arg12 c (arg6.view.writes (Elt F) s.f6 (trip arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c k s.a15 s.a16 s.a17 s.a18 s.f6 s.f7 s.f8 s.f9 s.f10 s.f11 s.f12).2.1) (arg7.view.writes (Elt F) s.f7 (trip arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c k s.a15 s.a16 s.a17 s.a18 s.f6 s.f7 s.f8 s.f9 s.f10 s.f11 s.f12).2.2.1) (arg8.view.writes (Elt F) s.f8 (trip arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c k s.a15 s.a16 s.a17 s.a18 s.f6 s.f7 s.f8 s.f9 s.f10 s.f11 s.f12).2.2.2.1) (arg9.view.writes (Elt F) s.f9 (trip arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c k s.a15 s.a16 s.a17 s.a18 s.f6 s.f7 s.f8 s.f9 s.f10 s.f11 s.f12).2.2.2.2.1) (arg10.view.writes (Elt F) s.f10 (trip arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c k s.a15 s.a16 s.a17 s.a18 s.f6 s.f7 s.f8 s.f9 s.f10 s.f11 s.f12).2.2.2.2.2.1) (arg11.view.writes (Elt F) s.f11 (trip arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c k s.a15 s.a16 s.a17 s.a18 s.f6 s.f7 s.f8 s.f9 s.f10 s.f11 s.f12).2.2.2.2.2.2.1) (arg12.view.writes (Elt F) s.f12 (trip arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c k s.a15 s.a16 s.a17 s.a18 s.f6 s.f7 s.f8 s.f9 s.f10 s.f11 s.f12).2.2.2.2.2.2.2.1))))
  isplitl
  · iapply (trip arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c k s.a15 s.a16 s.a17 s.a18 s.f6 s.f7 s.f8 s.f9 s.f10 s.f11 s.f12).2.2.2.2.2.2.2.2
    unfold Trip
    iframe
  iintro %y ⟨%hy, H6, H7, H8, H9, H10, H11, H12⟩
  subst hy
  unfold next
  isplitr
  · ipureintro; rfl
  iframe

/-- The loop's invariant: every trip keeps it. -/
@[sl_loop] def loopInv_k1_t1 (c : Dev nD) (g6 : arg6.view.ty.Contents (Elt F)) (g7 : arg7.view.ty.Contents (Elt F)) (g8 : arg8.view.ty.Contents (Elt F)) (g9 : arg9.view.ty.Contents (Elt F)) (g10 : arg10.view.ty.Contents (Elt F)) (g11 : arg11.view.ty.Contents (Elt F)) (g12 : arg12.view.ty.Contents (Elt F)) (init : Acc F) :
    Gen.LoopInvTy_k1_t1 (F := F) Unit ℕ (UU nD τ) ℕ 𝒱₀ c none Set.univ arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 init where
  inv := fun k acc => inv arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c g6 g7 g8 g9 g10 g11 g12 init k acc
  step := fun k acc => by
    rw [inv_eq]
    exact heldAt_step arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 c g6 g7 g8 g9 g10 g11 g12 init k acc

end Cert.Proof.KernelIdeal

end
-- ==== Proof.IdealChunk.lean ====
/- One trip of the suppression loop, a pair of batches at a time: the four pairs run the same operations, so what a trip does to the
pair `c` is one function of the pair's rows. -/
module

public import proofs.«01_k».proof.Proof.IdealLoop
public import Idealize.ShloMosaic.Lib.Writes
public import Idealize.ShloMosaic.Lib.Pipeline.Value

@[expose] public section

set_option maxRecDepth 16384
set_option maxHeartbeats 4000000

noncomputable section

namespace Cert.Proof.KernelIdeal

open Cert.KernelIdeal
open Idealize.ShloMosaic Idealize.ShloMosaic.TcCoe

variable {F : FTy → Type} [FloatOps F]

/-- What a pair of batches keeps fixed through the loop: the boxes' corners, the codes and the areas. -/
structure Geo (F : FTy → Type) [FloatOps F] where
  x1 : FVec F S2x160x128 .f32
  y1 : FVec F S2x160x128 .f32
  x2 : FVec F S2x160x128 .f32
  y2 : FVec F S2x160x128 .f32
  code : IVec S2x160x128 32
  area : Vec F S2x160x128 .f32

/-- What a pair of batches carries through the loop: the column maxima and the scores still available. -/
structure Car (F : FTy → Type) [FloatOps F] where
  cm : FVec F S2x1x128 .f32
  av : FVec F S2x160x128 .f32

variable (g : Geo F) (big : BitVec 32) (s : Car F)

/-- The scores a trip leaves available to a pair. -/
def newAv : FVec F S2x160x128 .f32 :=
  Gen.k1_pay12 g.x1 g.y1 g.x2 g.y2 g.area s.av (Gen.k1_pay5 g.code big s.cm s.av) (Gen.k1_pay7 g.x1 g.code big s.cm s.av)
    (Gen.k1_pay8 g.y1 g.code big s.cm s.av)

/-- What a trip carries on for a pair. -/
def nextCar : Car F where
  cm := Gen.k1_pay22 (newAv g big s)
  av := newAv g big s

/-- The carried pair before trip `k`. -/
def carAt (g : Geo F) (big : BitVec 32) (s : Car F) : ℕ → Car F
  | 0 => s
  | k + 1 => nextCar g big (carAt g big s k)

/-- What a trip writes into its column of each of the six results: the score, the label, and the picked box's corners. -/
def outSc : FVec F S2x1 .f32 := Gen.k1_pay18 (Gen.k1_pay3 s.cm) (Gen.k1_pay3 s.cm)
def outLab : IVec S2x1 32 :=
  select (Gen.k1_pay14 (Gen.k1_pay3 s.cm)) (Gen.k1_pay6 g.code big s.cm s.av) (broadcast S2x1 4294967295#32)
def outX1 : FVec F S2x1 .f32 := Gen.k1_pay18 (Gen.k1_pay3 s.cm) (Gen.k1_pay7 g.x1 g.code big s.cm s.av)
def outY1 : FVec F S2x1 .f32 := Gen.k1_pay18 (Gen.k1_pay3 s.cm) (Gen.k1_pay9 (Gen.k1_pay8 g.y1 g.code big s.cm s.av))
def outX2 : FVec F S2x1 .f32 := Gen.k1_pay18 (Gen.k1_pay3 s.cm) (Gen.k1_pay10 g.x2 (Gen.k1_pay5 g.code big s.cm s.av))
def outY2 : FVec F S2x1 .f32 := Gen.k1_pay18 (Gen.k1_pay3 s.cm) (Gen.k1_pay11 g.y2 (Gen.k1_pay5 g.code big s.cm s.av))

/-- A result's rows with the masked column replaced by the trip's values. -/
def upd {α : Type} (cmk : IVec S1x300 1) (val : S2x1.Idx → α) (old : S2x300.Idx → α) : S2x300.Idx → α :=
  select (broadcastTo S2x300 (shapeCast S1x300 cmk Gen.shapeCasts_S1x300_S1x300) Gen.broadcasts_S1x300_S2x300)
    (broadcastTo S2x300 (shapeCast S2x1 val Gen.shapeCasts_S2x1_S2x1) Gen.broadcasts_S2x1_S2x300)
    (shapeCast S2x300 old Gen.shapeCasts_S2x300_S2x300)

/-- The rows of pair `c` in a table of scores. -/
def rd12 (M : Memref sig .tc .vmem S8x160x128 .f32) (c : Fin 4) (f : M.view.ty.Contents (Elt F)) : FVec F S2x160x128 .f32 :=
  match c with
  | 0 => View.readAt (Elt F) M.view (Rect.unit (s := S8x160x128) ![0, 0, 0] S2x160x128.size Gen.inb_S8x160x128_S2x160x128_0_0_0).toLoadRect f
  | 1 => View.readAt (Elt F) M.view (Rect.unit (s := S8x160x128) ![2, 0, 0] S2x160x128.size Gen.inb_S8x160x128_S2x160x128_2_0_0).toLoadRect f
  | 2 => View.readAt (Elt F) M.view (Rect.unit (s := S8x160x128) ![4, 0, 0] S2x160x128.size Gen.inb_S8x160x128_S2x160x128_4_0_0).toLoadRect f
  | 3 => View.readAt (Elt F) M.view (Rect.unit (s := S8x160x128) ![6, 0, 0] S2x160x128.size Gen.inb_S8x160x128_S2x160x128_6_0_0).toLoadRect f

/-- The rows of pair `c` in a result's table. -/
def rdO {e : EltTy} (M : Memref sig .tc .vmem S8x300 e) (c : Fin 4) (f : M.view.ty.Contents (Elt F)) : S2x300.Idx → Elt F e :=
  match c with
  | 0 => View.readAt (Elt F) M.view (Rect.unit (s := S8x300) ![0, 0] S2x300.size Gen.inb_S8x300_S2x300_0_0).toLoadRect f
  | 1 => View.readAt (Elt F) M.view (Rect.unit (s := S8x300) ![2, 0] S2x300.size Gen.inb_S8x300_S2x300_2_0).toLoadRect f
  | 2 => View.readAt (Elt F) M.view (Rect.unit (s := S8x300) ![4, 0] S2x300.size Gen.inb_S8x300_S2x300_4_0).toLoadRect f
  | 3 => View.readAt (Elt F) M.view (Rect.unit (s := S8x300) ![6, 0] S2x300.size Gen.inb_S8x300_S2x300_6_0).toLoadRect f

/-- Reading the rows of a pair after the four pairs' rows were written: the rows written there. -/
theorem rd12_writes (M : Memref sig .tc .vmem S8x160x128 .f32) (f : M.view.ty.Contents (Elt F))
    (p : Fin 4 → FVec F S2x160x128 .f32) (c : Fin 4) :
    rd12 M c (M.view.writes (Elt F) f
      [⟨Rect.unit ![6, 0, 0] S2x160x128.size Gen.inb_S8x160x128_S2x160x128_6_0_0, p 3⟩,
       ⟨Rect.unit ![4, 0, 0] S2x160x128.size Gen.inb_S8x160x128_S2x160x128_4_0_0, p 2⟩,
       ⟨Rect.unit ![2, 0, 0] S2x160x128.size Gen.inb_S8x160x128_S2x160x128_2_0_0, p 1⟩,
       ⟨Rect.unit ![0, 0, 0] S2x160x128.size Gen.inb_S8x160x128_S2x160x128_0_0_0, p 0⟩]) = p c := by
  funext x
  have hx : (x 0).val < 2 := (x 0).isLt
  fin_cases c
  · refine (View.read_writes_cons_miss_of_axis _ _ _ _ _ (0 : Fin 3) 6 2 rfl rfl rfl (.inl ?_)).trans
      ((View.read_writes_cons_miss_of_axis _ _ _ _ _ (0 : Fin 3) 4 2 rfl rfl rfl (.inl ?_)).trans
      ((View.read_writes_cons_miss_of_axis _ _ _ _ _ (0 : Fin 3) 2 2 rfl rfl rfl (.inl ?_)).trans (View.read_writes_cons_emb _ _ (Rect.unit (s := S8x160x128) ![0, 0, 0] S2x160x128.size Gen.inb_S8x160x128_S2x160x128_0_0_0) _ _ x)))
    all_goals show 0 + 1 * (x 0).val < _; omega
  · refine (View.read_writes_cons_miss_of_axis _ _ _ _ _ (0 : Fin 3) 6 2 rfl rfl rfl (.inl ?_)).trans
      ((View.read_writes_cons_miss_of_axis _ _ _ _ _ (0 : Fin 3) 4 2 rfl rfl rfl (.inl ?_)).trans (View.read_writes_cons_emb _ _ (Rect.unit (s := S8x160x128) ![2, 0, 0] S2x160x128.size Gen.inb_S8x160x128_S2x160x128_2_0_0) _ _ x))
    all_goals show 2 + 1 * (x 0).val < _; omega
  · refine (View.read_writes_cons_miss_of_axis _ _ _ _ _ (0 : Fin 3) 6 2 rfl rfl rfl (.inl ?_)).trans (View.read_writes_cons_emb _ _ (Rect.unit (s := S8x160x128) ![4, 0, 0] S2x160x128.size Gen.inb_S8x160x128_S2x160x128_4_0_0) _ _ x)
    show 4 + 1 * (x 0).val < _; omega
  · exact View.read_writes_cons_emb _ _ (Rect.unit (s := S8x160x128) ![6, 0, 0] S2x160x128.size Gen.inb_S8x160x128_S2x160x128_6_0_0) _ _ x

/-- The same for a result's table. -/
theorem rdO_writes {e : EltTy} (M : Memref sig .tc .vmem S8x300 e) (f : M.view.ty.Contents (Elt F))
    (p : Fin 4 → S2x300.Idx → Elt F e) (c : Fin 4) :
    rdO M c (M.view.writes (Elt F) f
      [⟨Rect.unit ![6, 0] S2x300.size Gen.inb_S8x300_S2x300_6_0, p 3⟩,
       ⟨Rect.unit ![4, 0] S2x300.size Gen.inb_S8x300_S2x300_4_0, p 2⟩,
       ⟨Rect.unit ![2, 0] S2x300.size Gen.inb_S8x300_S2x300_2_0, p 1⟩,
       ⟨Rect.unit ![0, 0] S2x300.size Gen.inb_S8x300_S2x300_0_0, p 0⟩]) = p c := by
  funext x
  have hx : (x 0).val < 2 := (x 0).isLt
  fin_cases c
  · refine (View.read_writes_cons_miss_of_axis _ _ _ _ _ (0 : Fin 2) 6 2 rfl rfl rfl (.inl ?_)).trans
      ((View.read_writes_cons_miss_of_axis _ _ _ _ _ (0 : Fin 2) 4 2 rfl rfl rfl (.inl ?_)).trans
      ((View.read_writes_cons_miss_of_axis _ _ _ _ _ (0 : Fin 2) 2 2 rfl rfl rfl (.inl ?_)).trans (View.read_writes_cons_emb _ _ (Rect.unit (s := S8x300) ![0, 0] S2x300.size Gen.inb_S8x300_S2x300_0_0) _ _ x)))
    all_goals show 0 + 1 * (x 0).val < _; omega
  · refine (View.read_writes_cons_miss_of_axis _ _ _ _ _ (0 : Fin 2) 6 2 rfl rfl rfl (.inl ?_)).trans
      ((View.read_writes_cons_miss_of_axis _ _ _ _ _ (0 : Fin 2) 4 2 rfl rfl rfl (.inl ?_)).trans (View.read_writes_cons_emb _ _ (Rect.unit (s := S8x300) ![2, 0] S2x300.size Gen.inb_S8x300_S2x300_2_0) _ _ x))
    all_goals show 2 + 1 * (x 0).val < _; omega
  · refine (View.read_writes_cons_miss_of_axis _ _ _ _ _ (0 : Fin 2) 6 2 rfl rfl rfl (.inl ?_)).trans (View.read_writes_cons_emb _ _ (Rect.unit (s := S8x300) ![4, 0] S2x300.size Gen.inb_S8x300_S2x300_4_0) _ _ x)
    show 4 + 1 * (x 0).val < _; omega
  · exact View.read_writes_cons_emb _ _ (Rect.unit (s := S8x300) ![6, 0] S2x300.size Gen.inb_S8x300_S2x300_6_0) _ _ x

end Cert.Proof.KernelIdeal

end
-- ==== Proof.IdealNext.lean ====
/- One trip of the suppression loop, read pair by pair. -/
module

public import proofs.«01_k».proof.Proof.IdealChunk
public import Idealize.ShloMosaic.Lib.Writes
public import Idealize.ShloMosaic.Lib.Pipeline.Value

@[expose] public section

set_option maxRecDepth 16384
set_option maxHeartbeats 400000

noncomputable section

namespace Cert.Proof.KernelIdeal

open Cert.KernelIdeal
open Idealize.ShloMosaic Idealize.ShloMosaic.TcCoe

variable {F : FTy → Type} [FloatOps F]

variable (arg0 : Memref sig .tc .vmem S8x160x128 .f32)
  (harg0 : arg0.IsWhole)
  (arg1 : Memref sig .tc .vmem S8x160x128 .i32)
  (harg1 : arg1.IsWhole)
  (arg2 : Memref sig .tc .vmem S8x160x128 .f32)
  (harg2 : arg2.IsWhole)
  (arg3 : Memref sig .tc .vmem S8x160x128 .f32)
  (harg3 : arg3.IsWhole)
  (arg4 : Memref sig .tc .vmem S8x160x128 .f32)
  (harg4 : arg4.IsWhole)
  (arg5 : Memref sig .tc .vmem S8x160x128 .f32)
  (harg5 : arg5.IsWhole)
  (arg6 : Memref sig .tc .vmem S8x300 .f32)
  (harg6 : arg6.IsWhole)
  (arg7 : Memref sig .tc .vmem S8x300 .i32)
  (harg7 : arg7.IsWhole)
  (arg8 : Memref sig .tc .vmem S8x300 .f32)
  (harg8 : arg8.IsWhole)
  (arg9 : Memref sig .tc .vmem S8x300 .f32)
  (harg9 : arg9.IsWhole)
  (arg10 : Memref sig .tc .vmem S8x300 .f32)
  (harg10 : arg10.IsWhole)
  (arg11 : Memref sig .tc .vmem S8x300 .f32)
  (harg11 : arg11.IsWhole)
  (arg12 : Memref sig .tc .vmem S8x160x128 .f32)
  (harg12 : arg12.IsWhole)
  (arg13 : Memref sig .tc .vmem S8x160x128 .f32)
  (harg13 : arg13.IsWhole)
  (v20 : FVec F S2x160x128 .f32)
  (v22 : FVec F S2x160x128 .f32)
  (v24 : FVec F S2x160x128 .f32)
  (v26 : FVec F S2x160x128 .f32)
  (v28 : FVec F S2x160x128 .f32)
  (v30 : FVec F S2x160x128 .f32)
  (v32 : FVec F S2x160x128 .f32)
  (v34 : FVec F S2x160x128 .f32)
  (v36 : FVec F S2x160x128 .f32)
  (v38 : FVec F S2x160x128 .f32)
  (v40 : FVec F S2x160x128 .f32)
  (v42 : FVec F S2x160x128 .f32)
  (v44 : FVec F S2x160x128 .f32)
  (v46 : FVec F S2x160x128 .f32)
  (v48 : FVec F S2x160x128 .f32)
  (v50 : FVec F S2x160x128 .f32)
  (v52 : IVec S2x160x128 32)
  (v54 : IVec S2x160x128 32)
  (v56 : IVec S2x160x128 32)
  (v58 : IVec S2x160x128 32)
  (v59 : Vec F S2x160x128 .f32)
  (v60 : Vec F S2x160x128 .f32)
  (v61 : Vec F S2x160x128 .f32)
  (v62 : Vec F S2x160x128 .f32)
  (v63 : IVec S1x300 32)
  (c1073741824_i32 : BitVec 32)
  (c0_i32 : BitVec 32)
  (c1_i32 : BitVec 32)

/-- The fixed values of pair `c`, out of the loop's values. -/
def geoOf (c : Fin 4) : Geo F :=
  match c with
  | 0 => ⟨v20, v28, v36, v44, v52, v59⟩
  | 1 => ⟨v22, v30, v38, v46, v54, v60⟩
  | 2 => ⟨v24, v32, v40, v48, v56, v61⟩
  | 3 => ⟨v26, v34, v42, v50, v58, v62⟩

/-- The carried column maxima of pair `c`, out of the loop's state. -/
def accOf (c : Fin 4) (s : St F arg6 arg7 arg8 arg9 arg10 arg11 arg12) : FVec F S2x1x128 .f32 :=
  match c with
  | 0 => s.a15
  | 1 => s.a16
  | 2 => s.a17
  | 3 => s.a18

/-- The carried values of pair `c`, out of the loop's state. -/
def carOf (c : Fin 4) (s : St F arg6 arg7 arg8 arg9 arg10 arg11 arg12) : Car F :=
  ⟨accOf arg6 arg7 arg8 arg9 arg10 arg11 arg12 c s, rd12 arg12 c s.f12⟩

theorem carOf_ext {c : Fin 4} {s : St F arg6 arg7 arg8 arg9 arg10 arg11 arg12} {x : Car F} (h1 : accOf arg6 arg7 arg8 arg9 arg10 arg11 arg12 c s = x.cm)
    (h2 : rd12 arg12 c s.f12 = x.av) : carOf arg6 arg7 arg8 arg9 arg10 arg11 arg12 c s = x := by
  unfold carOf; rw [h1, h2]

theorem nextCar_av (g : Geo F) (big : BitVec 32) (s : Car F) : newAv g big s = (nextCar g big s).av := rfl

theorem accOf_0 (s : St F arg6 arg7 arg8 arg9 arg10 arg11 arg12) : accOf arg6 arg7 arg8 arg9 arg10 arg11 arg12 0 s = s.a15 := rfl
theorem accOf_1 (s : St F arg6 arg7 arg8 arg9 arg10 arg11 arg12) : accOf arg6 arg7 arg8 arg9 arg10 arg11 arg12 1 s = s.a16 := rfl
theorem accOf_2 (s : St F arg6 arg7 arg8 arg9 arg10 arg11 arg12) : accOf arg6 arg7 arg8 arg9 arg10 arg11 arg12 2 s = s.a17 := rfl
theorem accOf_3 (s : St F arg6 arg7 arg8 arg9 arg10 arg11 arg12) : accOf arg6 arg7 arg8 arg9 arg10 arg11 arg12 3 s = s.a18 := rfl

/-- A statement about every pair, from the four. -/
theorem forall_pairs {P : Fin 4 → Prop} (h0 : P 0) (h1 : P 1) (h2 : P 2) (h3 : P 3) : ∀ c, P c
  | 0 => h0
  | 1 => h1
  | 2 => h2
  | 3 => h3

variable (d : Dev nD) (k : Fin k1_t1_loop.trips) (s : St F arg6 arg7 arg8 arg9 arg10 arg11 arg12)

/-- One trip on pair `c`'s carried values. -/
theorem carOf_next (c : Fin 4) :
    carOf arg6 arg7 arg8 arg9 arg10 arg11 arg12 c (next arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 d k s) = nextCar (geoOf v20 v22 v24 v26 v28 v30 v32 v34 v36 v38 v40 v42 v44 v46 v48 v50 v52 v54 v56 v58 v59 v60 v61 v62 c) c1073741824_i32 (carOf arg6 arg7 arg8 arg9 arg10 arg11 arg12 c s) := by
  have h12 : ∀ c, rd12 arg12 c (next arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 d k s).f12 = newAv (geoOf v20 v22 v24 v26 v28 v30 v32 v34 v36 v38 v40 v42 v44 v46 v48 v50 v52 v54 v56 v58 v59 v60 v61 v62 c) c1073741824_i32 (carOf arg6 arg7 arg8 arg9 arg10 arg11 arg12 c s) := by
    intro c
    refine Eq.trans ?_ (rd12_writes arg12 s.f12 (fun c => newAv (geoOf v20 v22 v24 v26 v28 v30 v32 v34 v36 v38 v40 v42 v44 v46 v48 v50 v52 v54 v56 v58 v59 v60 v61 v62 c) c1073741824_i32 (carOf arg6 arg7 arg8 arg9 arg10 arg11 arg12 c s)) c)
    unfold next trip
    dsimp only [trip.sl.H10_1, trip.sl.H10_2, trip.sl.H10_3, trip.sl.H11_1, trip.sl.H11_2, trip.sl.H11_3, trip.sl.H12_1,
      trip.sl.H12_2, trip.sl.H12_3, trip.sl.H12_4, trip.sl.H6_1, trip.sl.H6_2, trip.sl.H6_3, trip.sl.H6_4, trip.sl.H7_1,
      trip.sl.H7_2, trip.sl.H7_3, trip.sl.H7_4, trip.sl.H8_1, trip.sl.H8_2, trip.sl.H8_3, trip.sl.H9_1, trip.sl.H9_2, trip.sl.H9_3,
      trip.sl.cst_208, trip.sl.r, trip.sl.r_1, trip.sl.r_10, trip.sl.r_11, trip.sl.r_12, trip.sl.r_13, trip.sl.r_14, trip.sl.r_15,
      trip.sl.r_16, trip.sl.r_17, trip.sl.r_18, trip.sl.r_19, trip.sl.r_2, trip.sl.r_20, trip.sl.r_21, trip.sl.r_22, trip.sl.r_23,
      trip.sl.r_24, trip.sl.r_25, trip.sl.r_26, trip.sl.r_27, trip.sl.r_28, trip.sl.r_29, trip.sl.r_3, trip.sl.r_30, trip.sl.r_31,
      trip.sl.r_32, trip.sl.r_33, trip.sl.r_34, trip.sl.r_35, trip.sl.r_36, trip.sl.r_37, trip.sl.r_38, trip.sl.r_39, trip.sl.r_4,
      trip.sl.r_40, trip.sl.r_41, trip.sl.r_42, trip.sl.r_43, trip.sl.r_44, trip.sl.r_45, trip.sl.r_46, trip.sl.r_47, trip.sl.r_48,
      trip.sl.r_49, trip.sl.r_5, trip.sl.r_50, trip.sl.r_51, trip.sl.r_52, trip.sl.r_53, trip.sl.r_54, trip.sl.r_55, trip.sl.r_6,
      trip.sl.r_7, trip.sl.r_8, trip.sl.r_9, trip.sl.v235, trip.sl.v326, trip.sl.v336, trip.sl.v347, trip.sl.v358, trip.sl.v369,
      trip.sl.v380, trip.sl.v390, trip.sl.v481, trip.sl.v491, trip.sl.v502, trip.sl.v513, trip.sl.v524, trip.sl.v535, trip.sl.v545,
      trip.sl.v636, trip.sl.v646, trip.sl.v657, trip.sl.v668, trip.sl.v679, trip.sl.v690]
    refine congrArg (fun L => rd12 arg12 c (arg12.view.writes (Elt F) s.f12 L)) ?_
    refine congr (congrArg List.cons ?_) (congr (congrArg List.cons ?_) (congr (congrArg List.cons ?_) (congr (congrArg List.cons ?_) rfl)))
    all_goals
      refine congrArg (Sigma.mk _) ?_
      refine Eq.trans (shapeCast_self _ _) ?_
      dsimp only [nextCar, geoOf, carOf, accOf, rd12, rdO, newAv, outSc, outLab, outX1, outY1, outX2, outY2, upd, Gen.k1_pay1,
        Gen.k1_pay2, Gen.k1_pay3, Gen.k1_pay4, Gen.k1_pay5, Gen.k1_pay6, Gen.k1_pay7, Gen.k1_pay8, Gen.k1_pay9, Gen.k1_pay10,
        Gen.k1_pay11, Gen.k1_pay12, Gen.k1_pay13, Gen.k1_pay14, Gen.k1_pay15, Gen.k1_pay16, Gen.k1_pay17, Gen.k1_pay18, Gen.k1_pay19,
        Gen.k1_pay20, Gen.k1_pay21, Gen.k1_pay22, Gen.k1_pay23, Gen.k1_pay24, Gen.k1_pay25, Gen.k1_pay26, Gen.k1_pay27, Gen.k1_pay28,
        Gen.k1_pay29, Gen.k1_pay30, Gen.k1_pay31, Gen.k1_pay32, Gen.k1_pay33, Gen.k1_pay34, Gen.k1_pay35, Gen.k1_pay36, Gen.k1_pay37,
        Gen.k1_pay38, Gen.k1_pay39, Gen.k1_pay40, Gen.k1_pay41, Gen.k1_pay42, Gen.k1_pay43, Gen.k1_pay44, Gen.k1_pay45, Gen.k1_pay46,
        Gen.k1_pay47, Gen.k1_pay48, Gen.k1_pay49, Gen.k1_pay50, Gen.k1_pay51, Gen.k1_pay52, Gen.k1_pay53, Gen.k1_pay54, Gen.k1_pay55,
        Gen.k1_pay56, Gen.k1_pay57, Gen.k1_pay58, Gen.k1_pay59, Gen.k1_pay60, Gen.k1_pay61, Gen.k1_pay62, Gen.k1_pay63, Gen.k1_pay64,
        Gen.k1_pay65, Gen.k1_pay66, Gen.k1_pay67, Gen.k1_pay68, Gen.k1_pay69, Gen.k1_pay70, Gen.k1_pay71, Gen.k1_pay72, Gen.k1_pay73,
        Gen.k1_pay74, Gen.k1_pay75, Gen.k1_pay76, Gen.k1_pay77, Gen.k1_pay78, Gen.k1_pay79, Gen.k1_pay80, Gen.k1_pay81, Gen.k1_pay82,
        Gen.k1_pay83, Gen.k1_pay84, Gen.k1_pay85, Gen.k1_pay86, Gen.k1_pay87, Gen.k1_pay88, Gen.k1_pay89, Gen.k1_pay90, Gen.k1_pay91]
  have h15 : (next arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 d k s).a15 = (nextCar (geoOf v20 v22 v24 v26 v28 v30 v32 v34 v36 v38 v40 v42 v44 v46 v48 v50 v52 v54 v56 v58 v59 v60 v61 v62 0) c1073741824_i32 (carOf arg6 arg7 arg8 arg9 arg10 arg11 arg12 0 s)).cm := by
    unfold next trip
    dsimp only [trip.sl.H10_1, trip.sl.H10_2, trip.sl.H10_3, trip.sl.H11_1, trip.sl.H11_2, trip.sl.H11_3, trip.sl.H12_1,
      trip.sl.H12_2, trip.sl.H12_3, trip.sl.H12_4, trip.sl.H6_1, trip.sl.H6_2, trip.sl.H6_3, trip.sl.H6_4, trip.sl.H7_1,
      trip.sl.H7_2, trip.sl.H7_3, trip.sl.H7_4, trip.sl.H8_1, trip.sl.H8_2, trip.sl.H8_3, trip.sl.H9_1, trip.sl.H9_2, trip.sl.H9_3,
      trip.sl.cst_208, trip.sl.r, trip.sl.r_1, trip.sl.r_10, trip.sl.r_11, trip.sl.r_12, trip.sl.r_13, trip.sl.r_14, trip.sl.r_15,
      trip.sl.r_16, trip.sl.r_17, trip.sl.r_18, trip.sl.r_19, trip.sl.r_2, trip.sl.r_20, trip.sl.r_21, trip.sl.r_22, trip.sl.r_23,
      trip.sl.r_24, trip.sl.r_25, trip.sl.r_26, trip.sl.r_27, trip.sl.r_28, trip.sl.r_29, trip.sl.r_3, trip.sl.r_30, trip.sl.r_31,
      trip.sl.r_32, trip.sl.r_33, trip.sl.r_34, trip.sl.r_35, trip.sl.r_36, trip.sl.r_37, trip.sl.r_38, trip.sl.r_39, trip.sl.r_4,
      trip.sl.r_40, trip.sl.r_41, trip.sl.r_42, trip.sl.r_43, trip.sl.r_44, trip.sl.r_45, trip.sl.r_46, trip.sl.r_47, trip.sl.r_48,
      trip.sl.r_49, trip.sl.r_5, trip.sl.r_50, trip.sl.r_51, trip.sl.r_52, trip.sl.r_53, trip.sl.r_54, trip.sl.r_55, trip.sl.r_6,
      trip.sl.r_7, trip.sl.r_8, trip.sl.r_9, trip.sl.v235, trip.sl.v326, trip.sl.v336, trip.sl.v347, trip.sl.v358, trip.sl.v369,
      trip.sl.v380, trip.sl.v390, trip.sl.v481, trip.sl.v491, trip.sl.v502, trip.sl.v513, trip.sl.v524, trip.sl.v535, trip.sl.v545,
      trip.sl.v636, trip.sl.v646, trip.sl.v657, trip.sl.v668, trip.sl.v679, trip.sl.v690]
    dsimp only [nextCar, geoOf, carOf, accOf, rd12, rdO, newAv, outSc, outLab, outX1, outY1, outX2, outY2, upd, Gen.k1_pay1,
      Gen.k1_pay2, Gen.k1_pay3, Gen.k1_pay4, Gen.k1_pay5, Gen.k1_pay6, Gen.k1_pay7, Gen.k1_pay8, Gen.k1_pay9, Gen.k1_pay10,
      Gen.k1_pay11, Gen.k1_pay12, Gen.k1_pay13, Gen.k1_pay14, Gen.k1_pay15, Gen.k1_pay16, Gen.k1_pay17, Gen.k1_pay18, Gen.k1_pay19,
      Gen.k1_pay20, Gen.k1_pay21, Gen.k1_pay22, Gen.k1_pay23, Gen.k1_pay24, Gen.k1_pay25, Gen.k1_pay26, Gen.k1_pay27, Gen.k1_pay28,
      Gen.k1_pay29, Gen.k1_pay30, Gen.k1_pay31, Gen.k1_pay32, Gen.k1_pay33, Gen.k1_pay34, Gen.k1_pay35, Gen.k1_pay36, Gen.k1_pay37,
      Gen.k1_pay38, Gen.k1_pay39, Gen.k1_pay40, Gen.k1_pay41, Gen.k1_pay42, Gen.k1_pay43, Gen.k1_pay44, Gen.k1_pay45, Gen.k1_pay46,
      Gen.k1_pay47, Gen.k1_pay48, Gen.k1_pay49, Gen.k1_pay50, Gen.k1_pay51, Gen.k1_pay52, Gen.k1_pay53, Gen.k1_pay54, Gen.k1_pay55,
      Gen.k1_pay56, Gen.k1_pay57, Gen.k1_pay58, Gen.k1_pay59, Gen.k1_pay60, Gen.k1_pay61, Gen.k1_pay62, Gen.k1_pay63, Gen.k1_pay64,
      Gen.k1_pay65, Gen.k1_pay66, Gen.k1_pay67, Gen.k1_pay68, Gen.k1_pay69, Gen.k1_pay70, Gen.k1_pay71, Gen.k1_pay72, Gen.k1_pay73,
      Gen.k1_pay74, Gen.k1_pay75, Gen.k1_pay76, Gen.k1_pay77, Gen.k1_pay78, Gen.k1_pay79, Gen.k1_pay80, Gen.k1_pay81, Gen.k1_pay82,
      Gen.k1_pay83, Gen.k1_pay84, Gen.k1_pay85, Gen.k1_pay86, Gen.k1_pay87, Gen.k1_pay88, Gen.k1_pay89, Gen.k1_pay90, Gen.k1_pay91]
  have h16 : (next arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 d k s).a16 = (nextCar (geoOf v20 v22 v24 v26 v28 v30 v32 v34 v36 v38 v40 v42 v44 v46 v48 v50 v52 v54 v56 v58 v59 v60 v61 v62 1) c1073741824_i32 (carOf arg6 arg7 arg8 arg9 arg10 arg11 arg12 1 s)).cm := by
    unfold next trip
    dsimp only [trip.sl.H10_1, trip.sl.H10_2, trip.sl.H10_3, trip.sl.H11_1, trip.sl.H11_2, trip.sl.H11_3, trip.sl.H12_1,
      trip.sl.H12_2, trip.sl.H12_3, trip.sl.H12_4, trip.sl.H6_1, trip.sl.H6_2, trip.sl.H6_3, trip.sl.H6_4, trip.sl.H7_1,
      trip.sl.H7_2, trip.sl.H7_3, trip.sl.H7_4, trip.sl.H8_1, trip.sl.H8_2, trip.sl.H8_3, trip.sl.H9_1, trip.sl.H9_2, trip.sl.H9_3,
      trip.sl.cst_208, trip.sl.r, trip.sl.r_1, trip.sl.r_10, trip.sl.r_11, trip.sl.r_12, trip.sl.r_13, trip.sl.r_14, trip.sl.r_15,
      trip.sl.r_16, trip.sl.r_17, trip.sl.r_18, trip.sl.r_19, trip.sl.r_2, trip.sl.r_20, trip.sl.r_21, trip.sl.r_22, trip.sl.r_23,
      trip.sl.r_24, trip.sl.r_25, trip.sl.r_26, trip.sl.r_27, trip.sl.r_28, trip.sl.r_29, trip.sl.r_3, trip.sl.r_30, trip.sl.r_31,
      trip.sl.r_32, trip.sl.r_33, trip.sl.r_34, trip.sl.r_35, trip.sl.r_36, trip.sl.r_37, trip.sl.r_38, trip.sl.r_39, trip.sl.r_4,
      trip.sl.r_40, trip.sl.r_41, trip.sl.r_42, trip.sl.r_43, trip.sl.r_44, trip.sl.r_45, trip.sl.r_46, trip.sl.r_47, trip.sl.r_48,
      trip.sl.r_49, trip.sl.r_5, trip.sl.r_50, trip.sl.r_51, trip.sl.r_52, trip.sl.r_53, trip.sl.r_54, trip.sl.r_55, trip.sl.r_6,
      trip.sl.r_7, trip.sl.r_8, trip.sl.r_9, trip.sl.v235, trip.sl.v326, trip.sl.v336, trip.sl.v347, trip.sl.v358, trip.sl.v369,
      trip.sl.v380, trip.sl.v390, trip.sl.v481, trip.sl.v491, trip.sl.v502, trip.sl.v513, trip.sl.v524, trip.sl.v535, trip.sl.v545,
      trip.sl.v636, trip.sl.v646, trip.sl.v657, trip.sl.v668, trip.sl.v679, trip.sl.v690]
    dsimp only [nextCar, geoOf, carOf, accOf, rd12, rdO, newAv, outSc, outLab, outX1, outY1, outX2, outY2, upd, Gen.k1_pay1,
      Gen.k1_pay2, Gen.k1_pay3, Gen.k1_pay4, Gen.k1_pay5, Gen.k1_pay6, Gen.k1_pay7, Gen.k1_pay8, Gen.k1_pay9, Gen.k1_pay10,
      Gen.k1_pay11, Gen.k1_pay12, Gen.k1_pay13, Gen.k1_pay14, Gen.k1_pay15, Gen.k1_pay16, Gen.k1_pay17, Gen.k1_pay18, Gen.k1_pay19,
      Gen.k1_pay20, Gen.k1_pay21, Gen.k1_pay22, Gen.k1_pay23, Gen.k1_pay24, Gen.k1_pay25, Gen.k1_pay26, Gen.k1_pay27, Gen.k1_pay28,
      Gen.k1_pay29, Gen.k1_pay30, Gen.k1_pay31, Gen.k1_pay32, Gen.k1_pay33, Gen.k1_pay34, Gen.k1_pay35, Gen.k1_pay36, Gen.k1_pay37,
      Gen.k1_pay38, Gen.k1_pay39, Gen.k1_pay40, Gen.k1_pay41, Gen.k1_pay42, Gen.k1_pay43, Gen.k1_pay44, Gen.k1_pay45, Gen.k1_pay46,
      Gen.k1_pay47, Gen.k1_pay48, Gen.k1_pay49, Gen.k1_pay50, Gen.k1_pay51, Gen.k1_pay52, Gen.k1_pay53, Gen.k1_pay54, Gen.k1_pay55,
      Gen.k1_pay56, Gen.k1_pay57, Gen.k1_pay58, Gen.k1_pay59, Gen.k1_pay60, Gen.k1_pay61, Gen.k1_pay62, Gen.k1_pay63, Gen.k1_pay64,
      Gen.k1_pay65, Gen.k1_pay66, Gen.k1_pay67, Gen.k1_pay68, Gen.k1_pay69, Gen.k1_pay70, Gen.k1_pay71, Gen.k1_pay72, Gen.k1_pay73,
      Gen.k1_pay74, Gen.k1_pay75, Gen.k1_pay76, Gen.k1_pay77, Gen.k1_pay78, Gen.k1_pay79, Gen.k1_pay80, Gen.k1_pay81, Gen.k1_pay82,
      Gen.k1_pay83, Gen.k1_pay84, Gen.k1_pay85, Gen.k1_pay86, Gen.k1_pay87, Gen.k1_pay88, Gen.k1_pay89, Gen.k1_pay90, Gen.k1_pay91]
  have h17 : (next arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 d k s).a17 = (nextCar (geoOf v20 v22 v24 v26 v28 v30 v32 v34 v36 v38 v40 v42 v44 v46 v48 v50 v52 v54 v56 v58 v59 v60 v61 v62 2) c1073741824_i32 (carOf arg6 arg7 arg8 arg9 arg10 arg11 arg12 2 s)).cm := by
    unfold next trip
    dsimp only [trip.sl.H10_1, trip.sl.H10_2, trip.sl.H10_3, trip.sl.H11_1, trip.sl.H11_2, trip.sl.H11_3, trip.sl.H12_1,
      trip.sl.H12_2, trip.sl.H12_3, trip.sl.H12_4, trip.sl.H6_1, trip.sl.H6_2, trip.sl.H6_3, trip.sl.H6_4, trip.sl.H7_1,
      trip.sl.H7_2, trip.sl.H7_3, trip.sl.H7_4, trip.sl.H8_1, trip.sl.H8_2, trip.sl.H8_3, trip.sl.H9_1, trip.sl.H9_2, trip.sl.H9_3,
      trip.sl.cst_208, trip.sl.r, trip.sl.r_1, trip.sl.r_10, trip.sl.r_11, trip.sl.r_12, trip.sl.r_13, trip.sl.r_14, trip.sl.r_15,
      trip.sl.r_16, trip.sl.r_17, trip.sl.r_18, trip.sl.r_19, trip.sl.r_2, trip.sl.r_20, trip.sl.r_21, trip.sl.r_22, trip.sl.r_23,
      trip.sl.r_24, trip.sl.r_25, trip.sl.r_26, trip.sl.r_27, trip.sl.r_28, trip.sl.r_29, trip.sl.r_3, trip.sl.r_30, trip.sl.r_31,
      trip.sl.r_32, trip.sl.r_33, trip.sl.r_34, trip.sl.r_35, trip.sl.r_36, trip.sl.r_37, trip.sl.r_38, trip.sl.r_39, trip.sl.r_4,
      trip.sl.r_40, trip.sl.r_41, trip.sl.r_42, trip.sl.r_43, trip.sl.r_44, trip.sl.r_45, trip.sl.r_46, trip.sl.r_47, trip.sl.r_48,
      trip.sl.r_49, trip.sl.r_5, trip.sl.r_50, trip.sl.r_51, trip.sl.r_52, trip.sl.r_53, trip.sl.r_54, trip.sl.r_55, trip.sl.r_6,
      trip.sl.r_7, trip.sl.r_8, trip.sl.r_9, trip.sl.v235, trip.sl.v326, trip.sl.v336, trip.sl.v347, trip.sl.v358, trip.sl.v369,
      trip.sl.v380, trip.sl.v390, trip.sl.v481, trip.sl.v491, trip.sl.v502, trip.sl.v513, trip.sl.v524, trip.sl.v535, trip.sl.v545,
      trip.sl.v636, trip.sl.v646, trip.sl.v657, trip.sl.v668, trip.sl.v679, trip.sl.v690]
    dsimp only [nextCar, geoOf, carOf, accOf, rd12, rdO, newAv, outSc, outLab, outX1, outY1, outX2, outY2, upd, Gen.k1_pay1,
      Gen.k1_pay2, Gen.k1_pay3, Gen.k1_pay4, Gen.k1_pay5, Gen.k1_pay6, Gen.k1_pay7, Gen.k1_pay8, Gen.k1_pay9, Gen.k1_pay10,
      Gen.k1_pay11, Gen.k1_pay12, Gen.k1_pay13, Gen.k1_pay14, Gen.k1_pay15, Gen.k1_pay16, Gen.k1_pay17, Gen.k1_pay18, Gen.k1_pay19,
      Gen.k1_pay20, Gen.k1_pay21, Gen.k1_pay22, Gen.k1_pay23, Gen.k1_pay24, Gen.k1_pay25, Gen.k1_pay26, Gen.k1_pay27, Gen.k1_pay28,
      Gen.k1_pay29, Gen.k1_pay30, Gen.k1_pay31, Gen.k1_pay32, Gen.k1_pay33, Gen.k1_pay34, Gen.k1_pay35, Gen.k1_pay36, Gen.k1_pay37,
      Gen.k1_pay38, Gen.k1_pay39, Gen.k1_pay40, Gen.k1_pay41, Gen.k1_pay42, Gen.k1_pay43, Gen.k1_pay44, Gen.k1_pay45, Gen.k1_pay46,
      Gen.k1_pay47, Gen.k1_pay48, Gen.k1_pay49, Gen.k1_pay50, Gen.k1_pay51, Gen.k1_pay52, Gen.k1_pay53, Gen.k1_pay54, Gen.k1_pay55,
      Gen.k1_pay56, Gen.k1_pay57, Gen.k1_pay58, Gen.k1_pay59, Gen.k1_pay60, Gen.k1_pay61, Gen.k1_pay62, Gen.k1_pay63, Gen.k1_pay64,
      Gen.k1_pay65, Gen.k1_pay66, Gen.k1_pay67, Gen.k1_pay68, Gen.k1_pay69, Gen.k1_pay70, Gen.k1_pay71, Gen.k1_pay72, Gen.k1_pay73,
      Gen.k1_pay74, Gen.k1_pay75, Gen.k1_pay76, Gen.k1_pay77, Gen.k1_pay78, Gen.k1_pay79, Gen.k1_pay80, Gen.k1_pay81, Gen.k1_pay82,
      Gen.k1_pay83, Gen.k1_pay84, Gen.k1_pay85, Gen.k1_pay86, Gen.k1_pay87, Gen.k1_pay88, Gen.k1_pay89, Gen.k1_pay90, Gen.k1_pay91]
  have h18 : (next arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 d k s).a18 = (nextCar (geoOf v20 v22 v24 v26 v28 v30 v32 v34 v36 v38 v40 v42 v44 v46 v48 v50 v52 v54 v56 v58 v59 v60 v61 v62 3) c1073741824_i32 (carOf arg6 arg7 arg8 arg9 arg10 arg11 arg12 3 s)).cm := by
    unfold next trip
    dsimp only [trip.sl.H10_1, trip.sl.H10_2, trip.sl.H10_3, trip.sl.H11_1, trip.sl.H11_2, trip.sl.H11_3, trip.sl.H12_1,
      trip.sl.H12_2, trip.sl.H12_3, trip.sl.H12_4, trip.sl.H6_1, trip.sl.H6_2, trip.sl.H6_3, trip.sl.H6_4, trip.sl.H7_1,
      trip.sl.H7_2, trip.sl.H7_3, trip.sl.H7_4, trip.sl.H8_1, trip.sl.H8_2, trip.sl.H8_3, trip.sl.H9_1, trip.sl.H9_2, trip.sl.H9_3,
      trip.sl.cst_208, trip.sl.r, trip.sl.r_1, trip.sl.r_10, trip.sl.r_11, trip.sl.r_12, trip.sl.r_13, trip.sl.r_14, trip.sl.r_15,
      trip.sl.r_16, trip.sl.r_17, trip.sl.r_18, trip.sl.r_19, trip.sl.r_2, trip.sl.r_20, trip.sl.r_21, trip.sl.r_22, trip.sl.r_23,
      trip.sl.r_24, trip.sl.r_25, trip.sl.r_26, trip.sl.r_27, trip.sl.r_28, trip.sl.r_29, trip.sl.r_3, trip.sl.r_30, trip.sl.r_31,
      trip.sl.r_32, trip.sl.r_33, trip.sl.r_34, trip.sl.r_35, trip.sl.r_36, trip.sl.r_37, trip.sl.r_38, trip.sl.r_39, trip.sl.r_4,
      trip.sl.r_40, trip.sl.r_41, trip.sl.r_42, trip.sl.r_43, trip.sl.r_44, trip.sl.r_45, trip.sl.r_46, trip.sl.r_47, trip.sl.r_48,
      trip.sl.r_49, trip.sl.r_5, trip.sl.r_50, trip.sl.r_51, trip.sl.r_52, trip.sl.r_53, trip.sl.r_54, trip.sl.r_55, trip.sl.r_6,
      trip.sl.r_7, trip.sl.r_8, trip.sl.r_9, trip.sl.v235, trip.sl.v326, trip.sl.v336, trip.sl.v347, trip.sl.v358, trip.sl.v369,
      trip.sl.v380, trip.sl.v390, trip.sl.v481, trip.sl.v491, trip.sl.v502, trip.sl.v513, trip.sl.v524, trip.sl.v535, trip.sl.v545,
      trip.sl.v636, trip.sl.v646, trip.sl.v657, trip.sl.v668, trip.sl.v679, trip.sl.v690]
    dsimp only [nextCar, geoOf, carOf, accOf, rd12, rdO, newAv, outSc, outLab, outX1, outY1, outX2, outY2, upd, Gen.k1_pay1,
      Gen.k1_pay2, Gen.k1_pay3, Gen.k1_pay4, Gen.k1_pay5, Gen.k1_pay6, Gen.k1_pay7, Gen.k1_pay8, Gen.k1_pay9, Gen.k1_pay10,
      Gen.k1_pay11, Gen.k1_pay12, Gen.k1_pay13, Gen.k1_pay14, Gen.k1_pay15, Gen.k1_pay16, Gen.k1_pay17, Gen.k1_pay18, Gen.k1_pay19,
      Gen.k1_pay20, Gen.k1_pay21, Gen.k1_pay22, Gen.k1_pay23, Gen.k1_pay24, Gen.k1_pay25, Gen.k1_pay26, Gen.k1_pay27, Gen.k1_pay28,
      Gen.k1_pay29, Gen.k1_pay30, Gen.k1_pay31, Gen.k1_pay32, Gen.k1_pay33, Gen.k1_pay34, Gen.k1_pay35, Gen.k1_pay36, Gen.k1_pay37,
      Gen.k1_pay38, Gen.k1_pay39, Gen.k1_pay40, Gen.k1_pay41, Gen.k1_pay42, Gen.k1_pay43, Gen.k1_pay44, Gen.k1_pay45, Gen.k1_pay46,
      Gen.k1_pay47, Gen.k1_pay48, Gen.k1_pay49, Gen.k1_pay50, Gen.k1_pay51, Gen.k1_pay52, Gen.k1_pay53, Gen.k1_pay54, Gen.k1_pay55,
      Gen.k1_pay56, Gen.k1_pay57, Gen.k1_pay58, Gen.k1_pay59, Gen.k1_pay60, Gen.k1_pay61, Gen.k1_pay62, Gen.k1_pay63, Gen.k1_pay64,
      Gen.k1_pay65, Gen.k1_pay66, Gen.k1_pay67, Gen.k1_pay68, Gen.k1_pay69, Gen.k1_pay70, Gen.k1_pay71, Gen.k1_pay72, Gen.k1_pay73,
      Gen.k1_pay74, Gen.k1_pay75, Gen.k1_pay76, Gen.k1_pay77, Gen.k1_pay78, Gen.k1_pay79, Gen.k1_pay80, Gen.k1_pay81, Gen.k1_pay82,
      Gen.k1_pay83, Gen.k1_pay84, Gen.k1_pay85, Gen.k1_pay86, Gen.k1_pay87, Gen.k1_pay88, Gen.k1_pay89, Gen.k1_pay90, Gen.k1_pay91]
  have hcm : accOf arg6 arg7 arg8 arg9 arg10 arg11 arg12 c (next arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 d k s) = (nextCar (geoOf v20 v22 v24 v26 v28 v30 v32 v34 v36 v38 v40 v42 v44 v46 v48 v50 v52 v54 v56 v58 v59 v60 v61 v62 c) c1073741824_i32 (carOf arg6 arg7 arg8 arg9 arg10 arg11 arg12 c s)).cm := by
    revert c
    refine forall_pairs ?_ ?_ ?_ ?_
    · exact (accOf_0 ..).trans h15
    · exact (accOf_1 ..).trans h16
    · exact (accOf_2 ..).trans h17
    · exact (accOf_3 ..).trans h18
  exact carOf_ext arg6 arg7 arg8 arg9 arg10 arg11 arg12 hcm ((h12 c).trans (nextCar_av ..))

theorem rdO_next6 (c : Fin 4) :
    rdO arg6 c (next arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 d k s).f6 = upd (Gen.k1_pay2 v63 c0_i32 c1_i32 k) (outSc (carOf arg6 arg7 arg8 arg9 arg10 arg11 arg12 c s)) (rdO arg6 c s.f6) := by
  refine Eq.trans ?_ (rdO_writes arg6 s.f6 (fun c => upd (Gen.k1_pay2 v63 c0_i32 c1_i32 k) (outSc (carOf arg6 arg7 arg8 arg9 arg10 arg11 arg12 c s)) (rdO arg6 c s.f6)) c)
  unfold next trip
  dsimp only [trip.sl.H10_1, trip.sl.H10_2, trip.sl.H10_3, trip.sl.H11_1, trip.sl.H11_2, trip.sl.H11_3, trip.sl.H12_1,
    trip.sl.H12_2, trip.sl.H12_3, trip.sl.H12_4, trip.sl.H6_1, trip.sl.H6_2, trip.sl.H6_3, trip.sl.H6_4, trip.sl.H7_1,
    trip.sl.H7_2, trip.sl.H7_3, trip.sl.H7_4, trip.sl.H8_1, trip.sl.H8_2, trip.sl.H8_3, trip.sl.H9_1, trip.sl.H9_2, trip.sl.H9_3,
    trip.sl.cst_208, trip.sl.r, trip.sl.r_1, trip.sl.r_10, trip.sl.r_11, trip.sl.r_12, trip.sl.r_13, trip.sl.r_14, trip.sl.r_15,
    trip.sl.r_16, trip.sl.r_17, trip.sl.r_18, trip.sl.r_19, trip.sl.r_2, trip.sl.r_20, trip.sl.r_21, trip.sl.r_22, trip.sl.r_23,
    trip.sl.r_24, trip.sl.r_25, trip.sl.r_26, trip.sl.r_27, trip.sl.r_28, trip.sl.r_29, trip.sl.r_3, trip.sl.r_30, trip.sl.r_31,
    trip.sl.r_32, trip.sl.r_33, trip.sl.r_34, trip.sl.r_35, trip.sl.r_36, trip.sl.r_37, trip.sl.r_38, trip.sl.r_39, trip.sl.r_4,
    trip.sl.r_40, trip.sl.r_41, trip.sl.r_42, trip.sl.r_43, trip.sl.r_44, trip.sl.r_45, trip.sl.r_46, trip.sl.r_47, trip.sl.r_48,
    trip.sl.r_49, trip.sl.r_5, trip.sl.r_50, trip.sl.r_51, trip.sl.r_52, trip.sl.r_53, trip.sl.r_54, trip.sl.r_55, trip.sl.r_6,
    trip.sl.r_7, trip.sl.r_8, trip.sl.r_9, trip.sl.v235, trip.sl.v326, trip.sl.v336, trip.sl.v347, trip.sl.v358, trip.sl.v369,
    trip.sl.v380, trip.sl.v390, trip.sl.v481, trip.sl.v491, trip.sl.v502, trip.sl.v513, trip.sl.v524, trip.sl.v535, trip.sl.v545,
    trip.sl.v636, trip.sl.v646, trip.sl.v657, trip.sl.v668, trip.sl.v679, trip.sl.v690]
  refine congrArg (fun L => rdO arg6 c (arg6.view.writes (Elt F) s.f6 L)) ?_
  refine congr (congrArg List.cons ?_) (congr (congrArg List.cons ?_) (congr (congrArg List.cons ?_) (congr (congrArg List.cons ?_) rfl)))
  all_goals
    refine congrArg (Sigma.mk _) ?_
    dsimp only [nextCar, geoOf, carOf, accOf, rd12, rdO, newAv, outSc, outLab, outX1, outY1, outX2, outY2, upd, Gen.k1_pay1,
      Gen.k1_pay2, Gen.k1_pay3, Gen.k1_pay4, Gen.k1_pay5, Gen.k1_pay6, Gen.k1_pay7, Gen.k1_pay8, Gen.k1_pay9, Gen.k1_pay10,
      Gen.k1_pay11, Gen.k1_pay12, Gen.k1_pay13, Gen.k1_pay14, Gen.k1_pay15, Gen.k1_pay16, Gen.k1_pay17, Gen.k1_pay18, Gen.k1_pay19,
      Gen.k1_pay20, Gen.k1_pay21, Gen.k1_pay22, Gen.k1_pay23, Gen.k1_pay24, Gen.k1_pay25, Gen.k1_pay26, Gen.k1_pay27, Gen.k1_pay28,
      Gen.k1_pay29, Gen.k1_pay30, Gen.k1_pay31, Gen.k1_pay32, Gen.k1_pay33, Gen.k1_pay34, Gen.k1_pay35, Gen.k1_pay36, Gen.k1_pay37,
      Gen.k1_pay38, Gen.k1_pay39, Gen.k1_pay40, Gen.k1_pay41, Gen.k1_pay42, Gen.k1_pay43, Gen.k1_pay44, Gen.k1_pay45, Gen.k1_pay46,
      Gen.k1_pay47, Gen.k1_pay48, Gen.k1_pay49, Gen.k1_pay50, Gen.k1_pay51, Gen.k1_pay52, Gen.k1_pay53, Gen.k1_pay54, Gen.k1_pay55,
      Gen.k1_pay56, Gen.k1_pay57, Gen.k1_pay58, Gen.k1_pay59, Gen.k1_pay60, Gen.k1_pay61, Gen.k1_pay62, Gen.k1_pay63, Gen.k1_pay64,
      Gen.k1_pay65, Gen.k1_pay66, Gen.k1_pay67, Gen.k1_pay68, Gen.k1_pay69, Gen.k1_pay70, Gen.k1_pay71, Gen.k1_pay72, Gen.k1_pay73,
      Gen.k1_pay74, Gen.k1_pay75, Gen.k1_pay76, Gen.k1_pay77, Gen.k1_pay78, Gen.k1_pay79, Gen.k1_pay80, Gen.k1_pay81, Gen.k1_pay82,
      Gen.k1_pay83, Gen.k1_pay84, Gen.k1_pay85, Gen.k1_pay86, Gen.k1_pay87, Gen.k1_pay88, Gen.k1_pay89, Gen.k1_pay90, Gen.k1_pay91]

theorem rdO_next7 (c : Fin 4) :
    rdO arg7 c (next arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 d k s).f7 = upd (Gen.k1_pay2 v63 c0_i32 c1_i32 k) (outLab (geoOf v20 v22 v24 v26 v28 v30 v32 v34 v36 v38 v40 v42 v44 v46 v48 v50 v52 v54 v56 v58 v59 v60 v61 v62 c) c1073741824_i32 (carOf arg6 arg7 arg8 arg9 arg10 arg11 arg12 c s)) (rdO arg7 c s.f7) := by
  refine Eq.trans ?_ (rdO_writes arg7 s.f7 (fun c => upd (Gen.k1_pay2 v63 c0_i32 c1_i32 k) (outLab (geoOf v20 v22 v24 v26 v28 v30 v32 v34 v36 v38 v40 v42 v44 v46 v48 v50 v52 v54 v56 v58 v59 v60 v61 v62 c) c1073741824_i32 (carOf arg6 arg7 arg8 arg9 arg10 arg11 arg12 c s)) (rdO arg7 c s.f7)) c)
  unfold next trip
  dsimp only [trip.sl.H10_1, trip.sl.H10_2, trip.sl.H10_3, trip.sl.H11_1, trip.sl.H11_2, trip.sl.H11_3, trip.sl.H12_1,
    trip.sl.H12_2, trip.sl.H12_3, trip.sl.H12_4, trip.sl.H6_1, trip.sl.H6_2, trip.sl.H6_3, trip.sl.H6_4, trip.sl.H7_1,
    trip.sl.H7_2, trip.sl.H7_3, trip.sl.H7_4, trip.sl.H8_1, trip.sl.H8_2, trip.sl.H8_3, trip.sl.H9_1, trip.sl.H9_2, trip.sl.H9_3,
    trip.sl.cst_208, trip.sl.r, trip.sl.r_1, trip.sl.r_10, trip.sl.r_11, trip.sl.r_12, trip.sl.r_13, trip.sl.r_14, trip.sl.r_15,
    trip.sl.r_16, trip.sl.r_17, trip.sl.r_18, trip.sl.r_19, trip.sl.r_2, trip.sl.r_20, trip.sl.r_21, trip.sl.r_22, trip.sl.r_23,
    trip.sl.r_24, trip.sl.r_25, trip.sl.r_26, trip.sl.r_27, trip.sl.r_28, trip.sl.r_29, trip.sl.r_3, trip.sl.r_30, trip.sl.r_31,
    trip.sl.r_32, trip.sl.r_33, trip.sl.r_34, trip.sl.r_35, trip.sl.r_36, trip.sl.r_37, trip.sl.r_38, trip.sl.r_39, trip.sl.r_4,
    trip.sl.r_40, trip.sl.r_41, trip.sl.r_42, trip.sl.r_43, trip.sl.r_44, trip.sl.r_45, trip.sl.r_46, trip.sl.r_47, trip.sl.r_48,
    trip.sl.r_49, trip.sl.r_5, trip.sl.r_50, trip.sl.r_51, trip.sl.r_52, trip.sl.r_53, trip.sl.r_54, trip.sl.r_55, trip.sl.r_6,
    trip.sl.r_7, trip.sl.r_8, trip.sl.r_9, trip.sl.v235, trip.sl.v326, trip.sl.v336, trip.sl.v347, trip.sl.v358, trip.sl.v369,
    trip.sl.v380, trip.sl.v390, trip.sl.v481, trip.sl.v491, trip.sl.v502, trip.sl.v513, trip.sl.v524, trip.sl.v535, trip.sl.v545,
    trip.sl.v636, trip.sl.v646, trip.sl.v657, trip.sl.v668, trip.sl.v679, trip.sl.v690]
  refine congrArg (fun L => rdO arg7 c (arg7.view.writes (Elt F) s.f7 L)) ?_
  refine congr (congrArg List.cons ?_) (congr (congrArg List.cons ?_) (congr (congrArg List.cons ?_) (congr (congrArg List.cons ?_) rfl)))
  all_goals
    refine congrArg (Sigma.mk _) ?_
    dsimp only [nextCar, geoOf, carOf, accOf, rd12, rdO, newAv, outSc, outLab, outX1, outY1, outX2, outY2, upd, Gen.k1_pay1,
      Gen.k1_pay2, Gen.k1_pay3, Gen.k1_pay4, Gen.k1_pay5, Gen.k1_pay6, Gen.k1_pay7, Gen.k1_pay8, Gen.k1_pay9, Gen.k1_pay10,
      Gen.k1_pay11, Gen.k1_pay12, Gen.k1_pay13, Gen.k1_pay14, Gen.k1_pay15, Gen.k1_pay16, Gen.k1_pay17, Gen.k1_pay18, Gen.k1_pay19,
      Gen.k1_pay20, Gen.k1_pay21, Gen.k1_pay22, Gen.k1_pay23, Gen.k1_pay24, Gen.k1_pay25, Gen.k1_pay26, Gen.k1_pay27, Gen.k1_pay28,
      Gen.k1_pay29, Gen.k1_pay30, Gen.k1_pay31, Gen.k1_pay32, Gen.k1_pay33, Gen.k1_pay34, Gen.k1_pay35, Gen.k1_pay36, Gen.k1_pay37,
      Gen.k1_pay38, Gen.k1_pay39, Gen.k1_pay40, Gen.k1_pay41, Gen.k1_pay42, Gen.k1_pay43, Gen.k1_pay44, Gen.k1_pay45, Gen.k1_pay46,
      Gen.k1_pay47, Gen.k1_pay48, Gen.k1_pay49, Gen.k1_pay50, Gen.k1_pay51, Gen.k1_pay52, Gen.k1_pay53, Gen.k1_pay54, Gen.k1_pay55,
      Gen.k1_pay56, Gen.k1_pay57, Gen.k1_pay58, Gen.k1_pay59, Gen.k1_pay60, Gen.k1_pay61, Gen.k1_pay62, Gen.k1_pay63, Gen.k1_pay64,
      Gen.k1_pay65, Gen.k1_pay66, Gen.k1_pay67, Gen.k1_pay68, Gen.k1_pay69, Gen.k1_pay70, Gen.k1_pay71, Gen.k1_pay72, Gen.k1_pay73,
      Gen.k1_pay74, Gen.k1_pay75, Gen.k1_pay76, Gen.k1_pay77, Gen.k1_pay78, Gen.k1_pay79, Gen.k1_pay80, Gen.k1_pay81, Gen.k1_pay82,
      Gen.k1_pay83, Gen.k1_pay84, Gen.k1_pay85, Gen.k1_pay86, Gen.k1_pay87, Gen.k1_pay88, Gen.k1_pay89, Gen.k1_pay90, Gen.k1_pay91]
    try rfl

theorem rdO_next8 (c : Fin 4) :
    rdO arg8 c (next arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 d k s).f8 = upd (Gen.k1_pay2 v63 c0_i32 c1_i32 k) (outX1 (geoOf v20 v22 v24 v26 v28 v30 v32 v34 v36 v38 v40 v42 v44 v46 v48 v50 v52 v54 v56 v58 v59 v60 v61 v62 c) c1073741824_i32 (carOf arg6 arg7 arg8 arg9 arg10 arg11 arg12 c s)) (rdO arg8 c s.f8) := by
  refine Eq.trans ?_ (rdO_writes arg8 s.f8 (fun c => upd (Gen.k1_pay2 v63 c0_i32 c1_i32 k) (outX1 (geoOf v20 v22 v24 v26 v28 v30 v32 v34 v36 v38 v40 v42 v44 v46 v48 v50 v52 v54 v56 v58 v59 v60 v61 v62 c) c1073741824_i32 (carOf arg6 arg7 arg8 arg9 arg10 arg11 arg12 c s)) (rdO arg8 c s.f8)) c)
  unfold next trip
  dsimp only [trip.sl.H10_1, trip.sl.H10_2, trip.sl.H10_3, trip.sl.H11_1, trip.sl.H11_2, trip.sl.H11_3, trip.sl.H12_1,
    trip.sl.H12_2, trip.sl.H12_3, trip.sl.H12_4, trip.sl.H6_1, trip.sl.H6_2, trip.sl.H6_3, trip.sl.H6_4, trip.sl.H7_1,
    trip.sl.H7_2, trip.sl.H7_3, trip.sl.H7_4, trip.sl.H8_1, trip.sl.H8_2, trip.sl.H8_3, trip.sl.H9_1, trip.sl.H9_2, trip.sl.H9_3,
    trip.sl.cst_208, trip.sl.r, trip.sl.r_1, trip.sl.r_10, trip.sl.r_11, trip.sl.r_12, trip.sl.r_13, trip.sl.r_14, trip.sl.r_15,
    trip.sl.r_16, trip.sl.r_17, trip.sl.r_18, trip.sl.r_19, trip.sl.r_2, trip.sl.r_20, trip.sl.r_21, trip.sl.r_22, trip.sl.r_23,
    trip.sl.r_24, trip.sl.r_25, trip.sl.r_26, trip.sl.r_27, trip.sl.r_28, trip.sl.r_29, trip.sl.r_3, trip.sl.r_30, trip.sl.r_31,
    trip.sl.r_32, trip.sl.r_33, trip.sl.r_34, trip.sl.r_35, trip.sl.r_36, trip.sl.r_37, trip.sl.r_38, trip.sl.r_39, trip.sl.r_4,
    trip.sl.r_40, trip.sl.r_41, trip.sl.r_42, trip.sl.r_43, trip.sl.r_44, trip.sl.r_45, trip.sl.r_46, trip.sl.r_47, trip.sl.r_48,
    trip.sl.r_49, trip.sl.r_5, trip.sl.r_50, trip.sl.r_51, trip.sl.r_52, trip.sl.r_53, trip.sl.r_54, trip.sl.r_55, trip.sl.r_6,
    trip.sl.r_7, trip.sl.r_8, trip.sl.r_9, trip.sl.v235, trip.sl.v326, trip.sl.v336, trip.sl.v347, trip.sl.v358, trip.sl.v369,
    trip.sl.v380, trip.sl.v390, trip.sl.v481, trip.sl.v491, trip.sl.v502, trip.sl.v513, trip.sl.v524, trip.sl.v535, trip.sl.v545,
    trip.sl.v636, trip.sl.v646, trip.sl.v657, trip.sl.v668, trip.sl.v679, trip.sl.v690]
  refine congrArg (fun L => rdO arg8 c (arg8.view.writes (Elt F) s.f8 L)) ?_
  refine congr (congrArg List.cons ?_) (congr (congrArg List.cons ?_) (congr (congrArg List.cons ?_) (congr (congrArg List.cons ?_) rfl)))
  all_goals
    refine congrArg (Sigma.mk _) ?_
    dsimp only [nextCar, geoOf, carOf, accOf, rd12, rdO, newAv, outSc, outLab, outX1, outY1, outX2, outY2, upd, Gen.k1_pay1,
      Gen.k1_pay2, Gen.k1_pay3, Gen.k1_pay4, Gen.k1_pay5, Gen.k1_pay6, Gen.k1_pay7, Gen.k1_pay8, Gen.k1_pay9, Gen.k1_pay10,
      Gen.k1_pay11, Gen.k1_pay12, Gen.k1_pay13, Gen.k1_pay14, Gen.k1_pay15, Gen.k1_pay16, Gen.k1_pay17, Gen.k1_pay18, Gen.k1_pay19,
      Gen.k1_pay20, Gen.k1_pay21, Gen.k1_pay22, Gen.k1_pay23, Gen.k1_pay24, Gen.k1_pay25, Gen.k1_pay26, Gen.k1_pay27, Gen.k1_pay28,
      Gen.k1_pay29, Gen.k1_pay30, Gen.k1_pay31, Gen.k1_pay32, Gen.k1_pay33, Gen.k1_pay34, Gen.k1_pay35, Gen.k1_pay36, Gen.k1_pay37,
      Gen.k1_pay38, Gen.k1_pay39, Gen.k1_pay40, Gen.k1_pay41, Gen.k1_pay42, Gen.k1_pay43, Gen.k1_pay44, Gen.k1_pay45, Gen.k1_pay46,
      Gen.k1_pay47, Gen.k1_pay48, Gen.k1_pay49, Gen.k1_pay50, Gen.k1_pay51, Gen.k1_pay52, Gen.k1_pay53, Gen.k1_pay54, Gen.k1_pay55,
      Gen.k1_pay56, Gen.k1_pay57, Gen.k1_pay58, Gen.k1_pay59, Gen.k1_pay60, Gen.k1_pay61, Gen.k1_pay62, Gen.k1_pay63, Gen.k1_pay64,
      Gen.k1_pay65, Gen.k1_pay66, Gen.k1_pay67, Gen.k1_pay68, Gen.k1_pay69, Gen.k1_pay70, Gen.k1_pay71, Gen.k1_pay72, Gen.k1_pay73,
      Gen.k1_pay74, Gen.k1_pay75, Gen.k1_pay76, Gen.k1_pay77, Gen.k1_pay78, Gen.k1_pay79, Gen.k1_pay80, Gen.k1_pay81, Gen.k1_pay82,
      Gen.k1_pay83, Gen.k1_pay84, Gen.k1_pay85, Gen.k1_pay86, Gen.k1_pay87, Gen.k1_pay88, Gen.k1_pay89, Gen.k1_pay90, Gen.k1_pay91]

theorem rdO_next9 (c : Fin 4) :
    rdO arg9 c (next arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 d k s).f9 = upd (Gen.k1_pay2 v63 c0_i32 c1_i32 k) (outY1 (geoOf v20 v22 v24 v26 v28 v30 v32 v34 v36 v38 v40 v42 v44 v46 v48 v50 v52 v54 v56 v58 v59 v60 v61 v62 c) c1073741824_i32 (carOf arg6 arg7 arg8 arg9 arg10 arg11 arg12 c s)) (rdO arg9 c s.f9) := by
  refine Eq.trans ?_ (rdO_writes arg9 s.f9 (fun c => upd (Gen.k1_pay2 v63 c0_i32 c1_i32 k) (outY1 (geoOf v20 v22 v24 v26 v28 v30 v32 v34 v36 v38 v40 v42 v44 v46 v48 v50 v52 v54 v56 v58 v59 v60 v61 v62 c) c1073741824_i32 (carOf arg6 arg7 arg8 arg9 arg10 arg11 arg12 c s)) (rdO arg9 c s.f9)) c)
  unfold next trip
  dsimp only [trip.sl.H10_1, trip.sl.H10_2, trip.sl.H10_3, trip.sl.H11_1, trip.sl.H11_2, trip.sl.H11_3, trip.sl.H12_1,
    trip.sl.H12_2, trip.sl.H12_3, trip.sl.H12_4, trip.sl.H6_1, trip.sl.H6_2, trip.sl.H6_3, trip.sl.H6_4, trip.sl.H7_1,
    trip.sl.H7_2, trip.sl.H7_3, trip.sl.H7_4, trip.sl.H8_1, trip.sl.H8_2, trip.sl.H8_3, trip.sl.H9_1, trip.sl.H9_2, trip.sl.H9_3,
    trip.sl.cst_208, trip.sl.r, trip.sl.r_1, trip.sl.r_10, trip.sl.r_11, trip.sl.r_12, trip.sl.r_13, trip.sl.r_14, trip.sl.r_15,
    trip.sl.r_16, trip.sl.r_17, trip.sl.r_18, trip.sl.r_19, trip.sl.r_2, trip.sl.r_20, trip.sl.r_21, trip.sl.r_22, trip.sl.r_23,
    trip.sl.r_24, trip.sl.r_25, trip.sl.r_26, trip.sl.r_27, trip.sl.r_28, trip.sl.r_29, trip.sl.r_3, trip.sl.r_30, trip.sl.r_31,
    trip.sl.r_32, trip.sl.r_33, trip.sl.r_34, trip.sl.r_35, trip.sl.r_36, trip.sl.r_37, trip.sl.r_38, trip.sl.r_39, trip.sl.r_4,
    trip.sl.r_40, trip.sl.r_41, trip.sl.r_42, trip.sl.r_43, trip.sl.r_44, trip.sl.r_45, trip.sl.r_46, trip.sl.r_47, trip.sl.r_48,
    trip.sl.r_49, trip.sl.r_5, trip.sl.r_50, trip.sl.r_51, trip.sl.r_52, trip.sl.r_53, trip.sl.r_54, trip.sl.r_55, trip.sl.r_6,
    trip.sl.r_7, trip.sl.r_8, trip.sl.r_9, trip.sl.v235, trip.sl.v326, trip.sl.v336, trip.sl.v347, trip.sl.v358, trip.sl.v369,
    trip.sl.v380, trip.sl.v390, trip.sl.v481, trip.sl.v491, trip.sl.v502, trip.sl.v513, trip.sl.v524, trip.sl.v535, trip.sl.v545,
    trip.sl.v636, trip.sl.v646, trip.sl.v657, trip.sl.v668, trip.sl.v679, trip.sl.v690]
  refine congrArg (fun L => rdO arg9 c (arg9.view.writes (Elt F) s.f9 L)) ?_
  refine congr (congrArg List.cons ?_) (congr (congrArg List.cons ?_) (congr (congrArg List.cons ?_) (congr (congrArg List.cons ?_) rfl)))
  all_goals
    refine congrArg (Sigma.mk _) ?_
    dsimp only [nextCar, geoOf, carOf, accOf, rd12, rdO, newAv, outSc, outLab, outX1, outY1, outX2, outY2, upd, Gen.k1_pay1,
      Gen.k1_pay2, Gen.k1_pay3, Gen.k1_pay4, Gen.k1_pay5, Gen.k1_pay6, Gen.k1_pay7, Gen.k1_pay8, Gen.k1_pay9, Gen.k1_pay10,
      Gen.k1_pay11, Gen.k1_pay12, Gen.k1_pay13, Gen.k1_pay14, Gen.k1_pay15, Gen.k1_pay16, Gen.k1_pay17, Gen.k1_pay18, Gen.k1_pay19,
      Gen.k1_pay20, Gen.k1_pay21, Gen.k1_pay22, Gen.k1_pay23, Gen.k1_pay24, Gen.k1_pay25, Gen.k1_pay26, Gen.k1_pay27, Gen.k1_pay28,
      Gen.k1_pay29, Gen.k1_pay30, Gen.k1_pay31, Gen.k1_pay32, Gen.k1_pay33, Gen.k1_pay34, Gen.k1_pay35, Gen.k1_pay36, Gen.k1_pay37,
      Gen.k1_pay38, Gen.k1_pay39, Gen.k1_pay40, Gen.k1_pay41, Gen.k1_pay42, Gen.k1_pay43, Gen.k1_pay44, Gen.k1_pay45, Gen.k1_pay46,
      Gen.k1_pay47, Gen.k1_pay48, Gen.k1_pay49, Gen.k1_pay50, Gen.k1_pay51, Gen.k1_pay52, Gen.k1_pay53, Gen.k1_pay54, Gen.k1_pay55,
      Gen.k1_pay56, Gen.k1_pay57, Gen.k1_pay58, Gen.k1_pay59, Gen.k1_pay60, Gen.k1_pay61, Gen.k1_pay62, Gen.k1_pay63, Gen.k1_pay64,
      Gen.k1_pay65, Gen.k1_pay66, Gen.k1_pay67, Gen.k1_pay68, Gen.k1_pay69, Gen.k1_pay70, Gen.k1_pay71, Gen.k1_pay72, Gen.k1_pay73,
      Gen.k1_pay74, Gen.k1_pay75, Gen.k1_pay76, Gen.k1_pay77, Gen.k1_pay78, Gen.k1_pay79, Gen.k1_pay80, Gen.k1_pay81, Gen.k1_pay82,
      Gen.k1_pay83, Gen.k1_pay84, Gen.k1_pay85, Gen.k1_pay86, Gen.k1_pay87, Gen.k1_pay88, Gen.k1_pay89, Gen.k1_pay90, Gen.k1_pay91]

theorem rdO_next10 (c : Fin 4) :
    rdO arg10 c (next arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 d k s).f10 = upd (Gen.k1_pay2 v63 c0_i32 c1_i32 k) (outX2 (geoOf v20 v22 v24 v26 v28 v30 v32 v34 v36 v38 v40 v42 v44 v46 v48 v50 v52 v54 v56 v58 v59 v60 v61 v62 c) c1073741824_i32 (carOf arg6 arg7 arg8 arg9 arg10 arg11 arg12 c s)) (rdO arg10 c s.f10) := by
  refine Eq.trans ?_ (rdO_writes arg10 s.f10 (fun c => upd (Gen.k1_pay2 v63 c0_i32 c1_i32 k) (outX2 (geoOf v20 v22 v24 v26 v28 v30 v32 v34 v36 v38 v40 v42 v44 v46 v48 v50 v52 v54 v56 v58 v59 v60 v61 v62 c) c1073741824_i32 (carOf arg6 arg7 arg8 arg9 arg10 arg11 arg12 c s)) (rdO arg10 c s.f10)) c)
  unfold next trip
  dsimp only [trip.sl.H10_1, trip.sl.H10_2, trip.sl.H10_3, trip.sl.H11_1, trip.sl.H11_2, trip.sl.H11_3, trip.sl.H12_1,
    trip.sl.H12_2, trip.sl.H12_3, trip.sl.H12_4, trip.sl.H6_1, trip.sl.H6_2, trip.sl.H6_3, trip.sl.H6_4, trip.sl.H7_1,
    trip.sl.H7_2, trip.sl.H7_3, trip.sl.H7_4, trip.sl.H8_1, trip.sl.H8_2, trip.sl.H8_3, trip.sl.H9_1, trip.sl.H9_2, trip.sl.H9_3,
    trip.sl.cst_208, trip.sl.r, trip.sl.r_1, trip.sl.r_10, trip.sl.r_11, trip.sl.r_12, trip.sl.r_13, trip.sl.r_14, trip.sl.r_15,
    trip.sl.r_16, trip.sl.r_17, trip.sl.r_18, trip.sl.r_19, trip.sl.r_2, trip.sl.r_20, trip.sl.r_21, trip.sl.r_22, trip.sl.r_23,
    trip.sl.r_24, trip.sl.r_25, trip.sl.r_26, trip.sl.r_27, trip.sl.r_28, trip.sl.r_29, trip.sl.r_3, trip.sl.r_30, trip.sl.r_31,
    trip.sl.r_32, trip.sl.r_33, trip.sl.r_34, trip.sl.r_35, trip.sl.r_36, trip.sl.r_37, trip.sl.r_38, trip.sl.r_39, trip.sl.r_4,
    trip.sl.r_40, trip.sl.r_41, trip.sl.r_42, trip.sl.r_43, trip.sl.r_44, trip.sl.r_45, trip.sl.r_46, trip.sl.r_47, trip.sl.r_48,
    trip.sl.r_49, trip.sl.r_5, trip.sl.r_50, trip.sl.r_51, trip.sl.r_52, trip.sl.r_53, trip.sl.r_54, trip.sl.r_55, trip.sl.r_6,
    trip.sl.r_7, trip.sl.r_8, trip.sl.r_9, trip.sl.v235, trip.sl.v326, trip.sl.v336, trip.sl.v347, trip.sl.v358, trip.sl.v369,
    trip.sl.v380, trip.sl.v390, trip.sl.v481, trip.sl.v491, trip.sl.v502, trip.sl.v513, trip.sl.v524, trip.sl.v535, trip.sl.v545,
    trip.sl.v636, trip.sl.v646, trip.sl.v657, trip.sl.v668, trip.sl.v679, trip.sl.v690]
  refine congrArg (fun L => rdO arg10 c (arg10.view.writes (Elt F) s.f10 L)) ?_
  refine congr (congrArg List.cons ?_) (congr (congrArg List.cons ?_) (congr (congrArg List.cons ?_) (congr (congrArg List.cons ?_) rfl)))
  all_goals
    refine congrArg (Sigma.mk _) ?_
    dsimp only [nextCar, geoOf, carOf, accOf, rd12, rdO, newAv, outSc, outLab, outX1, outY1, outX2, outY2, upd, Gen.k1_pay1,
      Gen.k1_pay2, Gen.k1_pay3, Gen.k1_pay4, Gen.k1_pay5, Gen.k1_pay6, Gen.k1_pay7, Gen.k1_pay8, Gen.k1_pay9, Gen.k1_pay10,
      Gen.k1_pay11, Gen.k1_pay12, Gen.k1_pay13, Gen.k1_pay14, Gen.k1_pay15, Gen.k1_pay16, Gen.k1_pay17, Gen.k1_pay18, Gen.k1_pay19,
      Gen.k1_pay20, Gen.k1_pay21, Gen.k1_pay22, Gen.k1_pay23, Gen.k1_pay24, Gen.k1_pay25, Gen.k1_pay26, Gen.k1_pay27, Gen.k1_pay28,
      Gen.k1_pay29, Gen.k1_pay30, Gen.k1_pay31, Gen.k1_pay32, Gen.k1_pay33, Gen.k1_pay34, Gen.k1_pay35, Gen.k1_pay36, Gen.k1_pay37,
      Gen.k1_pay38, Gen.k1_pay39, Gen.k1_pay40, Gen.k1_pay41, Gen.k1_pay42, Gen.k1_pay43, Gen.k1_pay44, Gen.k1_pay45, Gen.k1_pay46,
      Gen.k1_pay47, Gen.k1_pay48, Gen.k1_pay49, Gen.k1_pay50, Gen.k1_pay51, Gen.k1_pay52, Gen.k1_pay53, Gen.k1_pay54, Gen.k1_pay55,
      Gen.k1_pay56, Gen.k1_pay57, Gen.k1_pay58, Gen.k1_pay59, Gen.k1_pay60, Gen.k1_pay61, Gen.k1_pay62, Gen.k1_pay63, Gen.k1_pay64,
      Gen.k1_pay65, Gen.k1_pay66, Gen.k1_pay67, Gen.k1_pay68, Gen.k1_pay69, Gen.k1_pay70, Gen.k1_pay71, Gen.k1_pay72, Gen.k1_pay73,
      Gen.k1_pay74, Gen.k1_pay75, Gen.k1_pay76, Gen.k1_pay77, Gen.k1_pay78, Gen.k1_pay79, Gen.k1_pay80, Gen.k1_pay81, Gen.k1_pay82,
      Gen.k1_pay83, Gen.k1_pay84, Gen.k1_pay85, Gen.k1_pay86, Gen.k1_pay87, Gen.k1_pay88, Gen.k1_pay89, Gen.k1_pay90, Gen.k1_pay91]

theorem rdO_next11 (c : Fin 4) :
    rdO arg11 c (next arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 d k s).f11 = upd (Gen.k1_pay2 v63 c0_i32 c1_i32 k) (outY2 (geoOf v20 v22 v24 v26 v28 v30 v32 v34 v36 v38 v40 v42 v44 v46 v48 v50 v52 v54 v56 v58 v59 v60 v61 v62 c) c1073741824_i32 (carOf arg6 arg7 arg8 arg9 arg10 arg11 arg12 c s)) (rdO arg11 c s.f11) := by
  refine Eq.trans ?_ (rdO_writes arg11 s.f11 (fun c => upd (Gen.k1_pay2 v63 c0_i32 c1_i32 k) (outY2 (geoOf v20 v22 v24 v26 v28 v30 v32 v34 v36 v38 v40 v42 v44 v46 v48 v50 v52 v54 v56 v58 v59 v60 v61 v62 c) c1073741824_i32 (carOf arg6 arg7 arg8 arg9 arg10 arg11 arg12 c s)) (rdO arg11 c s.f11)) c)
  unfold next trip
  dsimp only [trip.sl.H10_1, trip.sl.H10_2, trip.sl.H10_3, trip.sl.H11_1, trip.sl.H11_2, trip.sl.H11_3, trip.sl.H12_1,
    trip.sl.H12_2, trip.sl.H12_3, trip.sl.H12_4, trip.sl.H6_1, trip.sl.H6_2, trip.sl.H6_3, trip.sl.H6_4, trip.sl.H7_1,
    trip.sl.H7_2, trip.sl.H7_3, trip.sl.H7_4, trip.sl.H8_1, trip.sl.H8_2, trip.sl.H8_3, trip.sl.H9_1, trip.sl.H9_2, trip.sl.H9_3,
    trip.sl.cst_208, trip.sl.r, trip.sl.r_1, trip.sl.r_10, trip.sl.r_11, trip.sl.r_12, trip.sl.r_13, trip.sl.r_14, trip.sl.r_15,
    trip.sl.r_16, trip.sl.r_17, trip.sl.r_18, trip.sl.r_19, trip.sl.r_2, trip.sl.r_20, trip.sl.r_21, trip.sl.r_22, trip.sl.r_23,
    trip.sl.r_24, trip.sl.r_25, trip.sl.r_26, trip.sl.r_27, trip.sl.r_28, trip.sl.r_29, trip.sl.r_3, trip.sl.r_30, trip.sl.r_31,
    trip.sl.r_32, trip.sl.r_33, trip.sl.r_34, trip.sl.r_35, trip.sl.r_36, trip.sl.r_37, trip.sl.r_38, trip.sl.r_39, trip.sl.r_4,
    trip.sl.r_40, trip.sl.r_41, trip.sl.r_42, trip.sl.r_43, trip.sl.r_44, trip.sl.r_45, trip.sl.r_46, trip.sl.r_47, trip.sl.r_48,
    trip.sl.r_49, trip.sl.r_5, trip.sl.r_50, trip.sl.r_51, trip.sl.r_52, trip.sl.r_53, trip.sl.r_54, trip.sl.r_55, trip.sl.r_6,
    trip.sl.r_7, trip.sl.r_8, trip.sl.r_9, trip.sl.v235, trip.sl.v326, trip.sl.v336, trip.sl.v347, trip.sl.v358, trip.sl.v369,
    trip.sl.v380, trip.sl.v390, trip.sl.v481, trip.sl.v491, trip.sl.v502, trip.sl.v513, trip.sl.v524, trip.sl.v535, trip.sl.v545,
    trip.sl.v636, trip.sl.v646, trip.sl.v657, trip.sl.v668, trip.sl.v679, trip.sl.v690]
  refine congrArg (fun L => rdO arg11 c (arg11.view.writes (Elt F) s.f11 L)) ?_
  refine congr (congrArg List.cons ?_) (congr (congrArg List.cons ?_) (congr (congrArg List.cons ?_) (congr (congrArg List.cons ?_) rfl)))
  all_goals
    refine congrArg (Sigma.mk _) ?_
    dsimp only [nextCar, geoOf, carOf, accOf, rd12, rdO, newAv, outSc, outLab, outX1, outY1, outX2, outY2, upd, Gen.k1_pay1,
      Gen.k1_pay2, Gen.k1_pay3, Gen.k1_pay4, Gen.k1_pay5, Gen.k1_pay6, Gen.k1_pay7, Gen.k1_pay8, Gen.k1_pay9, Gen.k1_pay10,
      Gen.k1_pay11, Gen.k1_pay12, Gen.k1_pay13, Gen.k1_pay14, Gen.k1_pay15, Gen.k1_pay16, Gen.k1_pay17, Gen.k1_pay18, Gen.k1_pay19,
      Gen.k1_pay20, Gen.k1_pay21, Gen.k1_pay22, Gen.k1_pay23, Gen.k1_pay24, Gen.k1_pay25, Gen.k1_pay26, Gen.k1_pay27, Gen.k1_pay28,
      Gen.k1_pay29, Gen.k1_pay30, Gen.k1_pay31, Gen.k1_pay32, Gen.k1_pay33, Gen.k1_pay34, Gen.k1_pay35, Gen.k1_pay36, Gen.k1_pay37,
      Gen.k1_pay38, Gen.k1_pay39, Gen.k1_pay40, Gen.k1_pay41, Gen.k1_pay42, Gen.k1_pay43, Gen.k1_pay44, Gen.k1_pay45, Gen.k1_pay46,
      Gen.k1_pay47, Gen.k1_pay48, Gen.k1_pay49, Gen.k1_pay50, Gen.k1_pay51, Gen.k1_pay52, Gen.k1_pay53, Gen.k1_pay54, Gen.k1_pay55,
      Gen.k1_pay56, Gen.k1_pay57, Gen.k1_pay58, Gen.k1_pay59, Gen.k1_pay60, Gen.k1_pay61, Gen.k1_pay62, Gen.k1_pay63, Gen.k1_pay64,
      Gen.k1_pay65, Gen.k1_pay66, Gen.k1_pay67, Gen.k1_pay68, Gen.k1_pay69, Gen.k1_pay70, Gen.k1_pay71, Gen.k1_pay72, Gen.k1_pay73,
      Gen.k1_pay74, Gen.k1_pay75, Gen.k1_pay76, Gen.k1_pay77, Gen.k1_pay78, Gen.k1_pay79, Gen.k1_pay80, Gen.k1_pay81, Gen.k1_pay82,
      Gen.k1_pay83, Gen.k1_pay84, Gen.k1_pay85, Gen.k1_pay86, Gen.k1_pay87, Gen.k1_pay88, Gen.k1_pay89, Gen.k1_pay90, Gen.k1_pay91]

end Cert.Proof.KernelIdeal

end
-- ==== Proof.IdealNms.lean ====
/- The suppression kernel's run: what its points-to hold when it returns. -/
module

public import proofs.«01_k».proof.Proof.IdealNext

@[expose] public section

set_option maxRecDepth 65536
set_option maxHeartbeats 4000000

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (arg0 : Memref sig .tc .vmem S8x160x128 .f32)
  (harg0 : arg0.IsWhole)
  (arg1 : Memref sig .tc .vmem S8x160x128 .i32)
  (harg1 : arg1.IsWhole)
  (arg2 : Memref sig .tc .vmem S8x160x128 .f32)
  (harg2 : arg2.IsWhole)
  (arg3 : Memref sig .tc .vmem S8x160x128 .f32)
  (harg3 : arg3.IsWhole)
  (arg4 : Memref sig .tc .vmem S8x160x128 .f32)
  (harg4 : arg4.IsWhole)
  (arg5 : Memref sig .tc .vmem S8x160x128 .f32)
  (harg5 : arg5.IsWhole)
  (arg6 : Memref sig .tc .vmem S8x300 .f32)
  (harg6 : arg6.IsWhole)
  (arg7 : Memref sig .tc .vmem S8x300 .i32)
  (harg7 : arg7.IsWhole)
  (arg8 : Memref sig .tc .vmem S8x300 .f32)
  (harg8 : arg8.IsWhole)
  (arg9 : Memref sig .tc .vmem S8x300 .f32)
  (harg9 : arg9.IsWhole)
  (arg10 : Memref sig .tc .vmem S8x300 .f32)
  (harg10 : arg10.IsWhole)
  (arg11 : Memref sig .tc .vmem S8x300 .f32)
  (harg11 : arg11.IsWhole)
  (arg12 : Memref sig .tc .vmem S8x160x128 .f32)
  (harg12 : arg12.IsWhole)
  (arg13 : Memref sig .tc .vmem S8x160x128 .f32)
  (harg13 : arg13.IsWhole)

/-- The kernel's fourteen buffers with their contents. -/
abbrev Held (c : Dev nD) (f0 : arg0.view.ty.Contents (Elt F)) (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) : sProp 𝕄 :=
  iprop((arg0.view.loc (c : Thread nD τ) ↦{fullShare} f0) ∗ (arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ (arg5.view.loc (c : Thread nD τ) ↦{fullShare} f5) ∗ (arg6.view.loc (c : Thread nD τ) ↦{fullShare} f6) ∗ (arg7.view.loc (c : Thread nD τ) ↦{fullShare} f7) ∗ (arg8.view.loc (c : Thread nD τ) ↦{fullShare} f8) ∗ (arg9.view.loc (c : Thread nD τ) ↦{fullShare} f9) ∗ (arg10.view.loc (c : Thread nD τ) ↦{fullShare} f10) ∗ (arg11.view.loc (c : Thread nD τ) ↦{fullShare} f11) ∗ (arg12.view.loc (c : Thread nD τ) ↦{fullShare} f12) ∗ (arg13.view.loc (c : Thread nD τ) ↦{fullShare} f13))

/-- What the kernel leaves in its results and its two scratch buffers, with its run. -/
def nms (c : Dev nD) (f0 : arg0.view.ty.Contents (Elt F)) (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) :
    Σ' (W6 : arg6.view.ty.Contents (Elt F)) (W7 : arg7.view.ty.Contents (Elt F)) (W8 : arg8.view.ty.Contents (Elt F)) (W9 : arg9.view.ty.Contents (Elt F)) (W10 : arg10.view.ty.Contents (Elt F)) (W11 : arg11.view.ty.Contents (Elt F)) (W12 : arg12.view.ty.Contents (Elt F)), { W13 : arg13.view.ty.Contents (Elt F) //
      Held arg0 arg1 arg2 arg3 arg4 arg5 arg6 arg7 arg8 arg9 arg10 arg11 arg12 arg13 c f0 f1 f2 f3 f4 f5 f6 f7 f8 f9 f10 f11 f12 f13
      ⊢ wp frame (wpE (defs₀ (F := F)) 𝒱₀ (c : Thread nD τ) none) Set.univ (cc1__nms_kernel (F := F) arg0 harg0 arg1 harg1 arg2 harg2 arg3 harg3 arg4 harg4 arg5 harg5 arg6 harg6 arg7 harg7 arg8 harg8 arg9 harg9 arg10 harg10 arg11 harg11 arg12 harg12 arg13 harg13)
          (fun _ => Held arg0 arg1 arg2 arg3 arg4 arg5 arg6 arg7 arg8 arg9 arg10 arg11 arg12 arg13 c f0 f1 f2 f3 f4 f5 W6 W7 W8 W9 W10 W11 W12 W13) } := by
  refine ⟨?_, ?_, ?_, ?_, ?_, ?_, ?_, ?_, ?run⟩
  case run =>
    unfold Held
    iintro ⟨H0, H1, H2, H3, H4, H5, H6, H7, H8, H9, H10, H11, H12, H13⟩
    rw [Gen.cc1__nms_kernel_eq_skeleton]
    unfold Gen.cc1__nms_kernel_skel
    sl_exec_parts
    sl_step
    sl_close

end Cert.Proof.KernelIdeal

end
-- ==== Proof.IdealStates.lean ====
/- The suppression loop, all trips: what a pair of batches carries before a trip, and which columns of the results are written. -/
module

public import proofs.«01_k».proof.Proof.IdealNext
public import Idealize.ShloMosaic.Lib.ValueIdx

@[expose] public section

set_option maxRecDepth 16384
set_option maxHeartbeats 1000000

noncomputable section

namespace Cert.Proof.KernelIdeal

open Cert.KernelIdeal
open Idealize.ShloMosaic Idealize.ShloMosaic.TcCoe Idealize.ShloMosaic.ValueIdx

variable {F : FTy → Type} [FloatOps F]

/-- A row's element after the masked column is replaced. -/
theorem upd_apply {α : Type} (cmk : IVec S1x300 1) (val : S2x1.Idx → α) (old : S2x300.Idx → α) (b : Fin 2) (j : Fin 300) :
    upd cmk val old (ix2 b j) = if cmk (ix2 0 j) = 1 then val (ix2 b 0) else old (ix2 b j) := by
  unfold upd
  rw [shapeCast_self, shapeCast_self, shapeCast_self]
  rw [select_apply, broadcastTo_apply cmk _ (ix2 b j) (ix2 (0 : Fin 1) j) (by intro a; fin_cases a <;> rfl),
    broadcastTo_apply val _ (ix2 b j) (ix2 b (0 : Fin 1)) (by intro a; fin_cases a <;> rfl)]
  rfl

variable (arg0 : Memref sig .tc .vmem S8x160x128 .f32)
  (harg0 : arg0.IsWhole)
  (arg1 : Memref sig .tc .vmem S8x160x128 .i32)
  (harg1 : arg1.IsWhole)
  (arg2 : Memref sig .tc .vmem S8x160x128 .f32)
  (harg2 : arg2.IsWhole)
  (arg3 : Memref sig .tc .vmem S8x160x128 .f32)
  (harg3 : arg3.IsWhole)
  (arg4 : Memref sig .tc .vmem S8x160x128 .f32)
  (harg4 : arg4.IsWhole)
  (arg5 : Memref sig .tc .vmem S8x160x128 .f32)
  (harg5 : arg5.IsWhole)
  (arg6 : Memref sig .tc .vmem S8x300 .f32)
  (harg6 : arg6.IsWhole)
  (arg7 : Memref sig .tc .vmem S8x300 .i32)
  (harg7 : arg7.IsWhole)
  (arg8 : Memref sig .tc .vmem S8x300 .f32)
  (harg8 : arg8.IsWhole)
  (arg9 : Memref sig .tc .vmem S8x300 .f32)
  (harg9 : arg9.IsWhole)
  (arg10 : Memref sig .tc .vmem S8x300 .f32)
  (harg10 : arg10.IsWhole)
  (arg11 : Memref sig .tc .vmem S8x300 .f32)
  (harg11 : arg11.IsWhole)
  (arg12 : Memref sig .tc .vmem S8x160x128 .f32)
  (harg12 : arg12.IsWhole)
  (arg13 : Memref sig .tc .vmem S8x160x128 .f32)
  (harg13 : arg13.IsWhole)
  (v20 : FVec F S2x160x128 .f32)
  (v22 : FVec F S2x160x128 .f32)
  (v24 : FVec F S2x160x128 .f32)
  (v26 : FVec F S2x160x128 .f32)
  (v28 : FVec F S2x160x128 .f32)
  (v30 : FVec F S2x160x128 .f32)
  (v32 : FVec F S2x160x128 .f32)
  (v34 : FVec F S2x160x128 .f32)
  (v36 : FVec F S2x160x128 .f32)
  (v38 : FVec F S2x160x128 .f32)
  (v40 : FVec F S2x160x128 .f32)
  (v42 : FVec F S2x160x128 .f32)
  (v44 : FVec F S2x160x128 .f32)
  (v46 : FVec F S2x160x128 .f32)
  (v48 : FVec F S2x160x128 .f32)
  (v50 : FVec F S2x160x128 .f32)
  (v52 : IVec S2x160x128 32)
  (v54 : IVec S2x160x128 32)
  (v56 : IVec S2x160x128 32)
  (v58 : IVec S2x160x128 32)
  (v59 : Vec F S2x160x128 .f32)
  (v60 : Vec F S2x160x128 .f32)
  (v61 : Vec F S2x160x128 .f32)
  (v62 : Vec F S2x160x128 .f32)
  (v63 : IVec S1x300 32)
  (c1073741824_i32 : BitVec 32)
  (c0_i32 : BitVec 32)
  (c1_i32 : BitVec 32)

variable (d : Dev nD) (s : St F arg6 arg7 arg8 arg9 arg10 arg11 arg12)

/-- What pair `c` carries before trip `k`. -/
theorem carOf_states (c : Fin 4) (k : ℕ) (hk : k ≤ k1_t1_loop.trips) :
    carOf arg6 arg7 arg8 arg9 arg10 arg11 arg12 c (states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 d s k) = carAt (geoOf v20 v22 v24 v26 v28 v30 v32 v34 v36 v38 v40 v42 v44 v46 v48 v50 v52 v54 v56 v58 v59 v60 v61 v62 c) c1073741824_i32 (carOf arg6 arg7 arg8 arg9 arg10 arg11 arg12 c s) k := by
  induction k with
  | zero => rfl
  | succ k ih =>
    rw [states_succ arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 d s ⟨k, hk⟩, carOf_next, ih (Nat.le_of_succ_le hk), carAt]

variable (hm : ∀ (k : Fin k1_t1_loop.trips) (j : Fin 300), Gen.k1_pay2 v63 c0_i32 c1_i32 k (ix2 (0 : Fin 1) j) = 1 ↔ j.val = k.val)

include hm in
/-- Before trip `k` every column below `k` of this result holds what its trip wrote. -/
theorem rdO_states6 (c : Fin 4) (b : Fin 2) (j : Fin 300) (k : ℕ) (hk : k ≤ k1_t1_loop.trips) (hj : j.val < k) :
    rdO arg6 c (states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 d s k).f6 (ix2 b j)
      = outSc (carAt (geoOf v20 v22 v24 v26 v28 v30 v32 v34 v36 v38 v40 v42 v44 v46 v48 v50 v52 v54 v56 v58 v59 v60 v61 v62 c) c1073741824_i32 (carOf arg6 arg7 arg8 arg9 arg10 arg11 arg12 c s) j.val) (ix2 b (0 : Fin 1)) := by
  induction k with
  | zero => exact absurd hj (Nat.not_lt_zero _)
  | succ k ih =>
    rw [states_succ arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 d s ⟨k, hk⟩, rdO_next6, upd_apply]
    by_cases e : j.val = k
    · rw [if_pos ((hm ⟨k, hk⟩ j).2 e), carOf_states (hk := Nat.le_of_succ_le hk), e]
    · rw [if_neg (fun h => e ((hm ⟨k, hk⟩ j).1 h))]
      exact ih (Nat.le_of_succ_le hk) (by omega)

include hm in
/-- Before trip `k` every column below `k` of this result holds what its trip wrote. -/
theorem rdO_states7 (c : Fin 4) (b : Fin 2) (j : Fin 300) (k : ℕ) (hk : k ≤ k1_t1_loop.trips) (hj : j.val < k) :
    rdO arg7 c (states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 d s k).f7 (ix2 b j)
      = outLab (geoOf v20 v22 v24 v26 v28 v30 v32 v34 v36 v38 v40 v42 v44 v46 v48 v50 v52 v54 v56 v58 v59 v60 v61 v62 c) c1073741824_i32 (carAt (geoOf v20 v22 v24 v26 v28 v30 v32 v34 v36 v38 v40 v42 v44 v46 v48 v50 v52 v54 v56 v58 v59 v60 v61 v62 c) c1073741824_i32 (carOf arg6 arg7 arg8 arg9 arg10 arg11 arg12 c s) j.val) (ix2 b (0 : Fin 1)) := by
  induction k with
  | zero => exact absurd hj (Nat.not_lt_zero _)
  | succ k ih =>
    rw [states_succ arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 d s ⟨k, hk⟩, rdO_next7, upd_apply]
    by_cases e : j.val = k
    · rw [if_pos ((hm ⟨k, hk⟩ j).2 e), carOf_states (hk := Nat.le_of_succ_le hk), e]
    · rw [if_neg (fun h => e ((hm ⟨k, hk⟩ j).1 h))]
      exact ih (Nat.le_of_succ_le hk) (by omega)

include hm in
/-- Before trip `k` every column below `k` of this result holds what its trip wrote. -/
theorem rdO_states8 (c : Fin 4) (b : Fin 2) (j : Fin 300) (k : ℕ) (hk : k ≤ k1_t1_loop.trips) (hj : j.val < k) :
    rdO arg8 c (states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 d s k).f8 (ix2 b j)
      = outX1 (geoOf v20 v22 v24 v26 v28 v30 v32 v34 v36 v38 v40 v42 v44 v46 v48 v50 v52 v54 v56 v58 v59 v60 v61 v62 c) c1073741824_i32 (carAt (geoOf v20 v22 v24 v26 v28 v30 v32 v34 v36 v38 v40 v42 v44 v46 v48 v50 v52 v54 v56 v58 v59 v60 v61 v62 c) c1073741824_i32 (carOf arg6 arg7 arg8 arg9 arg10 arg11 arg12 c s) j.val) (ix2 b (0 : Fin 1)) := by
  induction k with
  | zero => exact absurd hj (Nat.not_lt_zero _)
  | succ k ih =>
    rw [states_succ arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 d s ⟨k, hk⟩, rdO_next8, upd_apply]
    by_cases e : j.val = k
    · rw [if_pos ((hm ⟨k, hk⟩ j).2 e), carOf_states (hk := Nat.le_of_succ_le hk), e]
    · rw [if_neg (fun h => e ((hm ⟨k, hk⟩ j).1 h))]
      exact ih (Nat.le_of_succ_le hk) (by omega)

include hm in
/-- Before trip `k` every column below `k` of this result holds what its trip wrote. -/
theorem rdO_states9 (c : Fin 4) (b : Fin 2) (j : Fin 300) (k : ℕ) (hk : k ≤ k1_t1_loop.trips) (hj : j.val < k) :
    rdO arg9 c (states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 d s k).f9 (ix2 b j)
      = outY1 (geoOf v20 v22 v24 v26 v28 v30 v32 v34 v36 v38 v40 v42 v44 v46 v48 v50 v52 v54 v56 v58 v59 v60 v61 v62 c) c1073741824_i32 (carAt (geoOf v20 v22 v24 v26 v28 v30 v32 v34 v36 v38 v40 v42 v44 v46 v48 v50 v52 v54 v56 v58 v59 v60 v61 v62 c) c1073741824_i32 (carOf arg6 arg7 arg8 arg9 arg10 arg11 arg12 c s) j.val) (ix2 b (0 : Fin 1)) := by
  induction k with
  | zero => exact absurd hj (Nat.not_lt_zero _)
  | succ k ih =>
    rw [states_succ arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 d s ⟨k, hk⟩, rdO_next9, upd_apply]
    by_cases e : j.val = k
    · rw [if_pos ((hm ⟨k, hk⟩ j).2 e), carOf_states (hk := Nat.le_of_succ_le hk), e]
    · rw [if_neg (fun h => e ((hm ⟨k, hk⟩ j).1 h))]
      exact ih (Nat.le_of_succ_le hk) (by omega)

include hm in
/-- Before trip `k` every column below `k` of this result holds what its trip wrote. -/
theorem rdO_states10 (c : Fin 4) (b : Fin 2) (j : Fin 300) (k : ℕ) (hk : k ≤ k1_t1_loop.trips) (hj : j.val < k) :
    rdO arg10 c (states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 d s k).f10 (ix2 b j)
      = outX2 (geoOf v20 v22 v24 v26 v28 v30 v32 v34 v36 v38 v40 v42 v44 v46 v48 v50 v52 v54 v56 v58 v59 v60 v61 v62 c) c1073741824_i32 (carAt (geoOf v20 v22 v24 v26 v28 v30 v32 v34 v36 v38 v40 v42 v44 v46 v48 v50 v52 v54 v56 v58 v59 v60 v61 v62 c) c1073741824_i32 (carOf arg6 arg7 arg8 arg9 arg10 arg11 arg12 c s) j.val) (ix2 b (0 : Fin 1)) := by
  induction k with
  | zero => exact absurd hj (Nat.not_lt_zero _)
  | succ k ih =>
    rw [states_succ arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 d s ⟨k, hk⟩, rdO_next10, upd_apply]
    by_cases e : j.val = k
    · rw [if_pos ((hm ⟨k, hk⟩ j).2 e), carOf_states (hk := Nat.le_of_succ_le hk), e]
    · rw [if_neg (fun h => e ((hm ⟨k, hk⟩ j).1 h))]
      exact ih (Nat.le_of_succ_le hk) (by omega)

include hm in
/-- Before trip `k` every column below `k` of this result holds what its trip wrote. -/
theorem rdO_states11 (c : Fin 4) (b : Fin 2) (j : Fin 300) (k : ℕ) (hk : k ≤ k1_t1_loop.trips) (hj : j.val < k) :
    rdO arg11 c (states arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 d s k).f11 (ix2 b j)
      = outY2 (geoOf v20 v22 v24 v26 v28 v30 v32 v34 v36 v38 v40 v42 v44 v46 v48 v50 v52 v54 v56 v58 v59 v60 v61 v62 c) c1073741824_i32 (carAt (geoOf v20 v22 v24 v26 v28 v30 v32 v34 v36 v38 v40 v42 v44 v46 v48 v50 v52 v54 v56 v58 v59 v60 v61 v62 c) c1073741824_i32 (carOf arg6 arg7 arg8 arg9 arg10 arg11 arg12 c s) j.val) (ix2 b (0 : Fin 1)) := by
  induction k with
  | zero => exact absurd hj (Nat.not_lt_zero _)
  | succ k ih =>
    rw [states_succ arg0 harg0 arg1 harg1 arg2 harg2 arg3 harg3 arg4 harg4 arg5 harg5 arg6 harg6 arg7 harg7 arg8 harg8 arg9 harg9 arg10 harg10 arg11 harg11 arg12 harg12 arg13 harg13 v20 v22 v24 v26 v28 v30 v32 v34 v36 v38 v40 v42 v44 v46 v48 v50 v52 v54 v56 v58 v59 v60 v61 v62 v63 c1073741824_i32 c0_i32 c1_i32 d s ⟨k, hk⟩, rdO_next11, upd_apply]
    by_cases e : j.val = k
    · rw [if_pos ((hm ⟨k, hk⟩ j).2 e), carOf_states (hk := Nat.le_of_succ_le hk), e]
    · rw [if_neg (fun h => e ((hm ⟨k, hk⟩ j).1 h))]
      exact ih (Nat.le_of_succ_le hk) (by omega)

end Cert.Proof.KernelIdeal

end
-- ==== Proof.IdealNmsVal.lean ====
/- What the suppression kernel leaves in its six results: a function of its six operands alone. -/
module

public import proofs.«01_k».proof.Proof.IdealNms
public import proofs.«01_k».proof.Proof.IdealStates
public import Idealize.ShloMosaic.Lib.VecWindow

@[expose] public section

set_option maxRecDepth 65536
set_option maxHeartbeats 1000000

noncomputable section

namespace Cert.Proof.KernelIdeal

open Cert.KernelIdeal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- The two rows of pair `c` in a table of eight. -/
def rows {α : Type} (c : Fin 4) (T : S8x160x128.Idx → α) : S2x160x128.Idx → α :=
  fun x => T (ix3 (n0 := 8) ⟨2 * c.val + (x 0).val, by have : (x 0).val < 2 := (x 0).isLt; omega⟩ (x 1) (x 2))

theorem rd12_eq (M : Memref sig .tc .vmem S8x160x128 .f32) (c : Fin 4) (f : M.view.ty.Contents (Elt F)) :
    rd12 M c f = rows c (M.view.read (Elt F) f) := by
  revert c
  refine forall_pairs ?_ ?_ ?_ ?_
  all_goals
    unfold rd12 rows
    funext x
    dsimp only
    rw [View.readAt_apply]
    refine congrArg (M.view.read (Elt F) f) (funext fun a => Fin.ext ?_)
    fin_cases a
    all_goals simp [ix3, Rect.unit, LoadRect.idx]

theorem inb_pair (c : Fin 4) : ∀ a, (![2 * c.val, 0, 0] : Fin 3 → ℕ) a + S2x160x128.size a ≤ S8x160x128.size a := by
  intro a
  have := c.isLt
  fin_cases a <;> simp <;> omega

theorem rdI_eq (M : Memref sig .tc .vmem S8x160x128 .i32) (c : Fin 4) (f : M.view.ty.Contents (Elt F)) :
    View.readAt (Elt F) M.view (Rect.unit (s := S8x160x128) ![2 * c.val, 0, 0] S2x160x128.size (inb_pair c)).toLoadRect f
      = rows c (M.view.read (Elt F) f) := by
  funext x
  rw [View.readAt_apply]
  refine congrArg (M.view.read (Elt F) f) (funext fun a => Fin.ext ?_)
  fin_cases a
  all_goals simp [ix3, Rect.unit, LoadRect.idx]

theorem read_of_rdO {e : EltTy} (M : Memref sig .tc .vmem S8x300 e) (f : M.view.ty.Contents (Elt F)) (v : S8x300.Idx → Elt F e)
    (h : ∀ (c : Fin 4) (b : Fin 2) (j : Fin 300),
      rdO M c f (ix2 b j) = v (ix2 (n0 := 8) ⟨2 * c.val + b.val, by omega⟩ j)) : M.view.read (Elt F) f = v := by
  have hr : ∀ (c : Fin 4) (b : Fin 2) (j : Fin 300),
      rdO M c f (ix2 b j) = M.view.read (Elt F) f (ix2 (n0 := 8) ⟨2 * c.val + b.val, by omega⟩ j) := by
    refine forall_pairs ?_ ?_ ?_ ?_
    all_goals
      intro b j
      unfold rdO
      dsimp only
      rw [View.readAt_apply]
      refine congrArg (M.view.read (Elt F) f) (funext fun a => Fin.ext ?_)
      fin_cases a
      all_goals simp [ix2, Rect.unit, LoadRect.idx]
  funext x
  have hx : (x 0).val < 8 := (x 0).isLt
  have e : x = ix2 (n0 := 8) ⟨2 * ((x 0).val / 2) + (x 0).val % 2, by omega⟩ (x 1) := by
    funext a
    refine Fin.ext ?_
    fin_cases a
    · show (x 0).val = 2 * ((x 0).val / 2) + (x 0).val % 2
      omega
    · rfl
  rw [e]
  exact (hr ⟨(x 0).val / 2, by omega⟩ ⟨(x 0).val % 2, by omega⟩ (x 1)).symm.trans (h ⟨(x 0).val / 2, by omega⟩ ⟨(x 0).val % 2, by omega⟩ (x 1))

/-- The areas of a table of boxes. -/
def areaOf (x1 y1 x2 y2 : FVec F S8x160x128 .f32) : FVec F S8x160x128 .f32 := mulf (subf x2 x1) (subf y2 y1)

/-- The fixed values of pair `c`, out of the kernel's operands. -/
def geoIn (code : IVec S8x160x128 32) (x1 y1 x2 y2 : FVec F S8x160x128 .f32) (c : Fin 4) : Geo F :=
  ⟨rows c x1, rows c y1, rows c x2, rows c y2, rows c code, rows c (areaOf x1 y1 x2 y2)⟩

theorem geo_ext {g g' : Geo F} (h1 : g.x1 = g'.x1) (h2 : g.y1 = g'.y1) (h3 : g.x2 = g'.x2) (h4 : g.y2 = g'.y2)
    (h5 : g.code = g'.code) (h6 : g.area = g'.area) : g = g' := by
  cases g; cases g'
  simp_all

/-- What pair `c` carries into the loop. -/
def carIn (av : FVec F S8x160x128 .f32) (c : Fin 4) : Car F := ⟨Gen.k1_pay22 (rows c av), rows c av⟩

/-- The score and the corners a kernel run leaves at row `b` and column `j`: what trip `j` wrote for the pair of `b`. -/
def outOf {α : Type} (v : Geo F → Car F → S2x1.Idx → α) (av : FVec F S8x160x128 .f32) (code : IVec S8x160x128 32)
    (x1 y1 x2 y2 : FVec F S8x160x128 .f32) : S8x300.Idx → α := fun x =>
  let c : Fin 4 := ⟨(x 0).val / 2, by have : (x 0).val < 8 := (x 0).isLt; omega⟩
  v (geoIn code x1 y1 x2 y2 c) (carAt (geoIn code x1 y1 x2 y2 c) 1073741824#32 (carIn av c) (x 1).val)
    (ix2 (n0 := 2) ⟨(x 0).val % 2, Nat.mod_lt _ (by decide)⟩ (0 : Fin 1))

theorem outOf_ix2 {α : Type} (v : Geo F → Car F → S2x1.Idx → α) (av : FVec F S8x160x128 .f32) (code : IVec S8x160x128 32)
    (x1 y1 x2 y2 : FVec F S8x160x128 .f32) (c : Fin 4) (b : Fin 2) (j : Fin 300) :
    outOf v av code x1 y1 x2 y2 (ix2 (n0 := 8) ⟨2 * c.val + b.val, by omega⟩ j)
      = v (geoIn code x1 y1 x2 y2 c) (carAt (geoIn code x1 y1 x2 y2 c) 1073741824#32 (carIn av c) j.val) (ix2 b (0 : Fin 1)) := by
  have hc : (⟨(2 * c.val + b.val) / 2, by omega⟩ : Fin 4) = c := Fin.ext (by show (2 * c.val + b.val) / 2 = c.val; omega)
  have hb : (⟨(2 * c.val + b.val) % 2, Nat.mod_lt _ (by decide)⟩ : Fin 2) = b := Fin.ext (by show (2 * c.val + b.val) % 2 = b.val; omega)
  show v (geoIn code x1 y1 x2 y2 ⟨(2 * c.val + b.val) / 2, _⟩) (carAt (geoIn code x1 y1 x2 y2 ⟨(2 * c.val + b.val) / 2, _⟩) _ (carIn av ⟨(2 * c.val + b.val) / 2, _⟩) j.val)
    (ix2 (n0 := 2) ⟨(2 * c.val + b.val) % 2, _⟩ (0 : Fin 1)) = _
  rw [hc, hb]

/-- The mask of trip `k` is its column's. -/
theorem mask_iff (k : Fin k1_t1_loop.trips) (j : Fin 300) :
    Gen.k1_pay2 nms.sl.v63 0#32 1#32 k (ix2 (0 : Fin 1) j) = 1 ↔ j.val = k.val := by
  have hk : k.val < 300 := Nat.lt_of_lt_of_le k.isLt (by decide)
  have hj := j.isLt
  unfold Gen.k1_pay2 nms.sl.v63
  show Scalar.cmpi .eq (iota .tc S1x300 32 [1] _ (ix2 (0 : Fin 1) j)) (broadcast S1x300 (Scf.iv 0#32 1#32 k.val) (ix2 (0 : Fin 1) j)) = 1 ↔ _
  have hi : iota .tc S1x300 32 [1] Gen.iota_S1x300_d1_w32 (ix2 (0 : Fin 1) j) = BitVec.ofNat 32 j.val := by
    unfold iota
    simp [ix2]
  rw [hi]
  show BitVec.ofBool (BitVec.ofNat 32 j.val == 0#32 + BitVec.ofNat 32 k.val * 1#32) = 1 ↔ _
  have e : (BitVec.ofNat 32 j.val = 0#32 + BitVec.ofNat 32 k.val * 1#32) ↔ j.val = k.val := by
    rw [BitVec.zero_add, BitVec.mul_one, ← BitVec.toNat_inj, BitVec.toNat_ofNat, BitVec.toNat_ofNat,
      Nat.mod_eq_of_lt (by omega), Nat.mod_eq_of_lt (by omega)]
  rw [← e]
  by_cases h : BitVec.ofNat 32 j.val = 0#32 + BitVec.ofNat 32 k.val * 1#32
  · simp [h]
  · rw [beq_eq_false_iff_ne.2 h]
    exact ⟨fun h' => absurd h' (by decide), fun h' => absurd h' h⟩

variable (arg0 : Memref sig .tc .vmem S8x160x128 .f32)
  (harg0 : arg0.IsWhole)
  (arg1 : Memref sig .tc .vmem S8x160x128 .i32)
  (harg1 : arg1.IsWhole)
  (arg2 : Memref sig .tc .vmem S8x160x128 .f32)
  (harg2 : arg2.IsWhole)
  (arg3 : Memref sig .tc .vmem S8x160x128 .f32)
  (harg3 : arg3.IsWhole)
  (arg4 : Memref sig .tc .vmem S8x160x128 .f32)
  (harg4 : arg4.IsWhole)
  (arg5 : Memref sig .tc .vmem S8x160x128 .f32)
  (harg5 : arg5.IsWhole)
  (arg6 : Memref sig .tc .vmem S8x300 .f32)
  (harg6 : arg6.IsWhole)
  (arg7 : Memref sig .tc .vmem S8x300 .i32)
  (harg7 : arg7.IsWhole)
  (arg8 : Memref sig .tc .vmem S8x300 .f32)
  (harg8 : arg8.IsWhole)
  (arg9 : Memref sig .tc .vmem S8x300 .f32)
  (harg9 : arg9.IsWhole)
  (arg10 : Memref sig .tc .vmem S8x300 .f32)
  (harg10 : arg10.IsWhole)
  (arg11 : Memref sig .tc .vmem S8x300 .f32)
  (harg11 : arg11.IsWhole)
  (arg12 : Memref sig .tc .vmem S8x160x128 .f32)
  (harg12 : arg12.IsWhole)
  (arg13 : Memref sig .tc .vmem S8x160x128 .f32)
  (harg13 : arg13.IsWhole)

variable (d : Dev nD) (f0 : arg0.view.ty.Contents (Elt F)) (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F))

/-- The fixed values the loop is entered with. -/
theorem geoOf_nms (c : Fin 4) :
    geoOf (nms.sl.r_1 arg2 f2) (nms.sl.r_2 arg2 f2) (nms.sl.r_3 arg2 f2) (nms.sl.v26 arg2 f2)
      (nms.sl.v28 arg3 f3) (nms.sl.v30 arg3 f3) (nms.sl.v32 arg3 f3) (nms.sl.v34 arg3 f3)
      (nms.sl.v36 arg4 f4) (nms.sl.v38 arg4 f4) (nms.sl.v40 arg4 f4) (nms.sl.v42 arg4 f4)
      (nms.sl.v44 arg5 f5) (nms.sl.v46 arg5 f5) (nms.sl.v48 arg5 f5) (nms.sl.r_4 arg5 f5)
      (nms.sl.r_5 arg1 f1) (nms.sl.r_6 arg1 f1) (nms.sl.r_7 arg1 f1) (nms.sl.r_8 arg1 f1)
      (nms.sl.v59 arg2 arg3 arg4 arg5 arg13 f2 f3 f4 f5) (nms.sl.v60 arg2 arg3 arg4 arg5 arg13 f2 f3 f4 f5) (nms.sl.v61 arg2 arg3 arg4 arg5 arg13 f2 f3 f4 f5) (nms.sl.v62 arg2 arg3 arg4 arg5 arg13 f2 f3 f4 f5) c
      = geoIn (arg1.view.read (Elt F) f1) (arg2.view.read (Elt F) f2) (arg3.view.read (Elt F) f3) (arg4.view.read (Elt F) f4)
          (arg5.view.read (Elt F) f5) c := by
  have full : ∀ (M : Memref sig .tc .vmem S8x160x128 .f32) (f : M.view.ty.Contents (Elt F)),
      View.readAt (Elt F) M.view (Rect.unit (s := S8x160x128) ![0, 0, 0] S8x160x128.size Gen.inb_S8x160x128_S8x160x128_0_0_0).toLoadRect f = M.view.read (Elt F) f :=
    fun M f => View.readAt_full _ _ _
  have ha : ∀ c, rd12 arg13 c (arg13.view.writes (Elt F) arg13.view.junk (nms.sl.H13_1 arg2 arg3 arg4 arg5 f2 f3 f4 f5))
      = rows c (areaOf (arg2.view.read (Elt F) f2) (arg3.view.read (Elt F) f3) (arg4.view.read (Elt F) f4) (arg5.view.read (Elt F) f5)) := by
    intro c
    rw [rd12_eq]
    refine congrArg (rows c) ?_
    unfold nms.sl.H13_1
    refine (View.read_writes_full _ _ _ _ _).trans ?_
    unfold Gen.k1_pay94 areaOf
    simp only [shapeCast_self, full]
  revert c
  refine forall_pairs ?_ ?_ ?_ ?_
  · refine geo_ext ?_ ?_ ?_ ?_ ?_ ?_
    · exact (shapeCast_self _ _).trans (rd12_eq arg2 0 f2)
    · exact (shapeCast_self _ _).trans (rd12_eq arg3 0 f3)
    · exact (shapeCast_self _ _).trans (rd12_eq arg4 0 f4)
    · exact (shapeCast_self _ _).trans (rd12_eq arg5 0 f5)
    · exact (shapeCast_self _ _).trans (rdI_eq arg1 0 f1)
    · exact ha 0
  · refine geo_ext ?_ ?_ ?_ ?_ ?_ ?_
    · exact (shapeCast_self _ _).trans (rd12_eq arg2 1 f2)
    · exact (shapeCast_self _ _).trans (rd12_eq arg3 1 f3)
    · exact (shapeCast_self _ _).trans (rd12_eq arg4 1 f4)
    · exact (shapeCast_self _ _).trans (rd12_eq arg5 1 f5)
    · exact (shapeCast_self _ _).trans (rdI_eq arg1 1 f1)
    · exact ha 1
  · refine geo_ext ?_ ?_ ?_ ?_ ?_ ?_
    · exact (shapeCast_self _ _).trans (rd12_eq arg2 2 f2)
    · exact (shapeCast_self _ _).trans (rd12_eq arg3 2 f3)
    · exact (shapeCast_self _ _).trans (rd12_eq arg4 2 f4)
    · exact (shapeCast_self _ _).trans (rd12_eq arg5 2 f5)
    · exact (shapeCast_self _ _).trans (rdI_eq arg1 2 f1)
    · exact ha 2
  · refine geo_ext ?_ ?_ ?_ ?_ ?_ ?_
    · exact (shapeCast_self _ _).trans (rd12_eq arg2 3 f2)
    · exact (shapeCast_self _ _).trans (rd12_eq arg3 3 f3)
    · exact (shapeCast_self _ _).trans (rd12_eq arg4 3 f4)
    · exact (shapeCast_self _ _).trans (rd12_eq arg5 3 f5)
    · exact (shapeCast_self _ _).trans (rdI_eq arg1 3 f1)
    · exact ha 3

/-- What the pairs carry into the loop. -/
theorem carOf_nms (c : Fin 4) :
    carOf arg6 arg7 arg8 arg9 arg10 arg11 arg12 c (⟨nms.sl.r_9 arg0 f0, nms.sl.r_10 arg0 f0, nms.sl.r_11 arg0 f0, nms.sl.r_12 arg0 f0, f6, f7, f8, f9, f10, f11,
        arg12.view.writes (Elt F) arg12.view.junk (nms.sl.H12_1 arg0 f0)⟩ : St F arg6 arg7 arg8 arg9 arg10 arg11 arg12)
      = carIn (arg0.view.read (Elt F) f0) c := by
  have full : nms.sl.r arg0 f0 = arg0.view.read (Elt F) f0 := by
    unfold nms.sl.r Gen.k1_pay92
    exact (shapeCast_self _ _).trans (View.readAt_full _ _ _)
  have hsl : ∀ (o : Fin 3 → ℕ) (h : S8x160x128.Slices o S2x160x128) (c : Fin 4) (ho : o = ![2 * c.val, 0, 0]),
      extractStridedSlice S2x160x128 o (arg0.view.read (Elt F) f0) h = rows c (arg0.view.read (Elt F) f0) := by
    intro o h c ho
    subst ho
    funext x
    exact extractStridedSlice_apply _ _ _ _ _ (by intro a; fin_cases a <;> simp [ix3])
  refine carOf_ext arg6 arg7 arg8 arg9 arg10 arg11 arg12 ?_ ?_
  · revert c
    refine forall_pairs ?_ ?_ ?_ ?_
    · show Gen.k1_pay115 (nms.sl.r arg0 f0) = Gen.k1_pay22 (rows 0 _)
      rw [full]; unfold Gen.k1_pay115 Gen.k1_pay22; dsimp only; rw [hsl ![0, 0, 0] Gen.slices_S8x160x128_o0_0_0_S2x160x128 0 rfl]
    · show Gen.k1_pay116 (nms.sl.r arg0 f0) = Gen.k1_pay22 (rows 1 _)
      rw [full]; unfold Gen.k1_pay116 Gen.k1_pay22; dsimp only; rw [hsl ![2, 0, 0] Gen.slices_S8x160x128_o2_0_0_S2x160x128 1 rfl]
    · show Gen.k1_pay117 (nms.sl.r arg0 f0) = Gen.k1_pay22 (rows 2 _)
      rw [full]; unfold Gen.k1_pay117 Gen.k1_pay22; dsimp only; rw [hsl ![4, 0, 0] Gen.slices_S8x160x128_o4_0_0_S2x160x128 2 rfl]
    · show Gen.k1_pay118 (nms.sl.r arg0 f0) = Gen.k1_pay22 (rows 3 _)
      rw [full]; unfold Gen.k1_pay118 Gen.k1_pay22; dsimp only; rw [hsl ![6, 0, 0] Gen.slices_S8x160x128_o6_0_0_S2x160x128 3 rfl]
  · rw [rd12_eq]
    show rows c _ = rows c (arg0.view.read (Elt F) f0)
    refine congrArg (rows c) ?_
    unfold nms.sl.H12_1
    refine (View.read_writes_full _ _ _ _ _).trans ?_
    unfold Gen.k1_pay93 Gen.k1_pay92
    exact ((shapeCast_self _ _).trans (shapeCast_self _ _)).trans (View.readAt_full _ _ _)

/-- Result 0. -/
theorem nms_read6 :
    arg6.view.read (Elt F) (nms arg0 harg0 arg1 harg1 arg2 harg2 arg3 harg3 arg4 harg4 arg5 harg5 arg6 harg6 arg7 harg7 arg8 harg8 arg9 harg9 arg10 harg10 arg11 harg11 arg12 harg12 arg13 harg13 d f0 f1 f2 f3 f4 f5 f6 f7 f8 f9 f10 f11 f12 f13).1
      = outOf (fun _ s => outSc s) (arg0.view.read (Elt F) f0) (arg1.view.read (Elt F) f1) (arg2.view.read (Elt F) f2)
          (arg3.view.read (Elt F) f3) (arg4.view.read (Elt F) f4) (arg5.view.read (Elt F) f5) := by
  have e : (nms arg0 harg0 arg1 harg1 arg2 harg2 arg3 harg3 arg4 harg4 arg5 harg5 arg6 harg6 arg7 harg7 arg8 harg8 arg9 harg9 arg10 harg10 arg11 harg11 arg12 harg12 arg13 harg13 d f0 f1 f2 f3 f4 f5 f6 f7 f8 f9 f10 f11 f12 f13).1 = (states arg0 harg0 arg1 harg1 arg2 harg2 arg3 harg3 arg4 harg4 arg5 harg5 arg6 harg6 arg7 harg7 arg8 harg8 arg9 harg9 arg10 harg10 arg11 harg11 arg12 harg12 arg13 harg13 (nms.sl.r_1 arg2 f2) (nms.sl.r_2 arg2 f2) (nms.sl.r_3 arg2 f2) (nms.sl.v26 arg2 f2)
      (nms.sl.v28 arg3 f3) (nms.sl.v30 arg3 f3) (nms.sl.v32 arg3 f3) (nms.sl.v34 arg3 f3)
      (nms.sl.v36 arg4 f4) (nms.sl.v38 arg4 f4) (nms.sl.v40 arg4 f4) (nms.sl.v42 arg4 f4)
      (nms.sl.v44 arg5 f5) (nms.sl.v46 arg5 f5) (nms.sl.v48 arg5 f5) (nms.sl.r_4 arg5 f5)
      (nms.sl.r_5 arg1 f1) (nms.sl.r_6 arg1 f1) (nms.sl.r_7 arg1 f1) (nms.sl.r_8 arg1 f1)
      (nms.sl.v59 arg2 arg3 arg4 arg5 arg13 f2 f3 f4 f5) (nms.sl.v60 arg2 arg3 arg4 arg5 arg13 f2 f3 f4 f5) (nms.sl.v61 arg2 arg3 arg4 arg5 arg13 f2 f3 f4 f5) (nms.sl.v62 arg2 arg3 arg4 arg5 arg13 f2 f3 f4 f5) nms.sl.v63 1073741824#32 0#32 1#32 d
      ⟨nms.sl.r_9 arg0 f0, nms.sl.r_10 arg0 f0, nms.sl.r_11 arg0 f0, nms.sl.r_12 arg0 f0, f6, f7, f8, f9, f10, f11,
        arg12.view.writes (Elt F) arg12.view.junk (nms.sl.H12_1 arg0 f0)⟩ k1_t1_loop.trips).f6 := by
    unfold nms; rfl
  rw [e]
  refine read_of_rdO arg6 _ _ fun c b j => ?_
  rw [rdO_states6 (hm := mask_iff) (hk := Nat.le_refl _) (hj := Nat.lt_of_lt_of_le j.isLt (by decide)), geoOf_nms, carOf_nms, outOf_ix2]

/-- Result 1. -/
theorem nms_read7 :
    arg7.view.read (Elt F) (nms arg0 harg0 arg1 harg1 arg2 harg2 arg3 harg3 arg4 harg4 arg5 harg5 arg6 harg6 arg7 harg7 arg8 harg8 arg9 harg9 arg10 harg10 arg11 harg11 arg12 harg12 arg13 harg13 d f0 f1 f2 f3 f4 f5 f6 f7 f8 f9 f10 f11 f12 f13).2.1
      = outOf (fun g s => outLab g 1073741824#32 s) (arg0.view.read (Elt F) f0) (arg1.view.read (Elt F) f1) (arg2.view.read (Elt F) f2)
          (arg3.view.read (Elt F) f3) (arg4.view.read (Elt F) f4) (arg5.view.read (Elt F) f5) := by
  have e : (nms arg0 harg0 arg1 harg1 arg2 harg2 arg3 harg3 arg4 harg4 arg5 harg5 arg6 harg6 arg7 harg7 arg8 harg8 arg9 harg9 arg10 harg10 arg11 harg11 arg12 harg12 arg13 harg13 d f0 f1 f2 f3 f4 f5 f6 f7 f8 f9 f10 f11 f12 f13).2.1 = (states arg0 harg0 arg1 harg1 arg2 harg2 arg3 harg3 arg4 harg4 arg5 harg5 arg6 harg6 arg7 harg7 arg8 harg8 arg9 harg9 arg10 harg10 arg11 harg11 arg12 harg12 arg13 harg13 (nms.sl.r_1 arg2 f2) (nms.sl.r_2 arg2 f2) (nms.sl.r_3 arg2 f2) (nms.sl.v26 arg2 f2)
      (nms.sl.v28 arg3 f3) (nms.sl.v30 arg3 f3) (nms.sl.v32 arg3 f3) (nms.sl.v34 arg3 f3)
      (nms.sl.v36 arg4 f4) (nms.sl.v38 arg4 f4) (nms.sl.v40 arg4 f4) (nms.sl.v42 arg4 f4)
      (nms.sl.v44 arg5 f5) (nms.sl.v46 arg5 f5) (nms.sl.v48 arg5 f5) (nms.sl.r_4 arg5 f5)
      (nms.sl.r_5 arg1 f1) (nms.sl.r_6 arg1 f1) (nms.sl.r_7 arg1 f1) (nms.sl.r_8 arg1 f1)
      (nms.sl.v59 arg2 arg3 arg4 arg5 arg13 f2 f3 f4 f5) (nms.sl.v60 arg2 arg3 arg4 arg5 arg13 f2 f3 f4 f5) (nms.sl.v61 arg2 arg3 arg4 arg5 arg13 f2 f3 f4 f5) (nms.sl.v62 arg2 arg3 arg4 arg5 arg13 f2 f3 f4 f5) nms.sl.v63 1073741824#32 0#32 1#32 d
      ⟨nms.sl.r_9 arg0 f0, nms.sl.r_10 arg0 f0, nms.sl.r_11 arg0 f0, nms.sl.r_12 arg0 f0, f6, f7, f8, f9, f10, f11,
        arg12.view.writes (Elt F) arg12.view.junk (nms.sl.H12_1 arg0 f0)⟩ k1_t1_loop.trips).f7 := by
    unfold nms; rfl
  rw [e]
  refine read_of_rdO arg7 _ _ fun c b j => ?_
  rw [rdO_states7 (hm := mask_iff) (hk := Nat.le_refl _) (hj := Nat.lt_of_lt_of_le j.isLt (by decide)), geoOf_nms, carOf_nms, outOf_ix2]

/-- Result 2. -/
theorem nms_read8 :
    arg8.view.read (Elt F) (nms arg0 harg0 arg1 harg1 arg2 harg2 arg3 harg3 arg4 harg4 arg5 harg5 arg6 harg6 arg7 harg7 arg8 harg8 arg9 harg9 arg10 harg10 arg11 harg11 arg12 harg12 arg13 harg13 d f0 f1 f2 f3 f4 f5 f6 f7 f8 f9 f10 f11 f12 f13).2.2.1
      = outOf (fun g s => outX1 g 1073741824#32 s) (arg0.view.read (Elt F) f0) (arg1.view.read (Elt F) f1) (arg2.view.read (Elt F) f2)
          (arg3.view.read (Elt F) f3) (arg4.view.read (Elt F) f4) (arg5.view.read (Elt F) f5) := by
  have e : (nms arg0 harg0 arg1 harg1 arg2 harg2 arg3 harg3 arg4 harg4 arg5 harg5 arg6 harg6 arg7 harg7 arg8 harg8 arg9 harg9 arg10 harg10 arg11 harg11 arg12 harg12 arg13 harg13 d f0 f1 f2 f3 f4 f5 f6 f7 f8 f9 f10 f11 f12 f13).2.2.1 = (states arg0 harg0 arg1 harg1 arg2 harg2 arg3 harg3 arg4 harg4 arg5 harg5 arg6 harg6 arg7 harg7 arg8 harg8 arg9 harg9 arg10 harg10 arg11 harg11 arg12 harg12 arg13 harg13 (nms.sl.r_1 arg2 f2) (nms.sl.r_2 arg2 f2) (nms.sl.r_3 arg2 f2) (nms.sl.v26 arg2 f2)
      (nms.sl.v28 arg3 f3) (nms.sl.v30 arg3 f3) (nms.sl.v32 arg3 f3) (nms.sl.v34 arg3 f3)
      (nms.sl.v36 arg4 f4) (nms.sl.v38 arg4 f4) (nms.sl.v40 arg4 f4) (nms.sl.v42 arg4 f4)
      (nms.sl.v44 arg5 f5) (nms.sl.v46 arg5 f5) (nms.sl.v48 arg5 f5) (nms.sl.r_4 arg5 f5)
      (nms.sl.r_5 arg1 f1) (nms.sl.r_6 arg1 f1) (nms.sl.r_7 arg1 f1) (nms.sl.r_8 arg1 f1)
      (nms.sl.v59 arg2 arg3 arg4 arg5 arg13 f2 f3 f4 f5) (nms.sl.v60 arg2 arg3 arg4 arg5 arg13 f2 f3 f4 f5) (nms.sl.v61 arg2 arg3 arg4 arg5 arg13 f2 f3 f4 f5) (nms.sl.v62 arg2 arg3 arg4 arg5 arg13 f2 f3 f4 f5) nms.sl.v63 1073741824#32 0#32 1#32 d
      ⟨nms.sl.r_9 arg0 f0, nms.sl.r_10 arg0 f0, nms.sl.r_11 arg0 f0, nms.sl.r_12 arg0 f0, f6, f7, f8, f9, f10, f11,
        arg12.view.writes (Elt F) arg12.view.junk (nms.sl.H12_1 arg0 f0)⟩ k1_t1_loop.trips).f8 := by
    unfold nms; rfl
  rw [e]
  refine read_of_rdO arg8 _ _ fun c b j => ?_
  rw [rdO_states8 (hm := mask_iff) (hk := Nat.le_refl _) (hj := Nat.lt_of_lt_of_le j.isLt (by decide)), geoOf_nms, carOf_nms, outOf_ix2]

/-- Result 3. -/
theorem nms_read9 :
    arg9.view.read (Elt F) (nms arg0 harg0 arg1 harg1 arg2 harg2 arg3 harg3 arg4 harg4 arg5 harg5 arg6 harg6 arg7 harg7 arg8 harg8 arg9 harg9 arg10 harg10 arg11 harg11 arg12 harg12 arg13 harg13 d f0 f1 f2 f3 f4 f5 f6 f7 f8 f9 f10 f11 f12 f13).2.2.2.1
      = outOf (fun g s => outY1 g 1073741824#32 s) (arg0.view.read (Elt F) f0) (arg1.view.read (Elt F) f1) (arg2.view.read (Elt F) f2)
          (arg3.view.read (Elt F) f3) (arg4.view.read (Elt F) f4) (arg5.view.read (Elt F) f5) := by
  have e : (nms arg0 harg0 arg1 harg1 arg2 harg2 arg3 harg3 arg4 harg4 arg5 harg5 arg6 harg6 arg7 harg7 arg8 harg8 arg9 harg9 arg10 harg10 arg11 harg11 arg12 harg12 arg13 harg13 d f0 f1 f2 f3 f4 f5 f6 f7 f8 f9 f10 f11 f12 f13).2.2.2.1 = (states arg0 harg0 arg1 harg1 arg2 harg2 arg3 harg3 arg4 harg4 arg5 harg5 arg6 harg6 arg7 harg7 arg8 harg8 arg9 harg9 arg10 harg10 arg11 harg11 arg12 harg12 arg13 harg13 (nms.sl.r_1 arg2 f2) (nms.sl.r_2 arg2 f2) (nms.sl.r_3 arg2 f2) (nms.sl.v26 arg2 f2)
      (nms.sl.v28 arg3 f3) (nms.sl.v30 arg3 f3) (nms.sl.v32 arg3 f3) (nms.sl.v34 arg3 f3)
      (nms.sl.v36 arg4 f4) (nms.sl.v38 arg4 f4) (nms.sl.v40 arg4 f4) (nms.sl.v42 arg4 f4)
      (nms.sl.v44 arg5 f5) (nms.sl.v46 arg5 f5) (nms.sl.v48 arg5 f5) (nms.sl.r_4 arg5 f5)
      (nms.sl.r_5 arg1 f1) (nms.sl.r_6 arg1 f1) (nms.sl.r_7 arg1 f1) (nms.sl.r_8 arg1 f1)
      (nms.sl.v59 arg2 arg3 arg4 arg5 arg13 f2 f3 f4 f5) (nms.sl.v60 arg2 arg3 arg4 arg5 arg13 f2 f3 f4 f5) (nms.sl.v61 arg2 arg3 arg4 arg5 arg13 f2 f3 f4 f5) (nms.sl.v62 arg2 arg3 arg4 arg5 arg13 f2 f3 f4 f5) nms.sl.v63 1073741824#32 0#32 1#32 d
      ⟨nms.sl.r_9 arg0 f0, nms.sl.r_10 arg0 f0, nms.sl.r_11 arg0 f0, nms.sl.r_12 arg0 f0, f6, f7, f8, f9, f10, f11,
        arg12.view.writes (Elt F) arg12.view.junk (nms.sl.H12_1 arg0 f0)⟩ k1_t1_loop.trips).f9 := by
    unfold nms; rfl
  rw [e]
  refine read_of_rdO arg9 _ _ fun c b j => ?_
  rw [rdO_states9 (hm := mask_iff) (hk := Nat.le_refl _) (hj := Nat.lt_of_lt_of_le j.isLt (by decide)), geoOf_nms, carOf_nms, outOf_ix2]

/-- Result 4. -/
theorem nms_read10 :
    arg10.view.read (Elt F) (nms arg0 harg0 arg1 harg1 arg2 harg2 arg3 harg3 arg4 harg4 arg5 harg5 arg6 harg6 arg7 harg7 arg8 harg8 arg9 harg9 arg10 harg10 arg11 harg11 arg12 harg12 arg13 harg13 d f0 f1 f2 f3 f4 f5 f6 f7 f8 f9 f10 f11 f12 f13).2.2.2.2.1
      = outOf (fun g s => outX2 g 1073741824#32 s) (arg0.view.read (Elt F) f0) (arg1.view.read (Elt F) f1) (arg2.view.read (Elt F) f2)
          (arg3.view.read (Elt F) f3) (arg4.view.read (Elt F) f4) (arg5.view.read (Elt F) f5) := by
  have e : (nms arg0 harg0 arg1 harg1 arg2 harg2 arg3 harg3 arg4 harg4 arg5 harg5 arg6 harg6 arg7 harg7 arg8 harg8 arg9 harg9 arg10 harg10 arg11 harg11 arg12 harg12 arg13 harg13 d f0 f1 f2 f3 f4 f5 f6 f7 f8 f9 f10 f11 f12 f13).2.2.2.2.1 = (states arg0 harg0 arg1 harg1 arg2 harg2 arg3 harg3 arg4 harg4 arg5 harg5 arg6 harg6 arg7 harg7 arg8 harg8 arg9 harg9 arg10 harg10 arg11 harg11 arg12 harg12 arg13 harg13 (nms.sl.r_1 arg2 f2) (nms.sl.r_2 arg2 f2) (nms.sl.r_3 arg2 f2) (nms.sl.v26 arg2 f2)
      (nms.sl.v28 arg3 f3) (nms.sl.v30 arg3 f3) (nms.sl.v32 arg3 f3) (nms.sl.v34 arg3 f3)
      (nms.sl.v36 arg4 f4) (nms.sl.v38 arg4 f4) (nms.sl.v40 arg4 f4) (nms.sl.v42 arg4 f4)
      (nms.sl.v44 arg5 f5) (nms.sl.v46 arg5 f5) (nms.sl.v48 arg5 f5) (nms.sl.r_4 arg5 f5)
      (nms.sl.r_5 arg1 f1) (nms.sl.r_6 arg1 f1) (nms.sl.r_7 arg1 f1) (nms.sl.r_8 arg1 f1)
      (nms.sl.v59 arg2 arg3 arg4 arg5 arg13 f2 f3 f4 f5) (nms.sl.v60 arg2 arg3 arg4 arg5 arg13 f2 f3 f4 f5) (nms.sl.v61 arg2 arg3 arg4 arg5 arg13 f2 f3 f4 f5) (nms.sl.v62 arg2 arg3 arg4 arg5 arg13 f2 f3 f4 f5) nms.sl.v63 1073741824#32 0#32 1#32 d
      ⟨nms.sl.r_9 arg0 f0, nms.sl.r_10 arg0 f0, nms.sl.r_11 arg0 f0, nms.sl.r_12 arg0 f0, f6, f7, f8, f9, f10, f11,
        arg12.view.writes (Elt F) arg12.view.junk (nms.sl.H12_1 arg0 f0)⟩ k1_t1_loop.trips).f10 := by
    unfold nms; rfl
  rw [e]
  refine read_of_rdO arg10 _ _ fun c b j => ?_
  rw [rdO_states10 (hm := mask_iff) (hk := Nat.le_refl _) (hj := Nat.lt_of_lt_of_le j.isLt (by decide)), geoOf_nms, carOf_nms, outOf_ix2]

/-- Result 5. -/
theorem nms_read11 :
    arg11.view.read (Elt F) (nms arg0 harg0 arg1 harg1 arg2 harg2 arg3 harg3 arg4 harg4 arg5 harg5 arg6 harg6 arg7 harg7 arg8 harg8 arg9 harg9 arg10 harg10 arg11 harg11 arg12 harg12 arg13 harg13 d f0 f1 f2 f3 f4 f5 f6 f7 f8 f9 f10 f11 f12 f13).2.2.2.2.2.1
      = outOf (fun g s => outY2 g 1073741824#32 s) (arg0.view.read (Elt F) f0) (arg1.view.read (Elt F) f1) (arg2.view.read (Elt F) f2)
          (arg3.view.read (Elt F) f3) (arg4.view.read (Elt F) f4) (arg5.view.read (Elt F) f5) := by
  have e : (nms arg0 harg0 arg1 harg1 arg2 harg2 arg3 harg3 arg4 harg4 arg5 harg5 arg6 harg6 arg7 harg7 arg8 harg8 arg9 harg9 arg10 harg10 arg11 harg11 arg12 harg12 arg13 harg13 d f0 f1 f2 f3 f4 f5 f6 f7 f8 f9 f10 f11 f12 f13).2.2.2.2.2.1 = (states arg0 harg0 arg1 harg1 arg2 harg2 arg3 harg3 arg4 harg4 arg5 harg5 arg6 harg6 arg7 harg7 arg8 harg8 arg9 harg9 arg10 harg10 arg11 harg11 arg12 harg12 arg13 harg13 (nms.sl.r_1 arg2 f2) (nms.sl.r_2 arg2 f2) (nms.sl.r_3 arg2 f2) (nms.sl.v26 arg2 f2)
      (nms.sl.v28 arg3 f3) (nms.sl.v30 arg3 f3) (nms.sl.v32 arg3 f3) (nms.sl.v34 arg3 f3)
      (nms.sl.v36 arg4 f4) (nms.sl.v38 arg4 f4) (nms.sl.v40 arg4 f4) (nms.sl.v42 arg4 f4)
      (nms.sl.v44 arg5 f5) (nms.sl.v46 arg5 f5) (nms.sl.v48 arg5 f5) (nms.sl.r_4 arg5 f5)
      (nms.sl.r_5 arg1 f1) (nms.sl.r_6 arg1 f1) (nms.sl.r_7 arg1 f1) (nms.sl.r_8 arg1 f1)
      (nms.sl.v59 arg2 arg3 arg4 arg5 arg13 f2 f3 f4 f5) (nms.sl.v60 arg2 arg3 arg4 arg5 arg13 f2 f3 f4 f5) (nms.sl.v61 arg2 arg3 arg4 arg5 arg13 f2 f3 f4 f5) (nms.sl.v62 arg2 arg3 arg4 arg5 arg13 f2 f3 f4 f5) nms.sl.v63 1073741824#32 0#32 1#32 d
      ⟨nms.sl.r_9 arg0 f0, nms.sl.r_10 arg0 f0, nms.sl.r_11 arg0 f0, nms.sl.r_12 arg0 f0, f6, f7, f8, f9, f10, f11,
        arg12.view.writes (Elt F) arg12.view.junk (nms.sl.H12_1 arg0 f0)⟩ k1_t1_loop.trips).f11 := by
    unfold nms; rfl
  rw [e]
  refine read_of_rdO arg11 _ _ fun c b j => ?_
  rw [rdO_states11 (hm := mask_iff) (hk := Nat.le_refl _) (hj := Nat.lt_of_lt_of_le j.isLt (by decide)), geoOf_nms, carOf_nms, outOf_ix2]

end Cert.Proof.KernelIdeal

end
-- ==== Proof.IdealTriples.lean ====
/- The two kernels over memrefs owned at what they read: the results' contents are functions of the operands'. -/
module

public import proofs.«01_k».proof.Proof.IdealScore
public import proofs.«01_k».proof.Proof.IdealNmsVal
public import Idealize.ShloMosaic.Lib.Pipeline.Kit

@[expose] public section

set_option maxRecDepth 65536
set_option maxHeartbeats 1000000

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- A whole memref owned at what it reads: its buffer held at some contents that read so. -/
theorem owns_of_whole {sp : Space} {s : Shape} {e : EltTy} (c : Dev nD) (M : Memref sig .tc sp s e) (h : M.IsWhole) (X : s.Idx → Elt F e) :
    (owns (c : Thread nD τ) M fullShare X : sProp 𝕄) = iprop(∃ f : M.view.ty.Contents (Elt F), ⌜M.view.read (Elt F) f = X⌝ ∗ (M.view.loc (c : Thread nD τ) ↦{fullShare} f)) := by
  unfold owns
  rw [h.set_eq_univ]

/-- The score kernel from its three staging buffers: the operand kept, the two results its arithmetic. -/
theorem score_triple (c : Dev nD) (i : grid0.Coords) (arg2 : Memref sig .tc .vmem S1x4000x80 .f32) (harg2 : arg2.IsWhole)
    (arg3 : Memref sig .tc .vmem S1x4000x1 .f32) (harg3 : arg3.IsWhole)
    (arg4 : Memref sig .tc .vmem S1x4000x1 .i32) (harg4 : arg4.IsWhole)
    (X2 : S1x4000x80.Idx → Elt F .f32) (X3 : S1x4000x1.Idx → Elt F .f32) (X4 : S1x4000x1.Idx → Elt F .i32) :
    (iprop(owns (c : Thread nD τ) arg2 fullShare X2 ∗ owns (c : Thread nD τ) arg3 fullShare X3 ∗ owns (c : Thread nD τ) arg4 fullShare X4) : sProp 𝕄)
      ⊢ wp frame (wpE (defs₀ (F := F)) 𝒱₀ (c : Thread nD τ) none) Set.univ (cc0__score_kernel (F := F) i arg2 harg2 arg3 harg3 arg4 harg4)
          (fun _ => iprop(owns (c : Thread nD τ) arg2 fullShare X2 ∗ owns (c : Thread nD τ) arg3 fullShare (Gen.k0_pay3 X2) ∗ owns (c : Thread nD τ) arg4 fullShare (Gen.k0_pay4 X2))) := by
  rw [owns_of_whole c arg2 harg2, owns_of_whole c arg3 harg3, owns_of_whole c arg4 harg4, owns_of_whole c arg3 harg3, owns_of_whole c arg4 harg4]
  iintro ⟨⟨%f2, %h2, H2⟩, ⟨%f3, -, H3⟩, ⟨%f4, -, H4⟩⟩
  iapply (wp_wand_r frame (wpE (defs₀ (F := F)) 𝒱₀ (c : Thread nD τ) none) (E := Set.univ)
    (Q := fun _ => HeldS arg2 arg3 arg4 c f2 (score i arg2 harg2 arg3 harg3 arg4 harg4 c f2 f3 f4).1 (score i arg2 harg2 arg3 harg3 arg4 harg4 c f2 f3 f4).2.1))
  isplitl
  · iapply (score i arg2 harg2 arg3 harg3 arg4 harg4 c f2 f3 f4).2.2
    unfold HeldS
    iframe
  iintro %y ⟨H2, H3, H4⟩
  isplitl [H2]; · iexists f2; isplitr; swap; (· iexact H2); ipureintro; exact h2
  isplitl [H3]; · iexists _; isplitr; swap; (· iexact H3); ipureintro; rw [score_read3, h2]
  iexists _; isplitr; swap; (· iexact H4); ipureintro; rw [score_read4, h2]

variable (arg0 : Memref sig .tc .vmem S8x160x128 .f32) (harg0 : arg0.IsWhole) (arg1 : Memref sig .tc .vmem S8x160x128 .i32) (harg1 : arg1.IsWhole) (arg2 : Memref sig .tc .vmem S8x160x128 .f32) (harg2 : arg2.IsWhole) (arg3 : Memref sig .tc .vmem S8x160x128 .f32) (harg3 : arg3.IsWhole) (arg4 : Memref sig .tc .vmem S8x160x128 .f32) (harg4 : arg4.IsWhole) (arg5 : Memref sig .tc .vmem S8x160x128 .f32) (harg5 : arg5.IsWhole) (arg6 : Memref sig .tc .vmem S8x300 .f32) (harg6 : arg6.IsWhole) (arg7 : Memref sig .tc .vmem S8x300 .i32) (harg7 : arg7.IsWhole) (arg8 : Memref sig .tc .vmem S8x300 .f32) (harg8 : arg8.IsWhole) (arg9 : Memref sig .tc .vmem S8x300 .f32) (harg9 : arg9.IsWhole) (arg10 : Memref sig .tc .vmem S8x300 .f32) (harg10 : arg10.IsWhole) (arg11 : Memref sig .tc .vmem S8x300 .f32) (harg11 : arg11.IsWhole) (arg12 : Memref sig .tc .vmem S8x160x128 .f32) (harg12 : arg12.IsWhole) (arg13 : Memref sig .tc .vmem S8x160x128 .f32) (harg13 : arg13.IsWhole) (v20 : FVec F S2x160x128 .f32) (v22 : FVec F S2x160x128 .f32) (v24 : FVec F S2x160x128 .f32) (v26 : FVec F S2x160x128 .f32) (v28 : FVec F S2x160x128 .f32) (v30 : FVec F S2x160x128 .f32) (v32 : FVec F S2x160x128 .f32) (v34 : FVec F S2x160x128 .f32) (v36 : FVec F S2x160x128 .f32) (v38 : FVec F S2x160x128 .f32) (v40 : FVec F S2x160x128 .f32) (v42 : FVec F S2x160x128 .f32) (v44 : FVec F S2x160x128 .f32) (v46 : FVec F S2x160x128 .f32) (v48 : FVec F S2x160x128 .f32) (v50 : FVec F S2x160x128 .f32) (v52 : IVec S2x160x128 32) (v54 : IVec S2x160x128 32) (v56 : IVec S2x160x128 32) (v58 : IVec S2x160x128 32) (v59 : Vec F S2x160x128 .f32) (v60 : Vec F S2x160x128 .f32) (v61 : Vec F S2x160x128 .f32) (v62 : Vec F S2x160x128 .f32) (v63 : IVec S1x300 32) (c1073741824_i32 : BitVec 32) (c0_i32 : BitVec 32) (c1_i32 : BitVec 32)

/-- The suppression kernel from its twelve staging buffers and two scratch buffers: the operands kept, the results
    functions of the operands, whatever the results and the scratch held before. -/
theorem nms_triple (c : Dev nD) (X0 : S8x160x128.Idx → Elt F .f32) (X1 : S8x160x128.Idx → Elt F .i32) (X2 : S8x160x128.Idx → Elt F .f32) (X3 : S8x160x128.Idx → Elt F .f32) (X4 : S8x160x128.Idx → Elt F .f32) (X5 : S8x160x128.Idx → Elt F .f32) (X6 : S8x300.Idx → Elt F .f32) (X7 : S8x300.Idx → Elt F .i32) (X8 : S8x300.Idx → Elt F .f32) (X9 : S8x300.Idx → Elt F .f32) (X10 : S8x300.Idx → Elt F .f32) (X11 : S8x300.Idx → Elt F .f32) :
    (iprop(owns (c : Thread nD τ) arg0 fullShare X0 ∗ owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ (∃ f : arg12.view.ty.Contents (Elt F), (arg12.view.loc (c : Thread nD τ) ↦{fullShare} f)) ∗ (∃ f : arg13.view.ty.Contents (Elt F), (arg13.view.loc (c : Thread nD τ) ↦{fullShare} f))) : sProp 𝕄)
      ⊢ wp frame (wpE (defs₀ (F := F)) 𝒱₀ (c : Thread nD τ) none) Set.univ (cc1__nms_kernel (F := F) arg0 harg0 arg1 harg1 arg2 harg2 arg3 harg3 arg4 harg4 arg5 harg5 arg6 harg6 arg7 harg7 arg8 harg8 arg9 harg9 arg10 harg10 arg11 harg11 arg12 harg12 arg13 harg13)
          (fun _ => iprop(owns (c : Thread nD τ) arg0 fullShare X0 ∗ owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare (outOf (fun _ s => outSc s) X0 X1 X2 X3 X4 X5) ∗ owns (c : Thread nD τ) arg7 fullShare (outOf (fun g s => outLab g 1073741824#32 s) X0 X1 X2 X3 X4 X5) ∗ owns (c : Thread nD τ) arg8 fullShare (outOf (fun g s => outX1 g 1073741824#32 s) X0 X1 X2 X3 X4 X5) ∗ owns (c : Thread nD τ) arg9 fullShare (outOf (fun g s => outY1 g 1073741824#32 s) X0 X1 X2 X3 X4 X5) ∗ owns (c : Thread nD τ) arg10 fullShare (outOf (fun g s => outX2 g 1073741824#32 s) X0 X1 X2 X3 X4 X5) ∗ owns (c : Thread nD τ) arg11 fullShare (outOf (fun g s => outY2 g 1073741824#32 s) X0 X1 X2 X3 X4 X5) ∗ (∃ f : arg12.view.ty.Contents (Elt F), (arg12.view.loc (c : Thread nD τ) ↦{fullShare} f)) ∗ (∃ f : arg13.view.ty.Contents (Elt F), (arg13.view.loc (c : Thread nD τ) ↦{fullShare} f)))) := by
  rw [owns_of_whole c arg0 harg0, owns_of_whole c arg1 harg1, owns_of_whole c arg2 harg2, owns_of_whole c arg3 harg3, owns_of_whole c arg4 harg4, owns_of_whole c arg5 harg5, owns_of_whole c arg6 harg6, owns_of_whole c arg7 harg7, owns_of_whole c arg8 harg8, owns_of_whole c arg9 harg9, owns_of_whole c arg10 harg10, owns_of_whole c arg11 harg11, owns_of_whole c arg6 harg6, owns_of_whole c arg7 harg7, owns_of_whole c arg8 harg8, owns_of_whole c arg9 harg9, owns_of_whole c arg10 harg10, owns_of_whole c arg11 harg11]
  iintro ⟨⟨%f0, %h0, H0⟩, ⟨%f1, %h1, H1⟩, ⟨%f2, %h2, H2⟩, ⟨%f3, %h3, H3⟩, ⟨%f4, %h4, H4⟩, ⟨%f5, %h5, H5⟩, ⟨%f6, -, H6⟩, ⟨%f7, -, H7⟩, ⟨%f8, -, H8⟩, ⟨%f9, -, H9⟩, ⟨%f10, -, H10⟩, ⟨%f11, -, H11⟩, ⟨%f12, H12⟩, ⟨%f13, H13⟩⟩
  iapply (wp_wand_r frame (wpE (defs₀ (F := F)) 𝒱₀ (c : Thread nD τ) none) (E := Set.univ)
    (Q := fun _ => Held arg0 arg1 arg2 arg3 arg4 arg5 arg6 arg7 arg8 arg9 arg10 arg11 arg12 arg13 c f0 f1 f2 f3 f4 f5 (nms arg0 harg0 arg1 harg1 arg2 harg2 arg3 harg3 arg4 harg4 arg5 harg5 arg6 harg6 arg7 harg7 arg8 harg8 arg9 harg9 arg10 harg10 arg11 harg11 arg12 harg12 arg13 harg13 c f0 f1 f2 f3 f4 f5 f6 f7 f8 f9 f10 f11 f12 f13).1 (nms arg0 harg0 arg1 harg1 arg2 harg2 arg3 harg3 arg4 harg4 arg5 harg5 arg6 harg6 arg7 harg7 arg8 harg8 arg9 harg9 arg10 harg10 arg11 harg11 arg12 harg12 arg13 harg13 c f0 f1 f2 f3 f4 f5 f6 f7 f8 f9 f10 f11 f12 f13).2.1 (nms arg0 harg0 arg1 harg1 arg2 harg2 arg3 harg3 arg4 harg4 arg5 harg5 arg6 harg6 arg7 harg7 arg8 harg8 arg9 harg9 arg10 harg10 arg11 harg11 arg12 harg12 arg13 harg13 c f0 f1 f2 f3 f4 f5 f6 f7 f8 f9 f10 f11 f12 f13).2.2.1 (nms arg0 harg0 arg1 harg1 arg2 harg2 arg3 harg3 arg4 harg4 arg5 harg5 arg6 harg6 arg7 harg7 arg8 harg8 arg9 harg9 arg10 harg10 arg11 harg11 arg12 harg12 arg13 harg13 c f0 f1 f2 f3 f4 f5 f6 f7 f8 f9 f10 f11 f12 f13).2.2.2.1 (nms arg0 harg0 arg1 harg1 arg2 harg2 arg3 harg3 arg4 harg4 arg5 harg5 arg6 harg6 arg7 harg7 arg8 harg8 arg9 harg9 arg10 harg10 arg11 harg11 arg12 harg12 arg13 harg13 c f0 f1 f2 f3 f4 f5 f6 f7 f8 f9 f10 f11 f12 f13).2.2.2.2.1 (nms arg0 harg0 arg1 harg1 arg2 harg2 arg3 harg3 arg4 harg4 arg5 harg5 arg6 harg6 arg7 harg7 arg8 harg8 arg9 harg9 arg10 harg10 arg11 harg11 arg12 harg12 arg13 harg13 c f0 f1 f2 f3 f4 f5 f6 f7 f8 f9 f10 f11 f12 f13).2.2.2.2.2.1 (nms arg0 harg0 arg1 harg1 arg2 harg2 arg3 harg3 arg4 harg4 arg5 harg5 arg6 harg6 arg7 harg7 arg8 harg8 arg9 harg9 arg10 harg10 arg11 harg11 arg12 harg12 arg13 harg13 c f0 f1 f2 f3 f4 f5 f6 f7 f8 f9 f10 f11 f12 f13).2.2.2.2.2.2.1 (nms arg0 harg0 arg1 harg1 arg2 harg2 arg3 harg3 arg4 harg4 arg5 harg5 arg6 harg6 arg7 harg7 arg8 harg8 arg9 harg9 arg10 harg10 arg11 harg11 arg12 harg12 arg13 harg13 c f0 f1 f2 f3 f4 f5 f6 f7 f8 f9 f10 f11 f12 f13).2.2.2.2.2.2.2.1))
  isplitl
  · iapply (nms arg0 harg0 arg1 harg1 arg2 harg2 arg3 harg3 arg4 harg4 arg5 harg5 arg6 harg6 arg7 harg7 arg8 harg8 arg9 harg9 arg10 harg10 arg11 harg11 arg12 harg12 arg13 harg13 c f0 f1 f2 f3 f4 f5 f6 f7 f8 f9 f10 f11 f12 f13).2.2.2.2.2.2.2.2
    unfold Held
    iframe
  iintro %y ⟨H0, H1, H2, H3, H4, H5, H6, H7, H8, H9, H10, H11, H12, H13⟩
  isplitl [H0]; · iexists f0; isplitr; swap; (· iexact H0); ipureintro; exact h0
  isplitl [H1]; · iexists f1; isplitr; swap; (· iexact H1); ipureintro; exact h1
  isplitl [H2]; · iexists f2; isplitr; swap; (· iexact H2); ipureintro; exact h2
  isplitl [H3]; · iexists f3; isplitr; swap; (· iexact H3); ipureintro; exact h3
  isplitl [H4]; · iexists f4; isplitr; swap; (· iexact H4); ipureintro; exact h4
  isplitl [H5]; · iexists f5; isplitr; swap; (· iexact H5); ipureintro; exact h5
  isplitl [H6]; · iexists _; isplitr; swap; (· iexact H6); ipureintro; rw [nms_read6, h0, h1, h2, h3, h4, h5]
  isplitl [H7]; · iexists _; isplitr; swap; (· iexact H7); ipureintro; rw [nms_read7, h0, h1, h2, h3, h4, h5]
  isplitl [H8]; · iexists _; isplitr; swap; (· iexact H8); ipureintro; rw [nms_read8, h0, h1, h2, h3, h4, h5]
  isplitl [H9]; · iexists _; isplitr; swap; (· iexact H9); ipureintro; rw [nms_read9, h0, h1, h2, h3, h4, h5]
  isplitl [H10]; · iexists _; isplitr; swap; (· iexact H10); ipureintro; rw [nms_read10, h0, h1, h2, h3, h4, h5]
  isplitl [H11]; · iexists _; isplitr; swap; (· iexact H11); ipureintro; rw [nms_read11, h0, h1, h2, h3, h4, h5]
  isplitl [H12]; · iexists _; iexact H12
  iexists _; iexact H13

end Cert.Proof.KernelIdeal

end
-- ==== Proof.IdealRegions.lean ====
/- The two pipelined calls: what each point of each grid fetches and leaves, and each call as a segment of the
   program, entered with every host buffer at a valuation and left at that valuation with the results replaced. -/
module

public import proofs.«01_k».proof.Proof.IdealTriples
public import proofs.«01_k».proof.Proof.Gen.KernelIdeal.Launch
public import Idealize.ShloMosaic.Lib.Pipeline.RegionsLoop
public import proofs.«01_k».proof.Proof.Gen.KernelIdeal.Regions
public import proofs.«01_k».proof.Proof.Gen.KernelIdeal.Points

@[expose] public section

set_option maxRecDepth 65536
set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UU nD τ) ℕ

variable (V : (c : Dev nD) → (b : Ref sig .tc) → Buf (Elt F) ((c : Thread nD τ).loc b))

/-- The operand's block the score kernel's point `t` fetches. -/
abbrev blk0 (c : Dev nD) (t : Fin cfg0.N) : S1x4000x80.Idx → Elt F .f32 := ((cfg0.win 0).blk t).view.read (Elt F) (V c main_arg1)

/-- The score kernel's data from the valuation `V`: the operand kept, each result block the arithmetic of the
    operand's. -/
def dat0 (c : Dev nD) : Dat τ (Elt F) Unit ℕ (UU nD τ) ℕ cfg0 c where
  A w := V c (Pipeline.arrRef spec0 w)
  after w t := match w with
    | ⟨0, _⟩ => blk0 V c t
    | ⟨1, _⟩ => k0_pay3 (blk0 V c t)
    | ⟨2, _⟩ => k0_pay4 (blk0 V c t)
  Φ _ := Pipeline.scopedRest (Ix := Unit) (Name := ℕ) (U := UU nD τ) (Lvl := ℕ) (Val := Elt F) spec0 c
  q _ := fullShare
  owed _ := 0

theorem dat0_after2 (c : Dev nD) (t : Fin cfg0.N) : (dat0 V c).after 2 t = k0_pay4 (blk0 V c t) := by
  dsimp only [dat0]

theorem before0 (c : Dev nD) (t : Fin cfg0.N) (d : S1x4000x80.Idx → Elt F .f32) : (dat0 V c).before 0 t d = blk0 V c t := by
  unfold Dat.before; rw [if_pos (fetch0_0 t)]; rfl

theorem defs_row0 (t : Fin cfg0.N) : defs₀ (F := F) .tc cfg0.body (cfg0.bodyArgs t (cfg0.slots t)) = bodyAt0 t := by
  unfold defs₀; rw [Defs.onTc_tc]

theorem body0 (c : Dev nD) : BodyObligation (dat0 V c) (defs₀ (F := F)) 𝒱₀ () Set.univ := fun t => by
  rw [bigSep_W0, bigSep_W0, defs_row0]
  rw [show (dat0 V c).Φ t.castSucc = Pipeline.scopedRest spec0 c from rfl, show (dat0 V c).Φ t.succ = Pipeline.scopedRest spec0 c from rfl,
    show (dat0 V c).owesAt () t.succ = (dat0 V c).owesAt () t.castSucc from rfl]
  simp only [dat0_after2]
  iintro ⟨HΦ, Ho, ⟨%d0, H0⟩, ⟨%d1, H1⟩, ⟨%d2, H2⟩⟩
  rw [before0]
  iapply (wp_wand_r frame (wpE (defs₀ (F := F)) 𝒱₀ (c : Thread nD τ) none) (E := Set.univ))
  isplitl [H0 H1 H2]
  · iapply (score_triple c (grid0.coords t) _ _ _ _ _ _ (blk0 V c t) _ _)
    isplitl [H0]; · iexact H0
    isplitl [H1]; · iexact H1
    iexact H2
  iintro %y ⟨H0, H1, H2⟩
  isplitl [HΦ]; · iexact HΦ
  isplitl [Ho]; · iexact Ho
  isplitl [H0]; · iexact H0
  isplitl [H1]; · iexact H1
  iexact H2

/-- The operand the suppression kernel fetches through window `w`: the whole array. -/
abbrev blk1_0 (c : Dev nD) (t : Fin cfg1.N) : S8x160x128.Idx → Elt F .f32 := ((cfg1.win 0).blk t).view.read (Elt F) (V c main_v3)
abbrev blk1_1 (c : Dev nD) (t : Fin cfg1.N) : S8x160x128.Idx → Elt F .i32 := ((cfg1.win 1).blk t).view.read (Elt F) (V c main_v12)
abbrev blk1_2 (c : Dev nD) (t : Fin cfg1.N) : S8x160x128.Idx → Elt F .f32 := ((cfg1.win 2).blk t).view.read (Elt F) (V c main_v16)
abbrev blk1_3 (c : Dev nD) (t : Fin cfg1.N) : S8x160x128.Idx → Elt F .f32 := ((cfg1.win 3).blk t).view.read (Elt F) (V c main_v20)
abbrev blk1_4 (c : Dev nD) (t : Fin cfg1.N) : S8x160x128.Idx → Elt F .f32 := ((cfg1.win 4).blk t).view.read (Elt F) (V c main_v24)
abbrev blk1_5 (c : Dev nD) (t : Fin cfg1.N) : S8x160x128.Idx → Elt F .f32 := ((cfg1.win 5).blk t).view.read (Elt F) (V c main_v28)

/-- The suppression kernel's data from the valuation `V`: the operands kept, each result a function of the operands. -/
def dat1 (c : Dev nD) : Dat τ (Elt F) Unit ℕ (UU nD τ) ℕ cfg1 c where
  A w := V c (Pipeline.arrRef spec1 w)
  after w t := match w with
    | ⟨0, _⟩ => blk1_0 V c t
    | ⟨1, _⟩ => blk1_1 V c t
    | ⟨2, _⟩ => blk1_2 V c t
    | ⟨3, _⟩ => blk1_3 V c t
    | ⟨4, _⟩ => blk1_4 V c t
    | ⟨5, _⟩ => blk1_5 V c t
    | ⟨6, _⟩ => outOf (fun _ s => outSc s) (blk1_0 V c t) (blk1_1 V c t) (blk1_2 V c t) (blk1_3 V c t) (blk1_4 V c t) (blk1_5 V c t)
    | ⟨7, _⟩ => outOf (fun g s => outLab g 1073741824#32 s) (blk1_0 V c t) (blk1_1 V c t) (blk1_2 V c t) (blk1_3 V c t) (blk1_4 V c t) (blk1_5 V c t)
    | ⟨8, _⟩ => outOf (fun g s => outX1 g 1073741824#32 s) (blk1_0 V c t) (blk1_1 V c t) (blk1_2 V c t) (blk1_3 V c t) (blk1_4 V c t) (blk1_5 V c t)
    | ⟨9, _⟩ => outOf (fun g s => outY1 g 1073741824#32 s) (blk1_0 V c t) (blk1_1 V c t) (blk1_2 V c t) (blk1_3 V c t) (blk1_4 V c t) (blk1_5 V c t)
    | ⟨10, _⟩ => outOf (fun g s => outX2 g 1073741824#32 s) (blk1_0 V c t) (blk1_1 V c t) (blk1_2 V c t) (blk1_3 V c t) (blk1_4 V c t) (blk1_5 V c t)
    | ⟨11, _⟩ => outOf (fun g s => outY2 g 1073741824#32 s) (blk1_0 V c t) (blk1_1 V c t) (blk1_2 V c t) (blk1_3 V c t) (blk1_4 V c t) (blk1_5 V c t)
  Φ _ := Pipeline.scopedRest (Ix := Unit) (Name := ℕ) (U := UU nD τ) (Lvl := ℕ) (Val := Elt F) spec1 c
  q _ := fullShare
  owed _ := 0

theorem before1_0 (c : Dev nD) (t : Fin cfg1.N) (d : S8x160x128.Idx → Elt F .f32) : (dat1 V c).before 0 t d = blk1_0 V c t := by
  unfold Dat.before; rw [if_pos (fetch1_0 t)]; rfl
theorem before1_1 (c : Dev nD) (t : Fin cfg1.N) (d : S8x160x128.Idx → Elt F .i32) : (dat1 V c).before 1 t d = blk1_1 V c t := by
  unfold Dat.before; rw [if_pos (fetch1_1 t)]; rfl
theorem before1_2 (c : Dev nD) (t : Fin cfg1.N) (d : S8x160x128.Idx → Elt F .f32) : (dat1 V c).before 2 t d = blk1_2 V c t := by
  unfold Dat.before; rw [if_pos (fetch1_2 t)]; rfl
theorem before1_3 (c : Dev nD) (t : Fin cfg1.N) (d : S8x160x128.Idx → Elt F .f32) : (dat1 V c).before 3 t d = blk1_3 V c t := by
  unfold Dat.before; rw [if_pos (fetch1_3 t)]; rfl
theorem before1_4 (c : Dev nD) (t : Fin cfg1.N) (d : S8x160x128.Idx → Elt F .f32) : (dat1 V c).before 4 t d = blk1_4 V c t := by
  unfold Dat.before; rw [if_pos (fetch1_4 t)]; rfl
theorem before1_5 (c : Dev nD) (t : Fin cfg1.N) (d : S8x160x128.Idx → Elt F .f32) : (dat1 V c).before 5 t d = blk1_5 V c t := by
  unfold Dat.before; rw [if_pos (fetch1_5 t)]; rfl

theorem defs_row1 (t : Fin cfg1.N) : defs₀ (F := F) .tc cfg1.body (cfg1.bodyArgs t (cfg1.slots t)) = bodyAt1 t := by
  unfold defs₀; rw [Defs.onTc_tc]

theorem body1 (c : Dev nD) : BodyObligation (dat1 V c) (defs₀ (F := F)) 𝒱₀ () Set.univ := fun t => by
  rw [bigSep_W1, bigSep_W1, defs_row1]
  rw [show (dat1 V c).Φ t.castSucc = Pipeline.scopedRest spec1 c from rfl, show (dat1 V c).Φ t.succ = Pipeline.scopedRest spec1 c from rfl, scopedRest1_eq,
    show (dat1 V c).owesAt () t.succ = (dat1 V c).owesAt () t.castSucc from rfl]
  iintro ⟨⟨Ha, Hb, Hc, Hd, He, Hf, Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [before1_0, before1_1, before1_2, before1_3, before1_4, before1_5]
  iapply (wp_wand_r frame (wpE (defs₀ (F := F)) 𝒱₀ (c : Thread nD τ) none) (E := Set.univ))
  isplitl [H0 H1 H2 H3 H4 H5 H6 H7 H8 H9 H10 H11 Hs Hr]
  · iapply (nms_triple _ _ _ _ _ _ _ _ _ _ _ _ _ _ _ _ _ _ _ _ _ _ _ _ _ _ _ _  c (blk1_0 V c t) (blk1_1 V c t) (blk1_2 V c t) (blk1_3 V c t) (blk1_4 V c t) (blk1_5 V c t) _ _ _ _ _ _ )
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [Hs]; · iexact Hs
    iexact Hr
  iintro %y ⟨H0, H1, H2, H3, H4, H5, H6, H7, H8, H9, H10, H11, Hs, Hr⟩
  isplitl [Ha Hb Hc Hd He Hf Hs Hr]
  · iframe
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- No core owes another anything: no level is assigned. -/
abbrev Lv : GSem nD τ sig → Finset Unit := fun _ => ∅
abbrev lv : GSem nD τ sig → Unit → ℕ := fun _ _ => 0

/-- The two calls' data, from the two valuations they are entered at. -/
def pdats (V0' V1' : (c : Dev nD) → (b : Ref sig .tc) → Buf (Elt F) ((c : Thread nD τ).loc b)) :
    (p : Fin 2) → (c : Dev nD) → Dat τ (Elt F) Unit ℕ (UU nD τ) ℕ (cfgs p) c
  | ⟨0, _⟩ => fun c => dat0 V0' c
  | ⟨1, _⟩ => fun c => dat1 V1' c

/-- What rides beside the buffers: the core owes nothing. -/
abbrev Owes (c : Dev nD) : sProp 𝕄 := iprop(∃ W, owes (c : Thread nD τ) (0 : CellTallies nD τ sig Unit) W)

variable (V0' V1' Vp : (c : Dev nD) → (b : Ref sig .tc) → Buf (Elt F) ((c : Thread nD τ).loc b))

set_option backward.isDefEq.respectTransparency.types false in
/-- Call 0 as a segment: from every host buffer at the valuation it is entered at, to every host buffer at any
    valuation that has the results as computed and agrees with the first elsewhere. -/
def reg0 (hout : ∀ c (w : Fin 3), Vp c (Pipeline.arrRef spec0 w) = (pdats V0' V1' 0 c).arrAt w cfg0.N)
    (hne : ∀ c (b : Ref sig .tc), (∀ w : Fin 3, b ≠ Pipeline.arrRef spec0 w) → Vp c b = V0' c b) :
    Pipeline.RegionSeg (pcfgs (F := F)) adm (pdats V0' V1') () defs₀ 𝒱₀ Lv lv 0 where
  win := (launch0).win.to₀
  block_pos := (launch0).block_pos
  stage_whole := (launch0).stage_whole
  K := PEmpty
  osem k := k.elim
  ho := Pipeline.OwnSemFacts.none _
  hbody c := (body0 V0' c).loose
  hwaits := Pipeline.hwaits_of_owed_zero _ _ _ _ Lv lv 0 fun _ _ => rfl
  pre c := iprop(unscopedBufs c (V0' c) ∗ Owes c)
  post c := iprop(unscopedBufs c (Vp c) ∗ Owes c)
  X _ := BI.emp
  Y _ := BI.emp
  Z c := Pipeline.unscopedRest (Ix := Unit) (Name := ℕ) (U := UU nD τ) (Lvl := ℕ) spec0 c (V0' c)
  hentry c := by
    rw [Pipeline.ownSems0_none]
    have hsplit := Pipeline.arrays_of_unscopedBufs (p := 0) (pcfgs (F := F)) adm (pdats V0' V1') (launch0).win (launch0).arr_whole c
      ((pdats V0' V1' 0 c).share_full fun _ => rfl) (V0' c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V0' V1' 0 c).Φ 0 = Pipeline.scopedRest spec0 c from rfl]
    iintro ⟨-, -, Hr⟩; iexact Hr
  hout c := by
    rw [Pipeline.ownSems0_none, show (pdats V0' V1' 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UU nD τ) (Lvl := ℕ) (launch0).win (launch0).arr_whole c
      (pdats V0' V1') ((pdats V0' V1' 0 c).share_full fun _ => rfl) (V0' c) (Vp c) ((pdats V0' V1' 0 c).arrAt · cfg0.N)
      (fun w => (hout c w).symm)
      (fun b hb => hne c b fun w h => hb (h ▸ Finset.mem_image.mpr ⟨w, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- Call 1 as a segment: from every host buffer at the valuation it is entered at, to every host buffer at any
    valuation that has the results as computed and agrees with the first elsewhere. -/
def reg1 (hout : ∀ c (w : Fin 12), Vp c (Pipeline.arrRef spec1 w) = (pdats V0' V1' 1 c).arrAt w cfg1.N)
    (hne : ∀ c (b : Ref sig .tc), (∀ w : Fin 12, b ≠ Pipeline.arrRef spec1 w) → Vp c b = V1' c b) :
    Pipeline.RegionSeg (pcfgs (F := F)) adm (pdats V0' V1') () defs₀ 𝒱₀ Lv lv 1 where
  win := (launch1).win.to₀
  block_pos := (launch1).block_pos
  stage_whole := (launch1).stage_whole
  K := PEmpty
  osem k := k.elim
  ho := Pipeline.OwnSemFacts.none _
  hbody c := (body1 V1' c).loose
  hwaits := Pipeline.hwaits_of_owed_zero _ _ _ _ Lv lv 1 fun _ _ => rfl
  pre c := iprop(unscopedBufs c (V1' c) ∗ Owes c)
  post c := iprop(unscopedBufs c (Vp c) ∗ Owes c)
  X _ := BI.emp
  Y _ := BI.emp
  Z c := Pipeline.unscopedRest (Ix := Unit) (Name := ℕ) (U := UU nD τ) (Lvl := ℕ) spec1 c (V1' c)
  hentry c := by
    rw [Pipeline.ownSems0_none]
    have hsplit := Pipeline.arrays_of_unscopedBufs (p := 1) (pcfgs (F := F)) adm (pdats V0' V1') (launch1).win (launch1).arr_whole c
      ((pdats V0' V1' 1 c).share_full fun _ => rfl) (V1' c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V0' V1' 1 c).Φ 0 = Pipeline.scopedRest spec1 c from rfl]
    iintro ⟨-, -, Hr⟩; iexact Hr
  hout c := by
    rw [Pipeline.ownSems0_none, show (pdats V0' V1' 1 c).Φ (Fin.last _) = Pipeline.scopedRest spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UU nD τ) (Lvl := ℕ) (launch1).win (launch1).arr_whole c
      (pdats V0' V1') ((pdats V0' V1' 1 c).share_full fun _ => rfl) (V1' c) (Vp c) ((pdats V0' V1' 1 c).arrAt · cfg1.N)
      (fun w => (hout c w).symm)
      (fun b hb => hne c b fun w h => hb (h ▸ Finset.mem_image.mpr ⟨w, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Proof.KernelIdeal

end
-- ==== Proof.IdealRun.lean ====
/- The whole program run: every host buffer's final contents, over any float values. -/
module

public import proofs.«01_k».proof.Proof.IdealRegions

@[expose] public section

set_option maxRecDepth 65536
set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

variable {F : FTy → Type} [FloatOps F]

local notation "𝕄" => MT nD τ sig Unit (Elt F) ℕ (UU nD τ) ℕ

variable (m : (ℓ : Loc nD τ sig) → Buf (Elt F) ℓ)

/-- The host buffers after the score kernel. -/
def Vscore (c : Dev nD) : Valuation τ sig (Elt F) :=
  Function.update (Function.update (V0 m c) main_v0_0 ((dat0 (fun c b => V0 m c b) c).arrAt 1 cfg0.N)) main_v0_1 ((dat0 (fun c b => V0 m c b) c).arrAt 2 cfg0.N)

/-- The host buffers the suppression kernel is entered at. -/
abbrev Vin1 (c : Dev nD) : Valuation τ sig (Elt F) := V14 m (fun _ r c => Vscore m c r) c

/-- The host buffers after the suppression kernel. -/
def Vnms (c : Dev nD) : Valuation τ sig (Elt F) :=
  Function.update (Function.update (Function.update (Function.update (Function.update (Function.update (Vin1 m c) main_v29_0 ((dat1 (fun c b => Vin1 m c b) c).arrAt 6 cfg1.N)) main_v29_1 ((dat1 (fun c b => Vin1 m c b) c).arrAt 7 cfg1.N)) main_v29_2 ((dat1 (fun c b => Vin1 m c b) c).arrAt 8 cfg1.N)) main_v29_3 ((dat1 (fun c b => Vin1 m c b) c).arrAt 9 cfg1.N)) main_v29_4 ((dat1 (fun c b => Vin1 m c b) c).arrAt 10 cfg1.N)) main_v29_5 ((dat1 (fun c b => Vin1 m c b) c).arrAt 11 cfg1.N)

/-- What the two calls leave, by the item after which it is left. -/
def outs : Outs (F := F) := fun k r c => match k with
  | 1 => Vscore m c r
  | _ => Vnms m c r

theorem V1_outs (c : Dev nD) : V1 m (outs m) c = Vscore m c := by
  funext b
  show Function.update (Function.update (V0 m c) main_v0_0 (Vscore m c main_v0_0)) main_v0_1 (Vscore m c main_v0_1) b = _
  unfold Vscore
  rw [Function.update_self, Function.update_of_ne (StableHlo.devRef_ne_of_ne (by decide)), Function.update_self]

theorem V14_outs (c : Dev nD) : V14 m (outs m) c = Vin1 m c := rfl

theorem V15_outs (c : Dev nD) : V15 m (outs m) c = Vnms m c := by
  funext b
  have e : ∀ r : Ref sig .tc, outs m 15 r c = Vnms m c r := fun _ => rfl
  unfold V15
  rw [V14_outs]
  simp only [e]
  have e0 : Vnms m c main_v29_0 = (dat1 (fun c b => Vin1 m c b) c).arrAt 6 cfg1.N := by
    unfold Vnms; rw [Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_self]
  have e1 : Vnms m c main_v29_1 = (dat1 (fun c b => Vin1 m c b) c).arrAt 7 cfg1.N := by
    unfold Vnms; rw [Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_self]
  have e2 : Vnms m c main_v29_2 = (dat1 (fun c b => Vin1 m c b) c).arrAt 8 cfg1.N := by
    unfold Vnms; rw [Function.update_of_ne (StableHlo.devRef_ne_of_ne (by decide)), Function.update_of_ne (StableHlo.devRef_ne_of_ne (by decide)), Function.update_of_ne (StableHlo.devRef_ne_of_ne (by decide)), Function.update_self]
  have e3 : Vnms m c main_v29_3 = (dat1 (fun c b => Vin1 m c b) c).arrAt 9 cfg1.N := by
    unfold Vnms; rw [Function.update_of_ne (StableHlo.devRef_ne_of_ne (by decide)), Function.update_of_ne (StableHlo.devRef_ne_of_ne (by decide)), Function.update_self]
  have e4 : Vnms m c main_v29_4 = (dat1 (fun c b => Vin1 m c b) c).arrAt 10 cfg1.N := by
    unfold Vnms; rw [Function.update_of_ne (StableHlo.devRef_ne_of_ne (by decide)), Function.update_self]
  have e5 : Vnms m c main_v29_5 = (dat1 (fun c b => Vin1 m c b) c).arrAt 11 cfg1.N := by
    unfold Vnms; rw [Function.update_self]
  rw [e0, e1, e2, e3, e4, e5]
  rfl

theorem hout0 (c : Dev nD) (w : Fin 3) :
    V1 m (outs m) c (Pipeline.arrRef spec0 w) = (pdats (fun c b => V0 m c b) (fun c b => Vin1 m c b) 0 c).arrAt w cfg0.N := by
  rw [V1_outs]
  fin_cases w
  · refine Eq.trans ?_ ((dat0 (fun c b => V0 m c b) c).arrAt_in 0 rfl _).symm
    show Vscore m c main_arg1 = V0 m c main_arg1
    unfold Vscore
    rw [Function.update_of_ne (StableHlo.devRef_ne_of_ne (by decide)), Function.update_of_ne (StableHlo.devRef_ne_of_ne (by decide))]
  · show Vscore m c main_v0_0 = _
    unfold Vscore
    rw [Function.update_of_ne (StableHlo.devRef_ne_of_ne (by decide)), Function.update_self]
    rfl
  · show Vscore m c main_v0_1 = _
    unfold Vscore
    rw [Function.update_self]
    rfl

theorem hne0 (c : Dev nD) (b : Ref sig .tc) (hb : ∀ w : Fin 3, b ≠ Pipeline.arrRef spec0 w) : V1 m (outs m) c b = V0 m c b := by
  rw [V1_outs]
  unfold Vscore
  rw [Function.update_of_ne (StableHlo.devRef_ne_of_ne (hb 2)), Function.update_of_ne (StableHlo.devRef_ne_of_ne (hb 1))]

theorem hout1 (c : Dev nD) (w : Fin 12) :
    V15 m (outs m) c (Pipeline.arrRef spec1 w) = (pdats (fun c b => V0 m c b) (fun c b => Vin1 m c b) 1 c).arrAt w cfg1.N := by
  rw [V15_outs]
  fin_cases w
  · refine Eq.trans ?_ ((dat1 (fun c b => Vin1 m c b) c).arrAt_in 0 rfl _).symm
    show Vnms m c main_v3 = Vin1 m c main_v3
    unfold Vnms
    rw [Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide))]
  · refine Eq.trans ?_ ((dat1 (fun c b => Vin1 m c b) c).arrAt_in 1 rfl _).symm
    show Vnms m c main_v12 = Vin1 m c main_v12
    unfold Vnms
    rw [Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide))]
  · refine Eq.trans ?_ ((dat1 (fun c b => Vin1 m c b) c).arrAt_in 2 rfl _).symm
    show Vnms m c main_v16 = Vin1 m c main_v16
    unfold Vnms
    rw [Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide))]
  · refine Eq.trans ?_ ((dat1 (fun c b => Vin1 m c b) c).arrAt_in 3 rfl _).symm
    show Vnms m c main_v20 = Vin1 m c main_v20
    unfold Vnms
    rw [Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide))]
  · refine Eq.trans ?_ ((dat1 (fun c b => Vin1 m c b) c).arrAt_in 4 rfl _).symm
    show Vnms m c main_v24 = Vin1 m c main_v24
    unfold Vnms
    rw [Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide))]
  · refine Eq.trans ?_ ((dat1 (fun c b => Vin1 m c b) c).arrAt_in 5 rfl _).symm
    show Vnms m c main_v28 = Vin1 m c main_v28
    unfold Vnms
    rw [Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide))]
  · show Vnms m c main_v29_0 = _
    unfold Vnms
    rw [Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_self]
    rfl
  · show Vnms m c main_v29_1 = _
    unfold Vnms
    rw [Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_self]
    rfl
  · show Vnms m c main_v29_2 = _
    unfold Vnms
    rw [Function.update_of_ne (StableHlo.devRef_ne_of_ne (by decide)), Function.update_of_ne (StableHlo.devRef_ne_of_ne (by decide)), Function.update_of_ne (StableHlo.devRef_ne_of_ne (by decide)), Function.update_self]
    rfl
  · show Vnms m c main_v29_3 = _
    unfold Vnms
    rw [Function.update_of_ne (StableHlo.devRef_ne_of_ne (by decide)), Function.update_of_ne (StableHlo.devRef_ne_of_ne (by decide)), Function.update_self]
    rfl
  · show Vnms m c main_v29_4 = _
    unfold Vnms
    rw [Function.update_of_ne (StableHlo.devRef_ne_of_ne (by decide)), Function.update_self]
    rfl
  · show Vnms m c main_v29_5 = _
    unfold Vnms
    rw [Function.update_self]
    rfl

theorem hne1 (c : Dev nD) (b : Ref sig .tc) (hb : ∀ w : Fin 12, b ≠ Pipeline.arrRef spec1 w) : V15 m (outs m) c b = Vin1 m c b := by
  rw [V15_outs]
  unfold Vnms
  rw [Function.update_of_ne (StableHlo.devRef_ne_of_ne (hb 11)), Function.update_of_ne (StableHlo.devRef_ne_of_ne (hb 10)), Function.update_of_ne (StableHlo.devRef_ne_of_ne (hb 9)), Function.update_of_ne (StableHlo.devRef_ne_of_ne (hb 8)), Function.update_of_ne (StableHlo.devRef_ne_of_ne (hb 7)), Function.update_of_ne (StableHlo.devRef_ne_of_ne (hb 6))]

/-- The pipelines' cells and transfers at the start, through the algebra's own embedding. -/
abbrev EP : Emb (UR sig nD τ) (MT nD τ sig Unit (Elt F) ℕ (UR sig nD τ) ℕ) := emb₁
def u₀ : UR sig nD τ := initOf (Pipeline.cells cfgs cellOf_inj) (Pipeline.launchToks cfgs cellOf_inj)

/-- The two calls as segments of this program. -/
abbrev R0 := reg0 (F := F) (fun c b => V0 m c b) (fun c b => Vin1 m c b) (fun c b => V1 m (outs m) c b) (hout0 m) (hne0 m)
abbrev R1 := reg1 (F := F) (fun c b => V0 m c b) (fun c b => Vin1 m c b) (fun c b => V15 m (outs m) c b) (hout1 m) (hne1 m)

/-- The host buffers held at a valuation, with what rides along: the two spellings are one. -/
theorem held_bufs (c : Dev nD) (W W' : Valuation τ sig (Elt F)) (h : W = W') :
    (iprop(StableHlo.held (c : Thread nD τ) (Pipeline.ucRefs τ sig) W ∗ Owes c) : sProp 𝕄) = iprop(unscopedBufs c (fun b => W' b) ∗ Owes c) := by
  subst h
  rw [Pipeline.unscopedBufs_held c W]

theorem pre0 (c : Dev nD) : (iprop(StableHlo.held (c : Thread nD τ) (Pipeline.ucRefs τ sig) (V0 m c) ∗ Owes c) : sProp 𝕄) ⊢ (R0 m).pre c :=
  Entails.of_eq (held_bufs c (V0 m c) (V0 m c) rfl)
theorem post0 (c : Dev nD) : (R0 m).post c ⊢ (iprop(StableHlo.held (c : Thread nD τ) (Pipeline.ucRefs τ sig) (V1 m (outs m) c) ∗ Owes c) : sProp 𝕄) :=
  Entails.of_eq (held_bufs c (V1 m (outs m) c) (V1 m (outs m) c) rfl).symm
theorem pre1 (c : Dev nD) : (iprop(StableHlo.held (c : Thread nD τ) (Pipeline.ucRefs τ sig) (V14 m (outs m) c) ∗ Owes c) : sProp 𝕄) ⊢ (R1 m).pre c :=
  Entails.of_eq (held_bufs c (V14 m (outs m) c) (Vin1 m c) (V14_outs m c))
theorem post1 (c : Dev nD) : (R1 m).post c ⊢ (iprop(StableHlo.held (c : Thread nD τ) (Pipeline.ucRefs τ sig) (V15 m (outs m) c) ∗ Owes c) : sProp 𝕄) :=
  Entails.of_eq (held_bufs c (V15 m (outs m) c) (V15 m (outs m) c) rfl).symm

set_option backward.isDefEq.respectTransparency.types false in
/-- Every run of the program ends, with every host buffer at the last valuation and every semaphore at zero. -/
theorem run (ρ : Dev nD → PrngReg) :
    θ_run defs (onTc (τ := τ) (main (F := F))) ⟨m, fun _ => 0, ρ⟩ (fun r => (∀ c : Dev nD,
      ∀ b ∈ Pipeline.ucRefs τ sig, r.2.mem (c, b) = V16 m (outs m) c b) ∧ r.2.sem = fun _ => 0) := by
  refine Pipeline.θ_run_regions_kit_dev_sems (pcfgs (F := F)) adm (pdats (fun c b => V0 m c b) (fun c b => Vin1 m c b)) () cellOf_inj EP defs₀ 𝒱₀ Lv lv m ρ main
    (segs m (outs m) 𝒱₀ Lv lv (fun _ => Owes) () (pdats (fun c b => V0 m c b) (fun c b => Vin1 m c b)) (R0 m) (R1 m))
    (fun c Q => by
      rewrite [main_chain c, Seg.run_eq_chain,
        show (segs m (outs m) 𝒱₀ Lv lv (fun _ => Owes) () (pdats (fun c b => V0 m c b) (fun c b => Vin1 m c b)) (R0 m) (R1 m) c).map Seg.prog = [
          Prog.lift (.customCall (Pipeline.entry 0) ()),
          StableHlo.seq hostOps1, StableHlo.seq hostOps1_1, StableHlo.seq hostOps1_2, StableHlo.seq hostOps1_3,
          StableHlo.seq hostOps1_4, StableHlo.seq hostOps1_5, StableHlo.seq hostOps1_6, StableHlo.seq hostOps1_7,
          StableHlo.seq hostOps1_8, StableHlo.seq hostOps1_9, StableHlo.seq hostOps1_10, StableHlo.seq hostOps1_11,
          StableHlo.seq hostOps1_12,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun _ _ => rfl) (fun _ => iprop(emp)) u₀
    (hu₀ := ?_)
    (T₀ := fun c => iprop(StableHlo.held (c : Thread nD τ) (Pipeline.ucRefs τ sig) (V0 m c) ∗ Owes c))
    (Tₙ := fun c => StableHlo.held (c : Thread nD τ) (Pipeline.ucRefs τ sig) (V16 m (outs m) c))
    (hch := fun c => ⟨pre0 m c, post0 m c, .rfl, .rfl, .rfl, .rfl, .rfl, .rfl, .rfl, .rfl, .rfl, .rfl, .rfl, .rfl, pre1 m c, post1 m c, .rfl⟩)
    (hinit := ?_) (QY := fun c s => ∀ b ∈ Pipeline.ucRefs τ sig, s.mem (c, b) = V16 m (outs m) c b)
    (hfin := fun c s' => ?_) (hQ := fun _ h hz => ⟨h, funext fun g => hz g (.inr (regions_no_unscoped g.2))⟩)
  · unfold u₀
    iintro Hu
    imodintro
    isplitl [Hu]; · iapply (show (ownU (initOf (Pipeline.cells cfgs cellOf_inj) (Pipeline.launchToks cfgs cellOf_inj)) : sProp 𝕄) ⊢ BI.own (EP (initOf (Pipeline.cells cfgs cellOf_inj) (Pipeline.launchToks cfgs cellOf_inj))) from Entails.of_eq (ownU_emb₁ _)); iexact Hu
    iapply (show (BI.emp : sProp 𝕄) ⊢ bigSep Finset.univ (fun _ : Dev nD => (BI.emp : sProp 𝕄)) from by rw [BI.bigSep_emp_const])
    iempintro
  · refine Pipeline.initEach Lv lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V16 m (outs m) c) s') $$ [Hh HSI]
    · isplitl [Hh] <;> iassumption
    icases Hr with ⟨%h, HSI⟩
    imodintro
    isplitr
    · ipureintro; exact h
    · iexact HSI

/-- A host buffer of the core's is among those the run accounts for. -/
theorem mem_uc (b : Ref sig .tc) (h : ¬ (Proc.devRef (τ := τ) .tc b).isScoped) : Proc.devRef .tc b ∈ Pipeline.ucRefs τ sig :=
  Finset.mem_filter.mpr ⟨StableHlo.devRef_mem_tcRefs b, h⟩

/-- Every run ends with both arguments as launched and every semaphore at zero. -/
theorem frame_run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (run m ρ).mono fun r h => ⟨fun c =>
    ⟨(h.1 c _ (mem_uc main_arg0 (by decide))).trans (V16_main_arg0 m (outs m) c),
     (h.1 c _ (mem_uc main_arg1 (by decide))).trans (V16_main_arg1 m (outs m) c)⟩, h.2⟩

end Cert.Proof.KernelIdeal

end
-- ==== Proof.KernelFrame.lean ====
/- The kernel as it is printed at machine floats and at exact ones is one program: its frame follows from the run proved
   over any float values. -/
module

public import proofs.«01_k».proof.Proof.IdealRun
public import proofs.«01_k».proof.Proof.Gen.Kernel.Launch

@[expose] public section

set_option maxRecDepth 65536
set_option maxHeartbeats 400000

noncomputable section

namespace Cert.Proof.Kernel

open Idealize.ShloMosaic Idealize.ShloMosaic.TcCoe Idealize.SL.Sem

variable {F : FTy → Type} [FloatOps F]

/-- The two kernels' bodies are the same. -/
theorem defs₀_same : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl
  | 1, (t, s) => rfl

/-- The two programs' definitions are the same. -/
theorem defs_same : Cert.Kernel.defs (F := F) = Cert.KernelIdeal.defs (F := F) := by
  unfold Cert.Kernel.defs Cert.KernelIdeal.defs
  exact congrArg (Pipeline.defs Cert.Kernel.pcfgs) defs₀_same

/-- The two programs are the same. -/
theorem main_same : Cert.Kernel.main (F := F) = Cert.KernelIdeal.main (F := F) := by
  funext c
  refine (Cert.Kernel.Gen.main_chain c).trans (Eq.trans ?_ (Cert.KernelIdeal.Gen.main_chain c).symm)
  refine congrArg Pipeline.chain ?_
  rfl

/-- Every run of the kernel ends with both arguments as launched and every semaphore at zero. -/
theorem frame_run (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_same, main_same]
  exact KernelIdeal.frame_run m ρ

end Cert.Proof.Kernel

end
-- ==== Proof.RefRun.lean ====
/- The reference's run, its loop read as the step of the generated step module: one trip at any contents is that step of the state the contents
   hold, and the results are what the operations after the loop make of the state after three hundred trips. -/
module

public import proofs.«01_k».proof.Proof.Gen.ReferenceIdeal.Run
public import proofs.«01_k».proof.Proof.Gen.ReferenceIdeal.Step

@[expose] public section

set_option maxRecDepth 16384

noncomputable section

namespace Cert.Proof.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The state a valuation holds at the buffers the loop carries. -/
abbrev stateOf (V : Valuation τ sig (Elt F)) : State F :=
  { main_v6_2 := V (Proc.devRef .tc main_v6_2), main_v6_3 := V (Proc.devRef .tc main_v6_3),
    main_v6_4 := V (Proc.devRef .tc main_v6_4), main_v6_0 := V (Proc.devRef .tc main_v6_0) }

/-- The scores a trip leaves available. -/
theorem avail_step (V : Valuation τ sig (Elt F)) (j : ℕ) : step_main_v6_2 V = Step.b81 j (stateOf V) := rfl

/-- The indices table a trip leaves, the trip's counter holding its number. -/
theorem idxs_step (V : Valuation τ sig (Elt F)) (j : ℕ)
    (hn : V (Proc.devRef .tc main_v6_1) = constantI S_ 32 (BitVec.ofNat 32 j)) : step_main_v6_3 V = Step.b89 j (stateOf V) := by
  unfold step_main_v6_3
  rw [hn]
  rfl

/-- The validity table a trip leaves, the trip's counter holding its number. -/
theorem valids_step (V : Valuation τ sig (Elt F)) (j : ℕ)
    (hn : V (Proc.devRef .tc main_v6_1) = constantI S_ 32 (BitVec.ofNat 32 j)) : step_main_v6_4 V = Step.b92 j (stateOf V) := by
  unfold step_main_v6_4
  rw [hn]
  rfl

/-- The counter after a trip. -/
theorem counter_step (V : Valuation τ sig (Elt F)) (j : ℕ)
    (hn : V (Proc.devRef .tc main_v6_1) = constantI S_ 32 (BitVec.ofNat 32 j)) :
    step_main_v6_1 V = constantI S_ 32 (BitVec.ofNat 32 (j + 1)) := by
  unfold step_main_v6_1
  rw [hn]
  funext i
  show BitVec.ofNat 32 j + 1#32 = BitVec.ofNat 32 (j + 1)
  simp only [BitVec.ofNat_add]

/-- The valuation after a trip holds the stepped state and the next number. -/
theorem state_step (V : Valuation τ sig (Elt F)) (j : ℕ)
    (hn : V (Proc.devRef .tc main_v6_1) = constantI S_ 32 (BitVec.ofNat 32 j)) :
    stateOf (STEP V) = step j (stateOf V)
      ∧ STEP V (Proc.devRef .tc main_v6_1) = constantI S_ 32 (BitVec.ofNat 32 (j + 1)) := by
  refine ⟨?_, (STEP_main_v6_1 V).trans (counter_step V j hn)⟩
  unfold stateOf step
  rw [STEP_main_v6_2, STEP_main_v6_3, STEP_main_v6_4, STEP_main_v6_0, avail_step V j, idxs_step V j hn, valids_step V j hn]

variable (m : (ℓ : Loc nD τ sig) → Buf (Elt F) ℓ) (c : Dev nD)

/-- The state the first trip starts from, of the memory the run starts from. -/
abbrev initState : State F :=
  init (m ((c.tc : Thread nD τ).loc main_arg0)) (m ((c.tc : Thread nD τ).loc main_arg1))

/-- Reading a buffer by the type its contents are declared at. -/
theorem ofBuf_same {T : BufTy} (t : TRef sig T) (v : t.ref.ty.Contents (Elt F)) (w : T.Contents (Elt F)) (h : HEq v w) :
    t.ofBuf v = w := eq_of_heq ((cast_heq _ _).trans h)
/-- Writing a buffer by the type its contents are declared at. -/
theorem toBuf_same {T : BufTy} (t : TRef sig T) (w : T.Contents (Elt F)) (v : t.ref.ty.Contents (Elt F)) (h : HEq w v) :
    t.toBuf w = v := eq_of_heq ((cast_heq _ _).trans h)

/-- The scores available before the first trip. -/
theorem entry_avail : entryContents preI m c (Proc.devRef .tc main_v6_2) = Step.A_main_v3 (m ((c.tc : Thread nD τ).loc main_arg1)) := by
  simp only [entryContents, afterL_cons, afterL_nil]
  after_reads_simp
  simp only [TRef.ofBuf_toBuf]
  unfold Step.A_main_v3 Step.A_main_v2 Step.A_main_v0 Step.K_main_v1 Step.K_main_call0_v1 Step.K_main_call0_v0 Step.K_main_cst Step.K_main_cst_0 Step.K_main_cst_1
  have hm : launchContents m c (Proc.devRef .tc main_arg1) = m ((c.tc : Thread nD τ).loc main_arg1) := rfl
  rw [hm]
  generalize Host.reduce FloatOps.maximumf (m ((c.tc : Thread nD τ).loc main_arg1)) _ _ _ = r
  generalize cmpf CmpFPredicate.ogt r _ = b
  generalize constant (F := F) S_ FTy.f32 4286578688#32 = w
  refine Eq.trans (id_eq _) ?_
  refine toBuf_same _ _ _ ?_
  refine heq_of_eq (congr (congr (congrArg select ?_) ?_) (congrArg _ ?_))
  · refine ofBuf_same _ _ _ ?_; exact HEq.rfl
  · refine ofBuf_same _ _ _ ?_; exact HEq.rfl
  · refine congrArg id ?_
    unfold TRef.ofBuf
    exact eq_of_heq (cast_heq _ _)
theorem entry_idxs : entryContents preI m c (Proc.devRef .tc main_v6_3) = Step.K_main_v4 (F := F) := by
  simp only [entryContents, afterL_cons, afterL_nil]; after_reads_simp; rfl
theorem entry_valids : entryContents preI m c (Proc.devRef .tc main_v6_4) = Step.K_main_v5 (F := F) := by
  simp only [entryContents, afterL_cons, afterL_nil]; after_reads_simp; rfl
theorem entry_boxes : entryContents preI m c (Proc.devRef .tc main_v6_0) = m ((c.tc : Thread nD τ).loc main_arg0) := by
  simp only [entryContents, afterL_cons, afterL_nil]; after_reads_simp; rfl
theorem entry_counter : entryContents preI m c (Proc.devRef .tc main_v6_1) = constantI S_ 32 (BitVec.ofNat 32 0) :=
  ctr_entry m c

/-- The state before trip `k`. -/
def stateAt : ℕ → State F
  | 0 => initState m c
  | k + 1 => step k (stateAt k)

/-- The contents before trip `k` hold that state and the number `k`. -/
theorem holds_at : ∀ k, stateOf (STEP^[k] (entryContents preI m c)) = stateAt m c k
    ∧ (STEP^[k] (entryContents preI m c)) (Proc.devRef .tc main_v6_1) = constantI S_ 32 (BitVec.ofNat 32 k)
  | 0 => by
    refine ⟨?_, entry_counter m c⟩
    show stateOf (entryContents preI m c) = initState m c
    unfold stateOf initState init
    rw [entry_avail, entry_idxs, entry_valids, entry_boxes]
  | k + 1 => by
    obtain ⟨hs, hn⟩ := holds_at k
    rw [Function.iterate_succ_apply']
    obtain ⟨h1, h2⟩ := state_step _ k hn
    exact ⟨h1.trans (by rw [hs]; rfl), h2⟩

/-- The boxes result of the contents after the loop. -/
theorem out_boxes (V : Valuation τ sig (Elt F)) :
    out_main_v26 V = Step.R_main_v26 (stateOf V) (V (Proc.devRef .tc main_arg0)) (V (Proc.devRef .tc main_arg1)) := rfl
/-- The scores result of the contents after the loop. -/
theorem out_scores (V : Valuation τ sig (Elt F)) :
    out_main_v27 V = Step.R_main_v27 (stateOf V) (V (Proc.devRef .tc main_arg1)) := rfl
/-- The labels result of the contents after the loop. -/
theorem out_labels (V : Valuation τ sig (Elt F)) :
    out_main_v30 V = Step.R_main_v30 (stateOf V) (V (Proc.devRef .tc main_arg1)) := rfl

/-- The reference's run: every weakly fair execution terminates with each result made from the state after three hundred
trips, and the arguments unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v26) = Step.R_main_v26 (stateAt m c 300) (m ((c.tc : Thread nD τ).loc main_arg0)) (m ((c.tc : Thread nD τ).loc main_arg1))
      ∧ r.2.mem ((c.tc : Thread nD τ).loc main_v27) = Step.R_main_v27 (stateAt m c 300) (m ((c.tc : Thread nD τ).loc main_arg1))
      ∧ r.2.mem ((c.tc : Thread nD τ).loc main_v30) = Step.R_main_v30 (stateAt m c 300) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    obtain ⟨h1, h2, h3, h4, h5⟩ := h c
    rw [out_boxes, iter_main_arg0 m c 300, iter_main_arg1 m c 300, (holds_at m c 300).1] at h1
    rw [out_scores, iter_main_arg1 m c 300, (holds_at m c 300).1] at h2
    rw [out_labels, iter_main_arg1 m c 300, (holds_at m c 300).1] at h3
    exact ⟨h1, h2, h3, h4, h5⟩) (Value.run m ρ)

end Cert.Proof.RefRun

end
-- ==== Proof.Greedy.lean ====
/- Greedy suppression on one list of scored boxes, in the extended reals: the choice of a trip, its effect, the trips. -/
module

public import Idealize.ShloMosaic.Lib.Pointwise

@[expose] public section

noncomputable section

namespace Cert.Proof.Greedy

open Idealize.ShloMosaic

/-- Position `p` holds the greatest value, and no earlier position does. -/
structure IsPick {n : ℕ} (av : Fin n → EReal) (p : Fin n) : Prop where
  top : ∀ i, av i ≤ av p
  first : ∀ i, i < p → av i < av p

/-- There is at most one such position. -/
theorem IsPick.unique {n : ℕ} {av : Fin n → EReal} {p q : Fin n} (hp : IsPick av p) (hq : IsPick av q) : p = q := by
  rcases lt_trichotomy p q with h | h | h
  · exact absurd (hq.first p h) (not_lt.2 (hp.top q))
  · exact h
  · exact absurd (hp.first q h) (not_lt.2 (hq.top p))

/-- A list that is not empty has such a position. -/
theorem exists_pick {n : ℕ} (hn : 0 < n) (av : Fin n → EReal) : ∃ p, IsPick av p := by
  haveI : Nonempty (Fin n) := ⟨⟨0, hn⟩⟩
  obtain ⟨q, hq⟩ := Finite.exists_max av
  classical
  let S : Finset (Fin n) := Finset.univ.filter fun i => av i = av q
  have hS : S.Nonempty := ⟨q, by simp [S]⟩
  refine ⟨S.min' hS, ?_, ?_⟩
  · have h : av (S.min' hS) = av q := by
      have := S.min'_mem hS
      simpa [S] using this
    intro i
    rw [h]
    exact hq i
  · intro i hi
    have h : av (S.min' hS) = av q := by
      have := S.min'_mem hS
      simpa [S] using this
    rw [h]
    refine lt_of_le_of_ne (hq i) fun e => ?_
    exact absurd (S.min'_le i (by simp [S, e])) (not_le.2 hi)

/-- The first position of the greatest value. -/
def pick {n : ℕ} [NeZero n] (av : Fin n → EReal) : Fin n := (exists_pick (Nat.pos_of_ne_zero (NeZero.ne n)) av).choose

theorem pick_spec {n : ℕ} [NeZero n] (av : Fin n → EReal) : IsPick av (pick av) := (exists_pick (Nat.pos_of_ne_zero (NeZero.ne n)) av).choose_spec

theorem pick_eq {n : ℕ} [NeZero n] {av : Fin n → EReal} {p : Fin n} (h : IsPick av p) : pick av = p := (pick_spec av).unique h

/-- The small number added to a denominator. -/
def eps : EReal := Ideal.ofBits .f32 0x322BCC77#32
/-- The overlap above which a box is suppressed. -/
def half : EReal := Ideal.ofBits .f32 0x3F000000#32
/-- The value a score must exceed for its box to be reported. -/
def floor : EReal := Ideal.ofBits .f32 0xF149F2CA#32

/-- Four lists: the corners of the boxes. -/
structure Boxes (n : ℕ) where
  x1 : Fin n → EReal
  y1 : Fin n → EReal
  x2 : Fin n → EReal
  y2 : Fin n → EReal

/-- The area of two boxes' intersection, from their corners. -/
def inter (a1 b1 a2 b2 c1 d1 c2 d2 : EReal) : EReal :=
  max (min a2 c2 - max a1 c1) 0 * max (min b2 d2 - max b1 d1) 0

/-- The overlap of a box with another of area `ar`: intersection over union, the denominator a little enlarged. -/
def ovlA (a1 b1 a2 b2 c1 d1 c2 d2 ar : EReal) : EReal :=
  Ideal.div (inter a1 b1 a2 b2 c1 d1 c2 d2)
    (((a2 - a1) * (b2 - b1) + ar - inter a1 b1 a2 b2 c1 d1 c2 d2) + eps)

variable {n : ℕ}

/-- The overlap of boxes `p` and `i`. -/
def Boxes.ovl (B : Boxes n) (p i : Fin n) : EReal :=
  ovlA (B.x1 p) (B.y1 p) (B.x2 p) (B.y2 p) (B.x1 i) (B.y1 i) (B.x2 i) (B.y2 i)
    ((B.x2 i - B.x1 i) * (B.y2 i - B.y1 i))

open Classical in
/-- One trip: the boxes that overlap the choice by more than half are suppressed. -/
def Boxes.step [NeZero n] (B : Boxes n) (av : Fin n → EReal) : Fin n → EReal := fun i =>
  if half < B.ovl (pick av) i then ⊥ else av i

/-- The scores left after `k` trips. -/
def Boxes.avail [NeZero n] (B : Boxes n) (m : Fin n → EReal) : ℕ → Fin n → EReal
  | 0 => m
  | k + 1 => B.step (Boxes.avail B m k)

/-- The choice of trip `k`. -/
def Boxes.sel [NeZero n] (B : Boxes n) (m : Fin n → EReal) (k : ℕ) : Fin n := pick (B.avail m k)

/-- The score of the choice of trip `k`. -/
def Boxes.best [NeZero n] (B : Boxes n) (m : Fin n → EReal) (k : ℕ) : EReal := B.avail m k (B.sel m k)

variable [NeZero n] (B : Boxes n) (m : Fin n → EReal)

theorem step_le (av : Fin n → EReal) (i : Fin n) : B.step av i ≤ av i := by
  unfold Boxes.step
  split
  · exact bot_le
  · exact le_refl _

/-- The score of the choice does not grow. -/
theorem best_anti : Antitone (B.best m) := by
  refine antitone_nat_of_succ_le fun k => ?_
  exact (step_le B (B.avail m k) _).trans ((pick_spec (B.avail m k)).top _)

/-- A score left is either the first one or nothing. -/
theorem avail_or (k : ℕ) (i : Fin n) : B.avail m k i = m i ∨ B.avail m k i = ⊥ := by
  induction k with
  | zero => exact .inl rfl
  | succ k ih =>
    show B.step (B.avail m k) i = m i ∨ B.step (B.avail m k) i = ⊥
    unfold Boxes.step
    split
    · exact .inr rfl
    · exact ih

/-- A choice whose score is above nothing has the score it had at first. -/
theorem best_eq (k : ℕ) (h : ⊥ < B.best m k) : B.best m k = m (B.sel m k) := by
  rcases avail_or B m k (B.sel m k) with e | e
  · exact e
  · exact absurd h (by show ¬ ⊥ < B.avail m k (B.sel m k); rw [e]; exact lt_irrefl _)

end Cert.Proof.Greedy

end
-- ==== Proof.Problem.lean ====
/- The problem's lists as both programs see them: the classes' best score and its class, the scores kept, the corners. -/
module

public import proofs.«01_k».proof.Proof.Greedy
public import Idealize.ShloMosaic.Lib.Pointwise

@[expose] public section

noncomputable section

namespace Cert.Proof.Greedy

open Idealize.ShloMosaic

/-- The value a class's score must exceed for its box to take part. -/
def thr : EReal := Ideal.ofBits .f32 0x3D4CCCCD#32

/-- The class a row of scores names: the first of the greatest. -/
def clsOf (v : Fin 80 → EReal) : Fin 80 := pick v
/-- The score a row of scores leaves: its greatest if that exceeds the threshold, nothing otherwise. -/
def scoreOf (v : Fin 80 → EReal) : EReal := if thr < v (clsOf v) then v (clsOf v) else ⊥

/-- The class of box `i` of batch `b`. -/
def cls (x : (⟨3, ![8, 20000, 80]⟩ : Shape).Idx → EReal) (b : Fin 8) (i : Fin 20000) : Fin 80 := clsOf fun k => x (ix3 b i k)
/-- The scores of the boxes of batch `b`. -/
def scores (x : (⟨3, ![8, 20000, 80]⟩ : Shape).Idx → EReal) (b : Fin 8) (i : Fin 20000) : EReal := scoreOf fun k => x (ix3 b i k)
/-- The corners of the boxes of batch `b`. -/
def corners (y : (⟨3, ![8, 20000, 4]⟩ : Shape).Idx → EReal) (b : Fin 8) : Boxes 20000 :=
  ⟨fun i => y (ix3 b i 0), fun i => y (ix3 b i 1), fun i => y (ix3 b i 2), fun i => y (ix3 b i 3)⟩

/-- The classes of the boxes of batch `b` at any position, none behind the boxes. -/
def labels (x : (⟨3, ![8, 20000, 80]⟩ : Shape).Idx → EReal) (b : Fin 8) (i : ℕ) : ℕ :=
  if h : i < 20000 then (cls x b ⟨i, h⟩).val else 0

theorem labels_lt (x : (⟨3, ![8, 20000, 80]⟩ : Shape).Idx → EReal) (b : Fin 8) (i : ℕ) : labels x b i < 128 := by
  unfold labels
  split
  · have := (cls x b ⟨i, by assumption⟩).isLt; omega
  · omega

theorem labels_val (x : (⟨3, ![8, 20000, 80]⟩ : Shape).Idx → EReal) (b : Fin 8) (i : Fin 20000) :
    labels x b i.val = (cls x b i).val := by
  unfold labels
  rw [dif_pos i.isLt]

open Classical in
/-- A result of a trip: a value of the choice when its score is high enough, minus one otherwise. -/
def shown (ok : EReal) (v : EReal) : EReal := if floor < ok then v else Ideal.ofBits .f32 0xBF800000#32

open Classical in
/-- A label of a trip: the choice's when its score is high enough, minus one otherwise. -/
def shownLab (ok : EReal) (v : ℕ) : BitVec 32 := if floor < ok then BitVec.ofNat 32 v else 4294967295#32

end Cert.Proof.Greedy

end
-- ==== Proof.HostVal.lean ====
/- The suppression kernel's operands, as the host makes them of the arguments and of the first kernel's results. -/
module

public import proofs.«01_k».proof.Proof.Problem
public import proofs.«01_k».proof.Proof.IdealRun
public import Idealize.ShloMosaic.Lib.Pointwise
public import Idealize.ShloMosaic.Lib.StableHlo.RunRead

@[expose] public section

set_option maxRecDepth 65536
set_option maxHeartbeats 1000000

noncomputable section

namespace Cert.Proof.KernelIdeal

open Cert.KernelIdeal Cert.KernelIdeal.Gen
open Idealize.ShloMosaic Idealize.ShloMosaic.TcCoe Idealize.ShloMosaic.StableHlo
open Cert.Proof.Greedy

variable {F : FTy → Type} [FloatOps F]
variable (m : (ℓ : Loc nD τ sig) → Buf (Elt F) ℓ) (outs : Outs (F := F)) (c : Dev nD)

/-- A host column of scores, padded and laid out in rows of 128. -/
abbrev laid {α : Type} (x : S8x20000.Idx → α) (v : S_.Idx → α) : S8x160x128.Idx → α :=
  shapeCast S8x160x128 (pad S8x20480 ![0, 0] ![0, 480] ![0, 0] x v pads_S8x20000_S8x20480_000_04800 h_S_) shapeCasts_S8x20480_S8x160x128

theorem in_v3 : V14 m outs c main_v3 =
    laid (shapeCast S8x20000 (V1 m outs c main_v0_0) shapeCasts_S8x20000x1_S8x20000) (constant (F := F) S_ .f32 0xFF800000#32) := by
  rw [V14_of m outs c _ (by decide), V13_of m outs c _ (by decide), V12_of m outs c _ (by decide), V11_of m outs c _ (by decide), V10_of m outs c _ (by decide), V9_of m outs c _ (by decide), V8_of m outs c _ (by decide), V7_of m outs c _ (by decide), V6_of m outs c _ (by decide), V5_of m outs c _ (by decide)]
  after_reads_simp
  rfl

theorem in_v12 : V14 m outs c main_v12 =
    addi (broadcastInDim S8x160x128 ![0, 1, 2] bcast_S1x160x128_S8x160x128_0_1_2 (muli (shapeCast S1x160x128 (iotaInDim S20480 32 0) shapeCasts_S20480_S1x160x128) (broadcastInDim S1x160x128 ![] bcast_S_S1x160x128 (constantI S_ 32 128#32))))
      (laid (shapeCast S8x20000 (V1 m outs c main_v0_1) shapeCasts_S8x20000x1_S8x20000) (constantI S_ 32 0#32)) := by
  rw [V14_of m outs c _ (by decide), V13_of m outs c _ (by decide), V12_of m outs c _ (by decide), V11_of m outs c _ (by decide), V10_of m outs c _ (by decide), V9_of m outs c _ (by decide), V8_of m outs c _ (by decide), V7_of m outs c _ (by decide)]
  after_reads_simp
  rfl

theorem in_v16 : V14 m outs c main_v16 =
    laid (shapeCast S8x20000 (extractStridedSlice S8x20000x1 ![0, 0, 0] (m ((c : Thread nD τ).loc main_arg0)) slices_S8x20000x4_S8x20000x1_0_0_0) shapeCasts_S8x20000x1_S8x20000) (sitofp .f32 (constantI S_ 32 0#32)) := by
  rw [V14_of m outs c _ (by decide), V13_of m outs c _ (by decide), V12_of m outs c _ (by decide), V11_of m outs c _ (by decide), V10_of m outs c _ (by decide), V9_of m outs c _ (by decide)]
  after_reads_simp
  rfl

theorem in_v20 : V14 m outs c main_v20 =
    laid (shapeCast S8x20000 (extractStridedSlice S8x20000x1 ![0, 0, 1] (m ((c : Thread nD τ).loc main_arg0)) slices_S8x20000x4_S8x20000x1_0_0_1) shapeCasts_S8x20000x1_S8x20000) (sitofp .f32 (constantI S_ 32 0#32)) := by
  rw [V14_of m outs c _ (by decide), V13_of m outs c _ (by decide), V12_of m outs c _ (by decide), V11_of m outs c _ (by decide)]
  after_reads_simp
  rfl

theorem in_v24 : V14 m outs c main_v24 =
    laid (shapeCast S8x20000 (extractStridedSlice S8x20000x1 ![0, 0, 2] (m ((c : Thread nD τ).loc main_arg0)) slices_S8x20000x4_S8x20000x1_0_0_2) shapeCasts_S8x20000x1_S8x20000) (sitofp .f32 (constantI S_ 32 0#32)) := by
  rw [V14_of m outs c _ (by decide), V13_of m outs c _ (by decide)]
  after_reads_simp
  rfl

theorem in_v28 : V14 m outs c main_v28 =
    laid (shapeCast S8x20000 (extractStridedSlice S8x20000x1 ![0, 0, 3] (m ((c : Thread nD τ).loc main_arg0)) slices_S8x20000x4_S8x20000x1_0_0_3) shapeCasts_S8x20000x1_S8x20000) (sitofp .f32 (constantI S_ 32 0#32)) := by
  after_reads_simp
  rfl

/-- A laid-out column at a row and a lane: the column's entry at the position, the padding's behind the column. -/
theorem laid_val {α : Type} (x : S8x20000.Idx → α) (v : S_.Idx → α) (b : Fin 8) (r : Fin 160) (l : Fin 128) :
    laid x v (ix3 b r l) = if h : 128 * r.val + l.val < 20000 then x (ix2 b ⟨128 * r.val + l.val, h⟩) else v ix0 := by
  have e0 : Shape.Idx.first h_S_ = ix0 := funext fun a => a.elim0
  pointwise [laid]
  rw [e0]
  simp only [Nat.mul_comm r.val 128]

end Cert.Proof.KernelIdeal

end
-- ==== Proof.Folds.lean ====
/- The reductions of the kernels, read as a greatest or a least element. -/
module

public import proofs.«01_k».proof.Proof.Greedy

@[expose] public section

noncomputable section

namespace Cert.Proof.Greedy

open Idealize.ShloMosaic

/-- The least of all numbers. -/
theorem ofBits_bot : Ideal.ofBits .f32 0xFF800000#32 = ⊥ := by
  simp [Ideal.ofBits, Ideal.ieee]

/-- A maximum over a table's columns and rows, from nothing, is an entry that bounds the table. -/
theorem fold_max2 {a b : ℕ} (f : Fin a → Fin b → EReal) (i0 : Fin a) (j0 : Fin b) (h : ∀ i j, f i j ≤ f i0 j0) :
    Finset.fold max (Ideal.ofBits .f32 0xFF800000#32)
      (fun i => Finset.fold max (Ideal.ofBits .f32 0xFF800000#32) (fun j => f i j) Finset.univ) Finset.univ = f i0 j0 := by
  rw [ofBits_bot]
  apply le_antisymm
  · refine Finset.fold_max_le _ |>.2 ⟨bot_le, fun i _ => ?_⟩
    exact Finset.fold_max_le _ |>.2 ⟨bot_le, fun j _ => h i j⟩
  · refine Finset.le_fold_max _ |>.2 (.inr ⟨i0, Finset.mem_univ _, ?_⟩)
    exact Finset.le_fold_max _ |>.2 (.inr ⟨j0, Finset.mem_univ _, le_refl _⟩)

/-- A maximum from nothing is an entry that bounds the list. -/
theorem fold_max1 {a : ℕ} (f : Fin a → EReal) (i0 : Fin a) (h : ∀ i, f i ≤ f i0) :
    Finset.fold max (Ideal.ofBits .f32 0xFF800000#32) f Finset.univ = f i0 := by
  rw [ofBits_bot]
  apply le_antisymm
  · exact Finset.fold_max_le _ |>.2 ⟨bot_le, fun i _ => h i⟩
  · exact Finset.le_fold_max _ |>.2 (.inr ⟨i0, Finset.mem_univ _, le_refl _⟩)

theorem toInt_minsi' (a b : BitVec 32) : (IntOp.minsi a b).toInt = min a.toInt b.toInt := by
  unfold IntOp.minsi
  split
  · rename_i h
    have := BitVec.slt_iff_toInt_lt.1 h
    omega
  · rename_i h
    have : ¬ a.toInt < b.toInt := fun e => h (BitVec.slt_iff_toInt_lt.2 e)
    omega

/-- The signed number of a minimum of words. -/
theorem toInt_fold {a : ℕ} (c : BitVec 32) (f : Fin a → BitVec 32) :
    (Finset.fold IntOp.minsi c f Finset.univ).toInt = Finset.fold min c.toInt (fun i => (f i).toInt) Finset.univ :=
  (Finset.fold_hom (op := IntOp.minsi) (op' := min) (m := BitVec.toInt) (fun x y => (toInt_minsi' x y))).symm

/-- A signed minimum is an entry that is least, when the start is not below it. -/
theorem fold_min1 {a : ℕ} (c : BitVec 32) (f : Fin a → BitVec 32) (i0 : Fin a) (h : ∀ i, (f i0).toInt ≤ (f i).toInt)
    (hc : (f i0).toInt ≤ c.toInt) : Finset.fold IntOp.minsi c f Finset.univ = f i0 := by
  apply BitVec.eq_of_toInt_eq
  rw [toInt_fold]
  apply le_antisymm
  · exact Finset.fold_min_le _ |>.2 (.inr ⟨i0, Finset.mem_univ _, le_refl _⟩)
  · exact Finset.le_fold_min _ |>.2 ⟨hc, fun i _ => h i⟩

/-- The same of a table, column by column. -/
theorem fold_min2 {a b : ℕ} (c : BitVec 32) (f : Fin a → Fin b → BitVec 32) (i0 : Fin a) (j0 : Fin b)
    (h : ∀ i j, (f i0 j0).toInt ≤ (f i j).toInt) (hc : (f i0 j0).toInt ≤ c.toInt) :
    Finset.fold IntOp.minsi c (fun i => Finset.fold IntOp.minsi c (fun j => f i j) Finset.univ) Finset.univ = f i0 j0 := by
  apply BitVec.eq_of_toInt_eq
  rw [toInt_fold]
  apply le_antisymm
  · refine Finset.fold_min_le _ |>.2 (.inr ⟨i0, Finset.mem_univ _, ?_⟩)
    rw [toInt_fold]
    exact Finset.fold_min_le _ |>.2 (.inr ⟨j0, Finset.mem_univ _, le_refl _⟩)
  · refine Finset.le_fold_min _ |>.2 ⟨hc, fun i _ => ?_⟩
    rw [toInt_fold]
    exact Finset.le_fold_min _ |>.2 ⟨hc, fun j _ => h i j⟩

/-- A sum over a table all of whose entries but one are zero. -/
theorem sum_one {a b : ℕ} (f : Fin a → Fin b → EReal) (i0 : Fin a) (j0 : Fin b) (h : ∀ i j, ¬(i = i0 ∧ j = j0) → f i j = 0) :
    ∑ i, ∑ j, f i j = f i0 j0 := by
  rw [Finset.sum_eq_single i0, Finset.sum_eq_single j0]
  · intro j _ hj
    exact h _ _ fun e => hj e.2
  · intro e; exact absurd (Finset.mem_univ _) e
  · intro i _ hi
    exact Finset.sum_eq_zero fun j _ => h _ _ fun e => hi e.1
  · intro e; exact absurd (Finset.mem_univ _) e

/-- The signed number of a small word. -/
theorem toInt_small (k : ℕ) (h : k < 2147483648) : (BitVec.ofNat 32 k).toInt = k := by
  rw [BitVec.toInt_ofNat']
  norm_num [Int.bmod]
  omega

theorem toNat_small (k : ℕ) (h : k < 4294967296) : (BitVec.ofNat 32 k).toNat = k := by
  rw [BitVec.toNat_ofNat]
  exact Nat.mod_eq_of_lt h

theorem ofNat_inj_small {k l : ℕ} (hk : k < 4294967296) (hl : l < 4294967296) : BitVec.ofNat 32 k = BitVec.ofNat 32 l ↔ k = l := by
  constructor
  · intro h
    have := congrArg BitVec.toNat h
    rwa [toNat_small k hk, toNat_small l hl] at this
  · rintro rfl; rfl

end Cert.Proof.Greedy

end
-- ==== Proof.ScoreVal.lean ====
/- The score kernel's arithmetic, in the extended reals. -/
module

public import proofs.«01_k».proof.Proof.Problem
public import proofs.«01_k».proof.Proof.Folds
public import proofs.«01_k».proof.Proof.IdealScore

@[expose] public section

set_option maxRecDepth 65536
set_option maxHeartbeats 1000000

noncomputable section

namespace Cert.Proof.KernelIdeal

open Cert.KernelIdeal Cert.KernelIdeal.Gen
open Idealize.ShloMosaic Idealize.ShloMosaic.TcCoe
open Cert.Proof.Greedy

/-- The greatest of a row of class scores. -/
theorem top_val (v : Vec Ideal S1x4000x80 .f32) (i : Fin 4000) :
    Gen.k0_pay2 v (ix1 i) = v (ix3 0 i (clsOf fun k => v (ix3 0 i k))) := by
  pointwise [Gen.k0_pay2, Gen.k0_pay1]
  exact fold_max1 (fun k => v (ix3 0 i k)) _ fun k => (pick_spec fun k => (v (ix3 0 i k) : EReal)).top k

/-- The score the first kernel leaves of a row. -/
theorem score_val (v : Vec Ideal S1x4000x80 .f32) (i : Fin 4000) :
    Gen.k0_pay3 v (ix3 0 i 0) = scoreOf fun k => v (ix3 0 i k) := by
  have h := top_val v i
  pointwise [Gen.k0_pay3]
  rw [h, ofBits_bot]
  rfl

/-- The class the first kernel leaves of a row: the least among those of the greatest score. -/
theorem class_val (v : Vec Ideal S1x4000x80 .f32) (i : Fin 4000) :
    Gen.k0_pay4 v (ix3 0 i 0) = BitVec.ofNat 32 (clsOf fun k => v (ix3 0 i k)).val := by
  have h := top_val v i
  pointwise [Gen.k0_pay4, Gen.k0_pay1]
  rw [h]
  have hP : IsPick (fun k => (v (ix3 0 i k) : EReal)) (clsOf fun k => v (ix3 0 i k)) := pick_spec fun k => (v (ix3 0 i k) : EReal)
  revert hP
  generalize (clsOf fun k => v (ix3 0 i k)) = p
  intro hP
  have hp := p.isLt
  have e : (if v (ix3 0 i p) = v (ix3 0 i p) then BitVec.ofNat 32 p.val else 1073741824#32) = BitVec.ofNat 32 p.val := if_pos rfl
  rw [← e]
  refine fold_min1 (2147483647#32) (fun k => if v (ix3 0 i k) = v (ix3 0 i p) then BitVec.ofNat 32 k.val else 1073741824#32) p (fun k => ?_) ?_
  · rw [e, toInt_small _ (by omega)]
    split
    · rename_i hk
      have hk' := k.isLt
      rw [toInt_small _ (by omega)]
      have : p ≤ k := by
        by_contra hlt
        exact absurd (hP.first k (not_le.1 hlt)) (by rw [hk]; exact lt_irrefl _)
      exact_mod_cast this
    · have : (1073741824#32 : BitVec 32).toInt = 1073741824 := by decide
      rw [this]
      omega
  · rw [e, toInt_small _ (by omega)]
    have : (2147483647#32 : BitVec 32).toInt = 2147483647 := by decide
    rw [this]
    omega

end Cert.Proof.KernelIdeal

end
-- ==== Proof.ScoreArr.lean ====
/- The first call's two result arrays, of the class scores. -/
module

public import proofs.«01_k».proof.Proof.ScoreVal
public import proofs.«01_k».proof.Proof.IdealRun
public import Idealize.ShloMosaic.Lib.Pipeline.ValueKit

@[expose] public section

set_option maxRecDepth 65536
set_option maxHeartbeats 1000000

noncomputable section

namespace Cert.Proof.KernelIdeal

open Cert.KernelIdeal Cert.KernelIdeal.Gen
open Idealize.ShloMosaic Idealize.ShloMosaic.TcCoe
open Cert.Proof.Greedy

variable (m : (ℓ : Loc nD τ sig) → Buf (Elt Ideal) ℓ) (c : Dev nD)

/-- Where the score kernel's point reads and writes. -/
theorem index0_0 : ∀ t : Fin cfg0.N, win0_0.index t = ![(grid0.coords t 0).val, (grid0.coords t 1).val, 0] :=
  (by decide +kernel : ∀ t : Fin grid0.N, _)
theorem index0_1 : ∀ t : Fin cfg0.N, win0_1.index t = ![(grid0.coords t 0).val, (grid0.coords t 1).val, 0] :=
  (by decide +kernel : ∀ t : Fin grid0.N, _)
theorem index0_2 : ∀ t : Fin cfg0.N, win0_2.index t = ![(grid0.coords t 0).val, (grid0.coords t 1).val, 0] :=
  (by decide +kernel : ∀ t : Fin grid0.N, _)

/-- An index of a block of a result: its row. -/
theorem block_idx (y : S1x4000x1.Idx) : y = ix3 0 (y 1) 0 := by
  have h0 : (y 0).val < 1 := (y 0).isLt
  have h2 : (y 2).val < 1 := (y 2).isLt
  funext a
  refine Fin.ext ?_
  fin_cases a
  · show (y 0).val = 0; omega
  · rfl
  · show (y 2).val = 0; omega

/-- The scores the first kernel leaves in its first result. -/
theorem kept_val : (dat0 (F := Ideal) (fun c b => V0 m c b) c).arrAt 1 cfg0.N
    = fun i : S8x20000x1.Idx => scores (m ((c : Thread nD τ).loc main_arg1)) (i 0) (i 1) := by
  refine (dat0 (F := Ideal) (fun c b => V0 m c b) c).arrAt_eq_of_covers 1 _ (by decide +kernel) fun t hf y => ?_
  obtain ⟨i, rfl⟩ : ∃ i : Fin 4000, y = (ix3 0 i 0 : S1x4000x1.Idx) := ⟨y 1, block_idx y⟩
  blk_simp
  have e1 : (dat0 (F := Ideal) (fun c b => V0 m c b) c).after 1 t = k0_pay3 (blk0 (fun c b => V0 m c b) c t) := by
    dsimp only [dat0]
  rw [e1]
  have e := score_val (blk0 (fun c b => V0 m c b) c t) i
  rw [e]
  show _ = scoreOf _
  refine congrArg scoreOf (funext fun k => ?_)
  blk_simp [blk0]
  refine congrArg (m ((c : Thread nD τ).loc main_arg1)) ?_
  blk_ext [index0_0, index0_1]

/-- The classes the first kernel leaves in its second result. -/
theorem named_val : (dat0 (F := Ideal) (fun c b => V0 m c b) c).arrAt 2 cfg0.N
    = fun i : S8x20000x1.Idx => BitVec.ofNat 32 (cls (m ((c : Thread nD τ).loc main_arg1)) (i 0) (i 1)).val := by
  refine (dat0 (F := Ideal) (fun c b => V0 m c b) c).arrAt_eq_of_covers 2 _ (by decide +kernel) fun t hf y => ?_
  obtain ⟨i, rfl⟩ : ∃ i : Fin 4000, y = (ix3 0 i 0 : S1x4000x1.Idx) := ⟨y 1, block_idx y⟩
  blk_simp
  rw [dat0_after2]
  have e := class_val (blk0 (fun c b => V0 m c b) c t) i
  rw [e]
  show _ = BitVec.ofNat 32 (clsOf _).val
  refine congrArg (fun v => BitVec.ofNat 32 (clsOf v).val) (funext fun k => ?_)
  blk_simp [blk0]
  refine congrArg (m ((c : Thread nD τ).loc main_arg1)) ?_
  blk_ext [index0_0, index0_2]

end Cert.Proof.KernelIdeal

end
-- ==== Proof.TripVal.lean ====
/- One trip of the suppression kernel on one row of a pair, in the extended reals: a greedy step. -/
module

public import proofs.«01_k».proof.Proof.IdealNmsVal
public import proofs.«01_k».proof.Proof.Folds
public import proofs.«01_k».proof.Proof.Problem

@[expose] public section

set_option maxRecDepth 65536
set_option maxHeartbeats 1000000

noncomputable section

namespace Cert.Proof.KernelIdeal

open Cert.KernelIdeal
open Idealize.ShloMosaic Idealize.ShloMosaic.TcCoe
open Cert.Proof.Greedy

/-- The row and the lane that hold position `i`. -/
def rowOf (i : Fin 20000) : Fin 160 := ⟨i.val / 128, by omega⟩
def laneOf (i : Fin 20000) : Fin 128 := ⟨i.val % 128, Nat.mod_lt _ (by decide)⟩

theorem pos_eq (i : Fin 20000) : 128 * (rowOf i).val + (laneOf i).val = i.val := by
  show 128 * (i.val / 128) + i.val % 128 = i.val
  omega

/-- The fixed values of row `b` of a pair are the corners, areas and codes of the boxes `B` with labels `lab`. -/
structure Rep (g : Geo Ideal) (b : Fin 2) (B : Boxes 20000) (lab : ℕ → ℕ) : Prop where
  lab_lt : ∀ i, lab i < 128
  code : ∀ (r : Fin 160) (l : Fin 128), g.code (ix3 b r l) = BitVec.ofNat 32 ((128 * r.val + l.val) * 128 + lab (128 * r.val + l.val))
  x1 : ∀ i, g.x1 (ix3 b (rowOf i) (laneOf i)) = B.x1 i
  y1 : ∀ i, g.y1 (ix3 b (rowOf i) (laneOf i)) = B.y1 i
  x2 : ∀ i, g.x2 (ix3 b (rowOf i) (laneOf i)) = B.x2 i
  y2 : ∀ i, g.y2 (ix3 b (rowOf i) (laneOf i)) = B.y2 i
  area : ∀ i, g.area (ix3 b (rowOf i) (laneOf i)) = (B.x2 i - B.x1 i) * (B.y2 i - B.y1 i)

/-- What row `b` of a pair carries: the scores `av`, nothing behind them, and the columns' maxima. -/
structure CarRep (s : Car Ideal) (b : Fin 2) (av : Fin 20000 → EReal) : Prop where
  cm : s.cm = Gen.k1_pay22 s.av
  av : ∀ i, s.av (ix3 b (rowOf i) (laneOf i)) = av i
  pad : ∀ (r : Fin 160) (l : Fin 128), 20000 ≤ 128 * r.val + l.val → s.av (ix3 b r l) = (⊥ : EReal)

section trip

variable {g : Geo Ideal} {s : Car Ideal} {b : Fin 2} {B : Boxes 20000} {lab : ℕ → ℕ} {av : Fin 20000 → EReal}

/-- An entry is a score or nothing. -/
theorem CarRep.cases (hs : CarRep s b av) (r : Fin 160) (l : Fin 128) :
    (∃ i : Fin 20000, rowOf i = r ∧ laneOf i = l ∧ i.val = 128 * r.val + l.val ∧ s.av (ix3 b r l) = av i)
      ∨ (20000 ≤ 128 * r.val + l.val ∧ s.av (ix3 b r l) = (⊥ : EReal)) := by
  by_cases h : 128 * r.val + l.val < 20000
  · refine .inl ⟨⟨_, h⟩, ?_, ?_, rfl, ?_⟩
    · refine Fin.ext ?_; show (128 * r.val + l.val) / 128 = r.val; omega
    · refine Fin.ext ?_; show (128 * r.val + l.val) % 128 = l.val; omega
    · rw [← hs.av ⟨_, h⟩]
      congr 2
      · refine Fin.ext ?_; show r.val = (128 * r.val + l.val) / 128; omega
      · refine Fin.ext ?_; show l.val = (128 * r.val + l.val) % 128; omega
  · exact .inr ⟨not_lt.1 h, hs.pad r l (not_lt.1 h)⟩

/-- The maximum of the columns' maxima is the best score. -/
theorem best_val (hs : CarRep s b av) : Gen.k1_pay3 s.cm (ix3 b 0 0) = av (pick av) := by
  rw [hs.cm]
  pointwise [Gen.k1_pay3, Gen.k1_pay22]
  rw [← hs.av (pick av)]
  refine fold_max2 (fun l r => s.av (ix3 b r l)) _ _ fun l r => ?_
  show (s.av (ix3 b r l) : EReal) ≤ s.av (ix3 b (rowOf (pick av)) (laneOf (pick av)))
  rw [hs.av]
  rcases hs.cases r l with ⟨i, -, -, -, e⟩ | ⟨-, e⟩
  · rw [e]; exact (pick_spec av).top i
  · rw [e]; exact bot_le

/-- The code of position `i`. -/
def codeOf (lab : ℕ → ℕ) (i : ℕ) : ℕ := i * 128 + lab i

theorem codeOf_lt (hl : ∀ i, lab i < 128) (i : ℕ) (hi : i < 20480) : codeOf lab i < 1073741824 := by
  unfold codeOf
  have := hl i
  omega

/-- The least code among the entries of the best score is the choice's. -/
theorem code_val (hg : Rep g b B lab) (hs : CarRep s b av) :
    Gen.k1_pay4 g.code 1073741824#32 s.cm s.av (ix3 b 0 0) = BitVec.ofNat 32 (codeOf lab (pick av).val) := by
  have hM := best_val hs
  pointwise [Gen.k1_pay4]
  simp only [hM]
  have hp : g.code (ix3 b (rowOf (pick av)) (laneOf (pick av))) = BitVec.ofNat 32 (codeOf lab (pick av).val) := by
    rw [hg.code, pos_eq]; rfl
  have h0 : (if (s.av (ix3 b (rowOf (pick av)) (laneOf (pick av))) : EReal) = av (pick av)
      then g.code (ix3 b (rowOf (pick av)) (laneOf (pick av))) else 1073741824#32)
        = BitVec.ofNat 32 (codeOf lab (pick av).val) := by
    rw [if_pos (hs.av _), hp]
  have hlt := codeOf_lt hg.lab_lt (pick av).val (by omega)
  rw [← h0]
  refine fold_min2 _ (fun l r => if (s.av (ix3 b r l) : EReal) = av (pick av) then g.code (ix3 b r l) else 1073741824#32)
    (laneOf (pick av)) (rowOf (pick av)) (fun l r => ?_) ?_
  · rw [h0, toInt_small _ (by omega)]
    split
    · rename_i e
      have hr := r.isLt
      have hll := l.isLt
      rw [hg.code]
      have hlt' := codeOf_lt hg.lab_lt (128 * r.val + l.val) (by omega)
      unfold codeOf at hlt'
      rw [toInt_small _ (by omega)]
      have hle : (pick av).val ≤ 128 * r.val + l.val := by
        rcases hs.cases r l with ⟨i, -, -, hi, e'⟩ | ⟨hi, -⟩
        · rw [← hi]
          by_contra hc
          have := (pick_spec av).first i (by rw [Fin.lt_def]; omega)
          rw [← e', e] at this
          exact lt_irrefl _ this
        · omega
      have hl1 := hg.lab_lt (pick av).val
      have hl2 := hg.lab_lt (128 * r.val + l.val)
      unfold codeOf
      rcases Nat.lt_or_ge (pick av).val (128 * r.val + l.val) with h | h
      · omega
      · have e : (pick av).val = 128 * r.val + l.val := by omega
        rw [e]
    · show _ ≤ (1073741824#32).toInt
      have : (1073741824#32 : BitVec 32).toInt = 1073741824 := by decide
      omega
  · rw [h0, toInt_small _ (by omega)]
    have : (2147483647#32 : BitVec 32).toInt = 2147483647 := by decide
    omega

/-- The mask of a trip is the choice's entry. -/
theorem mask_val (hg : Rep g b B lab) (hs : CarRep s b av) (r : Fin 160) (l : Fin 128) :
    Gen.k1_pay5 g.code 1073741824#32 s.cm s.av (ix3 b r l)
      = if r = rowOf (pick av) ∧ l = laneOf (pick av) then 1#1 else 0#1 := by
  have hc := code_val hg hs
  pointwise [Gen.k1_pay5]
  rw [hc, hg.code]
  have hr := r.isLt
  have hl := l.isLt
  have h1 := codeOf_lt hg.lab_lt (128 * r.val + l.val) (by omega)
  have h2 := codeOf_lt hg.lab_lt (pick av).val (by omega)
  have l1 := hg.lab_lt (128 * r.val + l.val)
  have l2 := hg.lab_lt (pick av).val
  unfold codeOf at *
  show BitVec.ofBool (BitVec.ofNat 32 _ == BitVec.ofNat 32 _) = _
  by_cases h : r = rowOf (pick av) ∧ l = laneOf (pick av)
  · rw [if_pos h, h.1, h.2, pos_eq]
    simp
  · rw [if_neg h]
    have : ¬ (BitVec.ofNat 32 ((128 * r.val + l.val) * 128 + lab (128 * r.val + l.val))
        = BitVec.ofNat 32 ((pick av).val * 128 + lab (pick av).val)) := by
      rw [ofNat_inj_small (by omega) (by omega)]
      intro e
      refine h ⟨Fin.ext ?_, Fin.ext ?_⟩
      · show r.val = (pick av).val / 128
        omega
      · show l.val = (pick av).val % 128
        omega
    rw [beq_eq_false_iff_ne.2 this]
    rfl

/-- A masked sum is the choice's entry. -/
theorem onehot (hg : Rep g b B lab) (hs : CarRep s b av) (x : FVec Ideal S2x160x128 .f32) :
    ∑ l, ∑ r, Scalar.select (Gen.k1_pay5 g.code 1073741824#32 s.cm s.av (ix3 b r l)) (x (ix3 b r l)) (0 : EReal)
      = x (ix3 b (rowOf (pick av)) (laneOf (pick av))) := by
  have e : ∀ (r : Fin 160) (l : Fin 128),
      Scalar.select (Gen.k1_pay5 g.code 1073741824#32 s.cm s.av (ix3 b r l)) (x (ix3 b r l)) (0 : EReal)
        = if r = rowOf (pick av) ∧ l = laneOf (pick av) then x (ix3 b r l) else 0 := by
    intro r l
    rw [mask_val hg hs]
    by_cases h : r = rowOf (pick av) ∧ l = laneOf (pick av)
    · rw [if_pos h, if_pos h]; rfl
    · rw [if_neg h, if_neg h]; rfl
  simp only [e]
  refine (sum_one (fun l r => if r = rowOf (pick av) ∧ l = laneOf (pick av) then x (ix3 b r l) else 0)
    (laneOf (pick av)) (rowOf (pick av)) fun l r h => if_neg fun h' => h ⟨h'.2, h'.1⟩).trans ?_
  exact if_pos ⟨rfl, rfl⟩

theorem x1_val (hg : Rep g b B lab) (hs : CarRep s b av) :
    Gen.k1_pay7 g.x1 g.code 1073741824#32 s.cm s.av (ix3 b 0 0) = B.x1 (pick av) := by
  pointwise [Gen.k1_pay7]
  rw [onehot hg hs, hg.x1]

theorem y1_val (hg : Rep g b B lab) (hs : CarRep s b av) :
    Gen.k1_pay9 (Gen.k1_pay8 g.y1 g.code 1073741824#32 s.cm s.av) (ix3 b 0 0) = B.y1 (pick av) := by
  pointwise [Gen.k1_pay9, Gen.k1_pay8]
  rw [onehot hg hs, hg.y1]

theorem x2_val (hg : Rep g b B lab) (hs : CarRep s b av) :
    Gen.k1_pay10 g.x2 (Gen.k1_pay5 g.code 1073741824#32 s.cm s.av) (ix3 b 0 0) = B.x2 (pick av) := by
  pointwise [Gen.k1_pay10]
  rw [onehot hg hs, hg.x2]

theorem y2_val (hg : Rep g b B lab) (hs : CarRep s b av) :
    Gen.k1_pay11 g.y2 (Gen.k1_pay5 g.code 1073741824#32 s.cm s.av) (ix3 b 0 0) = B.y2 (pick av) := by
  pointwise [Gen.k1_pay11]
  rw [onehot hg hs, hg.y2]

/-- What is left of the scores after a trip, entry by entry. -/
theorem newAv_val (hg : Rep g b B lab) (hs : CarRep s b av) (r : Fin 160) (l : Fin 128) :
    newAv g 1073741824#32 s (ix3 b r l)
      = (if half < ovlA (B.x1 (pick av)) (B.y1 (pick av)) (B.x2 (pick av)) (B.y2 (pick av))
          (g.x1 (ix3 b r l)) (g.y1 (ix3 b r l)) (g.x2 (ix3 b r l)) (g.y2 (ix3 b r l)) (g.area (ix3 b r l))
        then (⊥ : EReal) else s.av (ix3 b r l)) := by
  have h1 := x1_val hg hs
  have h2 := y1_val hg hs
  have h3 := x2_val hg hs
  have h4 := y2_val hg hs
  pointwise [newAv, Gen.k1_pay12]
  rw [h1, h2, h3, h4, ofBits_bot]
  rfl

/-- A trip is a greedy step. -/
theorem next_rep (hg : Rep g b B lab) (hs : CarRep s b av) : CarRep (nextCar g 1073741824#32 s) b (B.step av) := by
  refine ⟨rfl, fun i => ?_, fun r l h => ?_⟩
  · show newAv g 1073741824#32 s _ = _
    rw [newAv_val hg hs, hg.x1, hg.y1, hg.x2, hg.y2, hg.area, hs.av]
    unfold Boxes.step Boxes.ovl
    rfl
  · show newAv g 1073741824#32 s _ = _
    rw [newAv_val hg hs, hs.pad r l h]
    exact ite_self _

/-- After `k` trips the scores left are those of `k` greedy steps. -/
theorem carAt_rep {m : Fin 20000 → EReal} (hg : Rep g b B lab) (hs : CarRep s b m) (k : ℕ) :
    CarRep (carAt g 1073741824#32 s k) b (B.avail m k) := by
  induction k with
  | zero => exact hs
  | succ k ih => exact next_rep hg ih

theorem outSc_val (hg : Rep g b B lab) (hs : CarRep s b av) : outSc s (ix2 b 0) = shown (av (pick av)) (av (pick av)) := by
  have h := best_val hs
  pointwise [outSc, Gen.k1_pay14, Gen.k1_pay18]
  rw [h]
  rfl

theorem outX1_val (hg : Rep g b B lab) (hs : CarRep s b av) :
    outX1 g 1073741824#32 s (ix2 b 0) = shown (av (pick av)) (B.x1 (pick av)) := by
  have h := best_val hs
  have h' := x1_val hg hs
  pointwise [outX1, Gen.k1_pay14, Gen.k1_pay18]
  rw [h, h']
  rfl

theorem outY1_val (hg : Rep g b B lab) (hs : CarRep s b av) :
    outY1 g 1073741824#32 s (ix2 b 0) = shown (av (pick av)) (B.y1 (pick av)) := by
  have h := best_val hs
  have h' := y1_val hg hs
  pointwise [outY1, Gen.k1_pay14, Gen.k1_pay18]
  rw [h, h']
  rfl

theorem outX2_val (hg : Rep g b B lab) (hs : CarRep s b av) :
    outX2 g 1073741824#32 s (ix2 b 0) = shown (av (pick av)) (B.x2 (pick av)) := by
  have h := best_val hs
  have h' := x2_val hg hs
  pointwise [outX2, Gen.k1_pay14, Gen.k1_pay18]
  rw [h, h']
  rfl

theorem outY2_val (hg : Rep g b B lab) (hs : CarRep s b av) :
    outY2 g 1073741824#32 s (ix2 b 0) = shown (av (pick av)) (B.y2 (pick av)) := by
  have h := best_val hs
  have h' := y2_val hg hs
  pointwise [outY2, Gen.k1_pay14, Gen.k1_pay18]
  rw [h, h']
  rfl

/-- The remainder of a code by 128, as the kernel takes it, is the label. -/
theorem rem_label (w : BitVec 32) (k : ℕ) (hk : k < 1073741824) (hw : w = BitVec.ofNat 32 k) :
    Scalar.select
        (IntOp.andi
          (IntOp.xori (IntOp.cmpi .slt (IntOp.remsi .vector w (Scalar.select (Scalar.cmpi .eq 128#32 0#32) 1#32 128#32)) 0#32)
            (Scalar.cmpi .slt (Scalar.select (Scalar.cmpi .eq 128#32 0#32) 1#32 128#32) 0#32))
          (IntOp.cmpi .ne (IntOp.remsi .vector w (Scalar.select (Scalar.cmpi .eq 128#32 0#32) 1#32 128#32)) 0#32))
        (IntOp.addi (IntOp.remsi .vector w (Scalar.select (Scalar.cmpi .eq 128#32 0#32) 1#32 128#32))
          (Scalar.select (Scalar.cmpi .eq 128#32 0#32) 1#32 128#32))
        (IntOp.remsi .vector w (Scalar.select (Scalar.cmpi .eq 128#32 0#32) 1#32 128#32)) = BitVec.ofNat 32 (k % 128) := by
  have hd : Scalar.select (Scalar.cmpi .eq 128#32 0#32) 1#32 128#32 = 128#32 := by decide
  rw [hd]
  have hr : IntOp.remsi .vector w 128#32 = BitVec.ofNat 32 (k % 128) := by
    unfold IntOp.remsi
    rw [if_neg (by
      rintro (h | ⟨-, h⟩)
      · exact absurd h (by decide)
      · exact absurd h (by decide))]
    apply BitVec.eq_of_toInt_eq
    rw [BitVec.toInt_srem, hw, toInt_small _ (by omega), toInt_small _ (by omega)]
    rw [toInt_small _ (by omega)]
    rfl
  rw [hr]
  have h1 : IntOp.cmpi .slt (BitVec.ofNat 32 (k % 128)) 0#32 = 0#1 := by
    show BitVec.ofBool (BitVec.slt (BitVec.ofNat 32 (k % 128)) 0#32) = 0#1
    have : ¬ BitVec.slt (BitVec.ofNat 32 (k % 128)) 0#32 = true := by
      rw [BitVec.slt_iff_toInt_lt, toInt_small _ (by omega)]
      have : (0#32 : BitVec 32).toInt = 0 := by decide
      omega
    rw [Bool.eq_false_iff.2 this]
    rfl
  rw [h1]
  have h2 : Scalar.cmpi .slt 128#32 0#32 = 0#1 := by decide
  rw [h2]
  have h3 : IntOp.xori (0#1) (0#1) = 0#1 := by decide
  rw [h3]
  have h4 : ∀ c : BitVec 1, IntOp.andi 0#1 c = 0#1 := by decide
  rw [h4]
  rfl

theorem outLab_val (hg : Rep g b B lab) (hs : CarRep s b av) :
    outLab g 1073741824#32 s (ix2 b 0) = shownLab (av (pick av)) (lab (pick av).val) := by
  have h := best_val hs
  have hc := code_val hg hs
  have hl := hg.lab_lt (pick av).val
  have hlt := codeOf_lt hg.lab_lt (pick av).val (by omega)
  pointwise [outLab, Gen.k1_pay14, Gen.k1_pay6]
  rw [h, rem_label _ _ hlt hc]
  have e : codeOf lab (pick av).val % 128 = lab (pick av).val := by unfold codeOf; omega
  rw [e]
  rfl

end trip

end Cert.Proof.KernelIdeal

end
-- ==== Proof.OperandVal.lean ====
/- The suppression kernel's operands are the boxes, the codes and the scores of the problem. -/
module

public import proofs.«01_k».proof.Proof.HostVal
public import proofs.«01_k».proof.Proof.ScoreArr
public import proofs.«01_k».proof.Proof.TripVal

@[expose] public section

set_option maxRecDepth 65536
set_option maxHeartbeats 1000000

noncomputable section

namespace Cert.Proof.KernelIdeal

open Cert.KernelIdeal Cert.KernelIdeal.Gen
open Idealize.ShloMosaic Idealize.ShloMosaic.TcCoe
open Cert.Proof.Greedy

variable (m : (ℓ : Loc nD τ sig) → Buf (Elt Ideal) ℓ) (c : Dev nD)

/-- A laid-out column at a position's row and lane. -/
theorem laid_at {α : Type} (x : S8x20000.Idx → α) (v : S_.Idx → α) (b : Fin 8) (i : Fin 20000) :
    laid x v (ix3 b (rowOf i) (laneOf i)) = x (ix2 b i) := by
  have h := pos_eq i
  rw [laid_val, dif_pos (by rw [h]; exact i.isLt)]
  exact congrArg (fun k => x (ix2 b k)) (Fin.ext h)

/-- A laid-out column behind its positions. -/
theorem laid_behind {α : Type} (x : S8x20000.Idx → α) (v : S_.Idx → α) (b : Fin 8) (r : Fin 160) (l : Fin 128)
    (h : 20000 ≤ 128 * r.val + l.val) : laid x v (ix3 b r l) = v ix0 := by
  rw [laid_val, dif_neg (by omega)]

theorem left_kept : V1 m (fun _ r c => Vscore m c r) c main_v0_0 = (dat0 (F := Ideal) (fun c b => V0 m c b) c).arrAt 1 cfg0.N := by
  show Function.update (Function.update (V0 m c) main_v0_0 (Vscore m c main_v0_0)) main_v0_1 (Vscore m c main_v0_1) main_v0_0 = _
  rw [Function.update_of_ne (StableHlo.devRef_ne_of_ne (by decide)), Function.update_self]
  unfold Vscore
  rw [Function.update_of_ne (StableHlo.devRef_ne_of_ne (by decide)), Function.update_self]

theorem left_named : V1 m (fun _ r c => Vscore m c r) c main_v0_1 = (dat0 (F := Ideal) (fun c b => V0 m c b) c).arrAt 2 cfg0.N := by
  show Function.update (Function.update (V0 m c) main_v0_0 (Vscore m c main_v0_0)) main_v0_1 (Vscore m c main_v0_1) main_v0_1 = _
  rw [Function.update_self]
  unfold Vscore
  rw [Function.update_self]

/-- The scores operand at a position. -/
theorem avail_at (b : Fin 8) (i : Fin 20000) :
    Vin1 m c main_v3 (ix3 b (rowOf i) (laneOf i)) = scores (m ((c : Thread nD τ).loc main_arg1)) b i := by
  delta Vin1
  rw [in_v3, laid_at, left_kept, kept_val]
  pointwise []

/-- The scores operand behind the boxes. -/
theorem avail_behind (b : Fin 8) (r : Fin 160) (l : Fin 128) (h : 20000 ≤ 128 * r.val + l.val) :
    Vin1 m c main_v3 (ix3 b r l) = (⊥ : EReal) := by
  delta Vin1
  rw [in_v3, laid_behind _ _ _ _ _ h]
  exact ofBits_bot

/-- The codes operand. -/
theorem code_at (b : Fin 8) (r : Fin 160) (l : Fin 128) :
    Vin1 m c main_v12 (ix3 b r l)
      = BitVec.ofNat 32 ((128 * r.val + l.val) * 128 + labels (m ((c : Thread nD τ).loc main_arg1)) b (128 * r.val + l.val)) := by
  have e : laid (shapeCast S8x20000 (V1 m (fun _ r c => Vscore m c r) c main_v0_1) shapeCasts_S8x20000x1_S8x20000) (constantI S_ 32 0#32) (ix3 b r l)
      = BitVec.ofNat 32 (labels (m ((c : Thread nD τ).loc main_arg1)) b (128 * r.val + l.val)) := by
    rw [laid_val, left_named, named_val]
    unfold labels
    split
    · pointwise []
    · rfl
  delta Vin1
  rw [in_v12]
  generalize laid (shapeCast S8x20000 (V1 m (fun _ r c => Vscore m c r) c main_v0_1) shapeCasts_S8x20000x1_S8x20000) (constantI S_ 32 0#32) = L at e ⊢
  pointwise []
  rw [e]
  rw [Nat.mul_comm 128 r.val, BitVec.ofNat_add ((r.val * 128 + l.val) * 128), BitVec.ofNat_mul (r.val * 128 + l.val)]
  rfl

/-- The corners operands at a position. -/
theorem x1_at (b : Fin 8) (i : Fin 20000) :
    Vin1 m c main_v16 (ix3 b (rowOf i) (laneOf i)) = (corners (m ((c : Thread nD τ).loc main_arg0)) b).x1 i := by
  delta Vin1
  rw [in_v16, laid_at]
  pointwise []
  rfl
theorem y1_at (b : Fin 8) (i : Fin 20000) :
    Vin1 m c main_v20 (ix3 b (rowOf i) (laneOf i)) = (corners (m ((c : Thread nD τ).loc main_arg0)) b).y1 i := by
  delta Vin1
  rw [in_v20, laid_at]
  pointwise []
  rfl
theorem x2_at (b : Fin 8) (i : Fin 20000) :
    Vin1 m c main_v24 (ix3 b (rowOf i) (laneOf i)) = (corners (m ((c : Thread nD τ).loc main_arg0)) b).x2 i := by
  delta Vin1
  rw [in_v24, laid_at]
  pointwise []
  rfl
theorem y2_at (b : Fin 8) (i : Fin 20000) :
    Vin1 m c main_v28 (ix3 b (rowOf i) (laneOf i)) = (corners (m ((c : Thread nD τ).loc main_arg0)) b).y2 i := by
  delta Vin1
  rw [in_v28, laid_at]
  pointwise []
  rfl

/-- The batch that row `b` of pair `q` is. -/
abbrev batch (q : Fin 4) (b : Fin 2) : Fin 8 := ⟨2 * q.val + b.val, by omega⟩

/-- A pair's fixed values are its two batches'. -/
theorem rep_in (q : Fin 4) (b : Fin 2) :
    Rep (geoIn (Vin1 m c main_v12) (Vin1 m c main_v16) (Vin1 m c main_v20) (Vin1 m c main_v24) (Vin1 m c main_v28) q) b
      (corners (m ((c : Thread nD τ).loc main_arg0)) (batch q b)) (labels (m ((c : Thread nD τ).loc main_arg1)) (batch q b)) where
  lab_lt := labels_lt _ _
  code := fun r l => code_at m c (batch q b) r l
  x1 := fun i => x1_at m c (batch q b) i
  y1 := fun i => y1_at m c (batch q b) i
  x2 := fun i => x2_at m c (batch q b) i
  y2 := fun i => y2_at m c (batch q b) i
  area := fun i => by
    have h1 := x1_at m c (batch q b) i
    have h2 := y1_at m c (batch q b) i
    have h3 := x2_at m c (batch q b) i
    have h4 := y2_at m c (batch q b) i
    rw [← h1, ← h2, ← h3, ← h4]
    rfl

/-- What a pair carries into the loop is its two batches' scores. -/
theorem car_in (q : Fin 4) (b : Fin 2) :
    CarRep (carIn (Vin1 m c main_v3) q) b (scores (m ((c : Thread nD τ).loc main_arg1)) (batch q b)) where
  cm := rfl
  av := fun i => avail_at m c (batch q b) i
  pad := fun r l h => avail_behind m c (batch q b) r l h

end Cert.Proof.KernelIdeal

end
-- ==== Proof.NmsArr.lean ====
/- The second call's six result arrays: the kernel's function of its operands' arrays. -/
module

public import proofs.«01_k».proof.Proof.IdealRun
public import Idealize.ShloMosaic.Lib.Pipeline.ValueKit

@[expose] public section

set_option maxRecDepth 65536
set_option maxHeartbeats 1000000

noncomputable section

namespace Cert.Proof.KernelIdeal

open Cert.KernelIdeal Cert.KernelIdeal.Gen
open Idealize.ShloMosaic Idealize.ShloMosaic.TcCoe

variable {F : FTy → Type} [FloatOps F]
variable (V : (c : Dev nD) → (b : Ref sig .tc) → Buf (Elt F) ((c : Thread nD τ).loc b)) (c : Dev nD)

theorem index1_0 : ∀ t : Fin cfg1.N, win1_0.index t = ![0, 0, 0] := (by decide +kernel : ∀ t : Fin grid1.N, _)
theorem index1_1 : ∀ t : Fin cfg1.N, win1_1.index t = ![0, 0, 0] := (by decide +kernel : ∀ t : Fin grid1.N, _)
theorem index1_2 : ∀ t : Fin cfg1.N, win1_2.index t = ![0, 0, 0] := (by decide +kernel : ∀ t : Fin grid1.N, _)
theorem index1_3 : ∀ t : Fin cfg1.N, win1_3.index t = ![0, 0, 0] := (by decide +kernel : ∀ t : Fin grid1.N, _)
theorem index1_4 : ∀ t : Fin cfg1.N, win1_4.index t = ![0, 0, 0] := (by decide +kernel : ∀ t : Fin grid1.N, _)
theorem index1_5 : ∀ t : Fin cfg1.N, win1_5.index t = ![0, 0, 0] := (by decide +kernel : ∀ t : Fin grid1.N, _)
theorem index1_6 : ∀ t : Fin cfg1.N, win1_6.index t = ![0, 0] := (by decide +kernel : ∀ t : Fin grid1.N, _)
theorem index1_7 : ∀ t : Fin cfg1.N, win1_7.index t = ![0, 0] := (by decide +kernel : ∀ t : Fin grid1.N, _)
theorem index1_8 : ∀ t : Fin cfg1.N, win1_8.index t = ![0, 0] := (by decide +kernel : ∀ t : Fin grid1.N, _)
theorem index1_9 : ∀ t : Fin cfg1.N, win1_9.index t = ![0, 0] := (by decide +kernel : ∀ t : Fin grid1.N, _)
theorem index1_10 : ∀ t : Fin cfg1.N, win1_10.index t = ![0, 0] := (by decide +kernel : ∀ t : Fin grid1.N, _)
theorem index1_11 : ∀ t : Fin cfg1.N, win1_11.index t = ![0, 0] := (by decide +kernel : ∀ t : Fin grid1.N, _)

theorem whole1_0 (t : Fin cfg1.N) : blk1_0 V c t = V c main_v3 := by
  funext x
  blk_simp [blk1_0]
  refine congrArg (V c main_v3) ?_
  blk_ext [index1_0]
theorem whole1_1 (t : Fin cfg1.N) : blk1_1 V c t = V c main_v12 := by
  funext x
  blk_simp [blk1_1]
  refine congrArg (V c main_v12) ?_
  blk_ext [index1_1]
theorem whole1_2 (t : Fin cfg1.N) : blk1_2 V c t = V c main_v16 := by
  funext x
  blk_simp [blk1_2]
  refine congrArg (V c main_v16) ?_
  blk_ext [index1_2]
theorem whole1_3 (t : Fin cfg1.N) : blk1_3 V c t = V c main_v20 := by
  funext x
  blk_simp [blk1_3]
  refine congrArg (V c main_v20) ?_
  blk_ext [index1_3]
theorem whole1_4 (t : Fin cfg1.N) : blk1_4 V c t = V c main_v24 := by
  funext x
  blk_simp [blk1_4]
  refine congrArg (V c main_v24) ?_
  blk_ext [index1_4]
theorem whole1_5 (t : Fin cfg1.N) : blk1_5 V c t = V c main_v28 := by
  funext x
  blk_simp [blk1_5]
  refine congrArg (V c main_v28) ?_
  blk_ext [index1_5]

/-- Result 0. -/
theorem made_0 : (dat1 V c).arrAt 6 cfg1.N
    = outOf (fun _ s => outSc s) (V c main_v3) (V c main_v12) (V c main_v16) (V c main_v20) (V c main_v24) (V c main_v28) := by
  refine (dat1 V c).arrAt_eq_of_covers 6 _ (by decide +kernel) fun t hf y => ?_
  have e1 : (dat1 V c).after 6 t = outOf (fun _ s => outSc s) (blk1_0 V c t) (blk1_1 V c t) (blk1_2 V c t) (blk1_3 V c t) (blk1_4 V c t) (blk1_5 V c t) := by
    dsimp only [dat1]
  rw [whole1_0, whole1_1, whole1_2, whole1_3, whole1_4, whole1_5] at e1
  blk_simp
  rw [e1]
  refine congrArg (outOf (fun _ s => outSc s) (V c main_v3) (V c main_v12) (V c main_v16) (V c main_v20) (V c main_v24) (V c main_v28)) ?_
  blk_ext [index1_6]

/-- Result 1. -/
theorem made_1 : (dat1 V c).arrAt 7 cfg1.N
    = outOf (fun g s => outLab g 1073741824#32 s) (V c main_v3) (V c main_v12) (V c main_v16) (V c main_v20) (V c main_v24) (V c main_v28) := by
  refine (dat1 V c).arrAt_eq_of_covers 7 _ (by decide +kernel) fun t hf y => ?_
  have e1 : (dat1 V c).after 7 t = outOf (fun g s => outLab g 1073741824#32 s) (blk1_0 V c t) (blk1_1 V c t) (blk1_2 V c t) (blk1_3 V c t) (blk1_4 V c t) (blk1_5 V c t) := by
    dsimp only [dat1]
  rw [whole1_0, whole1_1, whole1_2, whole1_3, whole1_4, whole1_5] at e1
  blk_simp
  rw [e1]
  refine congrArg (outOf (fun g s => outLab g 1073741824#32 s) (V c main_v3) (V c main_v12) (V c main_v16) (V c main_v20) (V c main_v24) (V c main_v28)) ?_
  blk_ext [index1_7]

/-- Result 2. -/
theorem made_2 : (dat1 V c).arrAt 8 cfg1.N
    = outOf (fun g s => outX1 g 1073741824#32 s) (V c main_v3) (V c main_v12) (V c main_v16) (V c main_v20) (V c main_v24) (V c main_v28) := by
  refine (dat1 V c).arrAt_eq_of_covers 8 _ (by decide +kernel) fun t hf y => ?_
  have e1 : (dat1 V c).after 8 t = outOf (fun g s => outX1 g 1073741824#32 s) (blk1_0 V c t) (blk1_1 V c t) (blk1_2 V c t) (blk1_3 V c t) (blk1_4 V c t) (blk1_5 V c t) := by
    dsimp only [dat1]
  rw [whole1_0, whole1_1, whole1_2, whole1_3, whole1_4, whole1_5] at e1
  blk_simp
  rw [e1]
  refine congrArg (outOf (fun g s => outX1 g 1073741824#32 s) (V c main_v3) (V c main_v12) (V c main_v16) (V c main_v20) (V c main_v24) (V c main_v28)) ?_
  blk_ext [index1_8]

/-- Result 3. -/
theorem made_3 : (dat1 V c).arrAt 9 cfg1.N
    = outOf (fun g s => outY1 g 1073741824#32 s) (V c main_v3) (V c main_v12) (V c main_v16) (V c main_v20) (V c main_v24) (V c main_v28) := by
  refine (dat1 V c).arrAt_eq_of_covers 9 _ (by decide +kernel) fun t hf y => ?_
  have e1 : (dat1 V c).after 9 t = outOf (fun g s => outY1 g 1073741824#32 s) (blk1_0 V c t) (blk1_1 V c t) (blk1_2 V c t) (blk1_3 V c t) (blk1_4 V c t) (blk1_5 V c t) := by
    dsimp only [dat1]
  rw [whole1_0, whole1_1, whole1_2, whole1_3, whole1_4, whole1_5] at e1
  blk_simp
  rw [e1]
  refine congrArg (outOf (fun g s => outY1 g 1073741824#32 s) (V c main_v3) (V c main_v12) (V c main_v16) (V c main_v20) (V c main_v24) (V c main_v28)) ?_
  blk_ext [index1_9]

/-- Result 4. -/
theorem made_4 : (dat1 V c).arrAt 10 cfg1.N
    = outOf (fun g s => outX2 g 1073741824#32 s) (V c main_v3) (V c main_v12) (V c main_v16) (V c main_v20) (V c main_v24) (V c main_v28) := by
  refine (dat1 V c).arrAt_eq_of_covers 10 _ (by decide +kernel) fun t hf y => ?_
  have e1 : (dat1 V c).after 10 t = outOf (fun g s => outX2 g 1073741824#32 s) (blk1_0 V c t) (blk1_1 V c t) (blk1_2 V c t) (blk1_3 V c t) (blk1_4 V c t) (blk1_5 V c t) := by
    dsimp only [dat1]
  rw [whole1_0, whole1_1, whole1_2, whole1_3, whole1_4, whole1_5] at e1
  blk_simp
  rw [e1]
  refine congrArg (outOf (fun g s => outX2 g 1073741824#32 s) (V c main_v3) (V c main_v12) (V c main_v16) (V c main_v20) (V c main_v24) (V c main_v28)) ?_
  blk_ext [index1_10]

/-- Result 5. -/
theorem made_5 : (dat1 V c).arrAt 11 cfg1.N
    = outOf (fun g s => outY2 g 1073741824#32 s) (V c main_v3) (V c main_v12) (V c main_v16) (V c main_v20) (V c main_v24) (V c main_v28) := by
  refine (dat1 V c).arrAt_eq_of_covers 11 _ (by decide +kernel) fun t hf y => ?_
  have e1 : (dat1 V c).after 11 t = outOf (fun g s => outY2 g 1073741824#32 s) (blk1_0 V c t) (blk1_1 V c t) (blk1_2 V c t) (blk1_3 V c t) (blk1_4 V c t) (blk1_5 V c t) := by
    dsimp only [dat1]
  rw [whole1_0, whole1_1, whole1_2, whole1_3, whole1_4, whole1_5] at e1
  blk_simp
  rw [e1]
  refine congrArg (outOf (fun g s => outY2 g 1073741824#32 s) (V c main_v3) (V c main_v12) (V c main_v16) (V c main_v20) (V c main_v24) (V c main_v28)) ?_
  blk_ext [index1_11]

end Cert.Proof.KernelIdeal

end
-- ==== Proof.Answer.lean ====
/- The three results as functions of the boxes and the class scores. -/
module

public import proofs.«01_k».proof.Proof.Problem

@[expose] public section

set_option maxRecDepth 65536
set_option maxHeartbeats 1000000

noncomputable section

namespace Cert.Proof.Greedy

open Idealize.ShloMosaic

variable (y : (⟨3, ![8, 20000, 4]⟩ : Shape).Idx → EReal) (x : (⟨3, ![8, 20000, 80]⟩ : Shape).Idx → EReal)

/-- The score of the choice of trip `t` in batch `b`. -/
def bestAt (b : Fin 8) (t : ℕ) : EReal := (corners y b).best (scores x b) t
/-- The choice of trip `t` in batch `b`. -/
def selAt (b : Fin 8) (t : ℕ) : Fin 20000 := (corners y b).sel (scores x b) t

/-- The corners of the chosen boxes. -/
def boxAns : (⟨3, ![8, 300, 4]⟩ : Shape).Idx → EReal := fun q =>
  shown (bestAt y x (q 0) (q 1).val) (y (ix3 (q 0) (selAt y x (q 0) (q 1).val) (q 2)))
/-- The scores of the chosen boxes. -/
def scoreAns : (⟨2, ![8, 300]⟩ : Shape).Idx → EReal := fun q =>
  shown (bestAt y x (q 0) (q 1).val) (bestAt y x (q 0) (q 1).val)
/-- The labels of the chosen boxes. -/
def labAns : (⟨2, ![8, 300]⟩ : Shape).Idx → BitVec 32 := fun q =>
  shownLab (bestAt y x (q 0) (q 1).val) (cls x (q 0) (selAt y x (q 0) (q 1).val)).val

theorem bestAt_anti (b : Fin 8) : Antitone (bestAt y x b) := best_anti (corners y b) (scores x b)

/-- A reported score is its row's greatest. -/
theorem bestAt_eq (b : Fin 8) (t : ℕ) (h : floor < bestAt y x b t) :
    bestAt y x b t = x (ix3 b (selAt y x b t) (cls x b (selAt y x b t))) := by
  have h0 : ⊥ < bestAt y x b t := lt_of_le_of_lt bot_le h
  have e : bestAt y x b t = scores x b (selAt y x b t) := best_eq (corners y b) (scores x b) t h0
  rw [e] at h0 ⊢
  unfold scores scoreOf at h0 ⊢
  split at h0
  · rename_i hc
    rw [if_pos hc]
    rfl
  · exact absurd h0 (lt_irrefl _)

end Cert.Proof.Greedy

end
-- ==== Proof.KernVal.lean ====
/- The kernel's results are the problem's answers. -/
module

public import proofs.«01_k».proof.Proof.OperandVal
public import proofs.«01_k».proof.Proof.NmsArr
public import proofs.«01_k».proof.Proof.Answer

@[expose] public section

set_option maxRecDepth 65536
set_option maxHeartbeats 1000000

noncomputable section

namespace Cert.Proof.KernelIdeal

open Cert.KernelIdeal Cert.KernelIdeal.Gen
open Idealize.ShloMosaic Idealize.ShloMosaic.TcCoe
open Cert.Proof.Greedy

variable (m : (ℓ : Loc nD τ sig) → Buf (Elt Ideal) ℓ) (c : Dev nD)

/-- The boxes and the class scores a core starts from. -/
abbrev inY : (⟨3, ![8, 20000, 4]⟩ : Shape).Idx → EReal := m ((c : Thread nD τ).loc main_arg0)
abbrev inX : (⟨3, ![8, 20000, 80]⟩ : Shape).Idx → EReal := m ((c : Thread nD τ).loc main_arg1)

/-- A result of the suppression kernel is known once it is known of each pair's rows and trips. -/
theorem out_eq {α : Type} (v : Geo Ideal → Car Ideal → S2x1.Idx → α) (G : S8x300.Idx → α)
    (h : ∀ (q : Fin 4) (b : Fin 2) (j : Fin 300) (g : Geo Ideal) (s : Car Ideal),
      Rep g b (corners (inY m c) (batch q b)) (labels (inX m c) (batch q b)) →
      CarRep s b ((corners (inY m c) (batch q b)).avail (scores (inX m c) (batch q b)) j.val) →
      v g s (ix2 b 0) = G (ix2 (batch q b) j)) :
    outOf v (Vin1 m c main_v3) (Vin1 m c main_v12) (Vin1 m c main_v16) (Vin1 m c main_v20) (Vin1 m c main_v24) (Vin1 m c main_v28) = G := by
  funext y
  obtain ⟨b, j, rfl⟩ : ∃ (b : Fin 8) (j : Fin 300), y = ix2 b j := ⟨y 0, y 1, by funext a; fin_cases a <;> rfl⟩
  have hb := b.isLt
  obtain ⟨q, r, rfl⟩ : ∃ (q : Fin 4) (r : Fin 2), b = batch q r :=
    ⟨⟨b.val / 2, by omega⟩, ⟨b.val % 2, by omega⟩, Fin.ext (by show b.val = 2 * (b.val / 2) + b.val % 2; omega)⟩
  rw [← h q r j _ _ (rep_in m c q r) (carAt_rep (rep_in m c q r) (car_in m c q r) j.val)]
  have e := outOf_ix2 v (Vin1 m c main_v3) (Vin1 m c main_v12) (Vin1 m c main_v16) (Vin1 m c main_v20) (Vin1 m c main_v24) (Vin1 m c main_v28) q r j
  rw [← ix2_eq_valueIdx, ← ix2_eq_valueIdx] at e
  exact e

/-- One corner of the chosen boxes. -/
def corner (k : Fin 4) : S8x300.Idx → EReal := fun p => boxAns (inY m c) (inX m c) (ix3 (p 0) (p 1) k)

/-- The six result arrays: the scores, -/
theorem score_arr : (dat1 (F := Ideal) (fun c b => Vin1 m c b) c).arrAt 6 cfg1.N = scoreAns (inY m c) (inX m c) :=
  (made_0 (fun c b => Vin1 m c b) c).trans (out_eq m c _ _ fun _ _ _ _ _ hg hs => outSc_val hg hs)
/-- the labels, -/
theorem label_arr : (dat1 (F := Ideal) (fun c b => Vin1 m c b) c).arrAt 7 cfg1.N = labAns (inY m c) (inX m c) :=
  (made_1 (fun c b => Vin1 m c b) c).trans (out_eq m c _ _ fun q b j _ _ hg hs => (outLab_val hg hs).trans
    (congrArg (shownLab _) (labels_val (inX m c) (batch q b) _)))
/-- and each corner of the chosen boxes. -/
theorem x1_arr : (dat1 (F := Ideal) (fun c b => Vin1 m c b) c).arrAt 8 cfg1.N = corner m c 0 :=
  (made_2 (fun c b => Vin1 m c b) c).trans (out_eq m c _ _ fun _ _ _ _ _ hg hs => outX1_val hg hs)
theorem y1_arr : (dat1 (F := Ideal) (fun c b => Vin1 m c b) c).arrAt 9 cfg1.N = corner m c 1 :=
  (made_3 (fun c b => Vin1 m c b) c).trans (out_eq m c _ _ fun _ _ _ _ _ hg hs => outY1_val hg hs)
theorem x2_arr : (dat1 (F := Ideal) (fun c b => Vin1 m c b) c).arrAt 10 cfg1.N = corner m c 2 :=
  (made_4 (fun c b => Vin1 m c b) c).trans (out_eq m c _ _ fun _ _ _ _ _ hg hs => outX2_val hg hs)
theorem y2_arr : (dat1 (F := Ideal) (fun c b => Vin1 m c b) c).arrAt 11 cfg1.N = corner m c 3 :=
  (made_5 (fun c b => Vin1 m c b) c).trans (out_eq m c _ _ fun _ _ _ _ _ hg hs => outY2_val hg hs)

end Cert.Proof.KernelIdeal

end
-- ==== Proof.KernEnd.lean ====
/- The kernel program's three results at the end of its run. -/
module

public import proofs.«01_k».proof.Proof.KernVal
public import Idealize.ShloMosaic.Lib.StableHlo.RunRead

@[expose] public section

set_option maxRecDepth 65536
set_option maxHeartbeats 1000000

noncomputable section

namespace Cert.Proof.KernelIdeal

open Cert.KernelIdeal Cert.KernelIdeal.Gen
open Idealize.ShloMosaic Idealize.ShloMosaic.TcCoe
open Cert.Proof.Greedy

/-- Four columns side by side. -/
theorem four_val {α : Type} (u0 u1 u2 u3 : S8x300.Idx → α) (y : S8x300x4.Idx → α)
    (h0 : ∀ b i, y (ix3 b i 0) = u0 (ix2 b i)) (h1 : ∀ b i, y (ix3 b i 1) = u1 (ix2 b i))
    (h2 : ∀ b i, y (ix3 b i 2) = u2 (ix2 b i)) (h3 : ∀ b i, y (ix3 b i 3) = u3 (ix2 b i)) :
    concatenate S8x300x4 2 [⟨S8x300x1, broadcastInDim S8x300x1 ![0, 1] bcast_S8x300_S8x300x1_0_1 u0⟩,
      ⟨S8x300x1, broadcastInDim S8x300x1 ![0, 1] bcast_S8x300_S8x300x1_0_1 u1⟩,
      ⟨S8x300x1, broadcastInDim S8x300x1 ![0, 1] bcast_S8x300_S8x300x1_0_1 u2⟩,
      ⟨S8x300x1, broadcastInDim S8x300x1 ![0, 1] bcast_S8x300_S8x300x1_0_1 u3⟩] concatenates_S8x300x1_S8x300x1_S8x300x1_S8x300x1_S8x300x4_d2 = y := by
  funext p
  obtain ⟨b, i, k, rfl⟩ : ∃ (b : Fin 8) (i : Fin 300) (k : Fin 4), p = ix3 b i k := ⟨p 0, p 1, p 2, by funext a; fin_cases a <;> rfl⟩
  fin_cases k
  · refine Eq.trans ?_ (h0 b i).symm
    pointwise []
  · refine Eq.trans ?_ (h1 b i).symm
    pointwise []
  · refine Eq.trans ?_ (h2 b i).symm
    pointwise []
  · refine Eq.trans ?_ (h3 b i).symm
    pointwise []

variable (m : (ℓ : Loc nD τ sig) → Buf (Elt Ideal) ℓ) (c : Dev nD)

/-- The six arrays the suppression kernel leaves, in order: the scores, -/
theorem nms_0 : Vnms m c main_v29_0 = scoreAns (inY m c) (inX m c) := by
  rw [← score_arr m c]
  unfold Vnms; rw [Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_self]
/-- the labels, -/
theorem nms_1 : Vnms m c main_v29_1 = labAns (inY m c) (inX m c) := by
  rw [← label_arr m c]
  unfold Vnms; rw [Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_self]
/-- and the four corners. -/
theorem nms_2 : Vnms m c main_v29_2 = corner m c 0 := by
  rw [← x1_arr m c]
  unfold Vnms; rw [Function.update_of_ne (StableHlo.devRef_ne_of_ne (by decide)), Function.update_of_ne (StableHlo.devRef_ne_of_ne (by decide)), Function.update_of_ne (StableHlo.devRef_ne_of_ne (by decide)), Function.update_self]
theorem nms_3 : Vnms m c main_v29_3 = corner m c 1 := by
  rw [← y1_arr m c]
  unfold Vnms; rw [Function.update_of_ne (StableHlo.devRef_ne_of_ne (by decide)), Function.update_of_ne (StableHlo.devRef_ne_of_ne (by decide)), Function.update_self]
theorem nms_4 : Vnms m c main_v29_4 = corner m c 2 := by
  rw [← x2_arr m c]
  unfold Vnms; rw [Function.update_of_ne (StableHlo.devRef_ne_of_ne (by decide)), Function.update_self]
theorem nms_5 : Vnms m c main_v29_5 = corner m c 3 := by
  rw [← y2_arr m c]
  unfold Vnms; rw [Function.update_self]

/-- The scores result. -/
theorem end_scores : V16 m (outs m) c main_v29_0 = scoreAns (inY m c) (inX m c) := by
  rw [V16_of m (outs m) c _ (by decide), V15_outs, nms_0]
/-- The labels result. -/
theorem end_labels : V16 m (outs m) c main_v29_1 = labAns (inY m c) (inX m c) := by
  rw [V16_of m (outs m) c _ (by decide), V15_outs, nms_1]
/-- The boxes result. -/
theorem end_boxes : V16 m (outs m) c main_v34 = boxAns (inY m c) (inX m c) := by
  have e : V16 m (outs m) c main_v34 =
    concatenate S8x300x4 2 [⟨S8x300x1, broadcastInDim S8x300x1 ![0, 1] bcast_S8x300_S8x300x1_0_1 (V15 m (outs m) c main_v29_2)⟩,
      ⟨S8x300x1, broadcastInDim S8x300x1 ![0, 1] bcast_S8x300_S8x300x1_0_1 (V15 m (outs m) c main_v29_3)⟩,
      ⟨S8x300x1, broadcastInDim S8x300x1 ![0, 1] bcast_S8x300_S8x300x1_0_1 (V15 m (outs m) c main_v29_4)⟩,
      ⟨S8x300x1, broadcastInDim S8x300x1 ![0, 1] bcast_S8x300_S8x300x1_0_1 (V15 m (outs m) c main_v29_5)⟩] concatenates_S8x300x1_S8x300x1_S8x300x1_S8x300x1_S8x300x4_d2 := by
    have h0 : StableHlo.upto hostOps2 (V15 m (outs m) c) 4 main_v30 = broadcastInDim S8x300x1 ![0, 1] bcast_S8x300_S8x300x1_0_1 (V15 m (outs m) c main_v29_2) := by
      after_reads_simp
    have h1 : StableHlo.upto hostOps2 (V15 m (outs m) c) 4 main_v31 = broadcastInDim S8x300x1 ![0, 1] bcast_S8x300_S8x300x1_0_1 (V15 m (outs m) c main_v29_3) := by
      after_reads_simp
    have h2 : StableHlo.upto hostOps2 (V15 m (outs m) c) 4 main_v32 = broadcastInDim S8x300x1 ![0, 1] bcast_S8x300_S8x300x1_0_1 (V15 m (outs m) c main_v29_4) := by
      after_reads_simp
    have h3 : StableHlo.upto hostOps2 (V15 m (outs m) c) 4 main_v33 = broadcastInDim S8x300x1 ![0, 1] bcast_S8x300_S8x300x1_0_1 (V15 m (outs m) c main_v29_5) := by
      after_reads_simp
    rw [← h0, ← h1, ← h2, ← h3]
    after_reads_simp
    rfl
  rw [e, V15_outs, nms_2, nms_3, nms_4, nms_5]
  exact four_val _ _ _ _ _ (fun _ _ => rfl) (fun _ _ => rfl) (fun _ _ => rfl) (fun _ _ => rfl)

end Cert.Proof.KernelIdeal

end
-- ==== Proof.TopOne.lean ====
/- The stable sort of a list by descending value: its first entry, and the whole of it when the list descends already. -/
module

public import proofs.«01_k».proof.Proof.Greedy

@[expose] public section

noncomputable section

namespace Cert.Proof.Greedy

open Idealize.ShloMosaic

section order

variable {n : ℕ} (v : Fin n → EReal) (R : Fin n → Fin n → Bool) (hR : ∀ a b, R a b = true ↔ v b < v a)

include hR

/-- Of an ascending list of positions that is not empty, the sort's first entry is the first position of the
    greatest value among them. -/
theorem head_sort (l : List (Fin n)) (hl : l.Pairwise (· < ·)) (hne : l ≠ []) :
    ∃ q t, stableSort R l = q :: t ∧ q ∈ l ∧ ∀ b ∈ l, v b ≤ v q ∧ (b < q → v b < v q) := by
  induction l with
  | nil => exact absurd rfl hne
  | cons a l ih =>
    by_cases hl0 : l = []
    · subst hl0
      refine ⟨a, [], rfl, List.mem_cons_self, fun b hb => ?_⟩
      have : b = a := by simpa using hb
      subst this
      exact ⟨le_refl _, fun h => absurd h (lt_irrefl _)⟩
    · obtain ⟨q, t, hq, hqm, hqb⟩ := ih (List.pairwise_cons.1 hl).2 hl0
      have ha := (List.pairwise_cons.1 hl).1
      by_cases h : R q a = true
      · have hv : v a < v q := (hR q a).1 h
        refine ⟨q, insertBefore R a t, ?_, List.mem_cons_of_mem _ hqm, fun b hb => ?_⟩
        · show insertBefore R a (stableSort R l) = _
          rw [hq, insertBefore, if_pos h]
        · rcases List.mem_cons.1 hb with rfl | hb
          · exact ⟨hv.le, fun _ => hv⟩
          · exact hqb b hb
      · have hv : v q ≤ v a := not_lt.1 fun e => h ((hR q a).2 e)
        refine ⟨a, q :: t, ?_, List.mem_cons_self, fun b hb => ?_⟩
        · show insertBefore R a (stableSort R l) = _
          rw [hq, insertBefore, if_neg h]
        · rcases List.mem_cons.1 hb with rfl | hb
          · exact ⟨le_refl _, fun h => absurd h (lt_irrefl _)⟩
          · exact ⟨(hqb b hb).1.trans hv, fun h => absurd h (lt_asymm (ha b hb))⟩

/-- The first entry of the sort of all positions is the first position of the greatest value. -/
theorem sortedFrom_zero [NeZero n] : sortedFrom R 0 = pick v := by
  have hne : List.finRange n ≠ [] := by
    intro h
    have : (List.finRange n).length = 0 := by rw [h]; rfl
    rw [List.length_finRange] at this
    exact NeZero.ne n this
  obtain ⟨q, t, hq, -, hqb⟩ := head_sort v R hR (List.finRange n) (List.pairwise_lt_finRange n) hne
  have e : sortedFrom R 0 = q := by
    unfold sortedFrom
    rw [List.get_eq_getElem]
    simp only [sortPositions, hq]
    rfl
  rw [e]
  exact (pick_eq ⟨fun i => (hqb i (List.mem_finRange i)).1, fun i => (hqb i (List.mem_finRange i)).2⟩).symm

/-- A list whose values descend is left as it is. -/
theorem sort_desc (l : List (Fin n)) (hl : l.Pairwise fun a b => v b ≤ v a) : stableSort R l = l := by
  induction l with
  | nil => rfl
  | cons a l ih =>
    show insertBefore R a (stableSort R l) = a :: l
    rw [ih (List.pairwise_cons.1 hl).2]
    cases l with
    | nil => rfl
    | cons b l =>
      unfold insertBefore
      rw [if_neg]
      intro h
      exact absurd ((hR b a).1 h) (not_lt.2 ((List.pairwise_cons.1 hl).1 b List.mem_cons_self))

/-- When the values descend the sort moves nothing. -/
theorem sortedFrom_desc (hv : ∀ a b, a ≤ b → v b ≤ v a) (k : Fin n) : sortedFrom R k = k := by
  have e : sortPositions n R = List.finRange n :=
    sort_desc v R hR _ ((List.pairwise_lt_finRange n).imp fun h => hv _ _ h.le)
  unfold sortedFrom
  rw [List.get_of_eq e]
  simp

end order

/-- The order a sort of extended reals asks, the greater first. -/
theorem gt_iff (a b : EReal) :
    (FloatOps.cmpfTotal (F := Ideal) (φ := .f32) .gt a b == 1#1) = true ↔ b < a := by
  rw [beq_iff_eq]
  show BitVec.ofBool (decide (b < a)) = 1#1 ↔ b < a
  by_cases h : b < a
  · simp [h]
  · simp [h]

abbrev T8x20000 : Shape := ⟨2, ![8, 20000]⟩
abbrev T8x1 : Shape := ⟨2, ![8, 1]⟩
abbrev T8x20000x80 : Shape := ⟨3, ![8, 20000, 80]⟩
abbrev T8x20000x1 : Shape := ⟨3, ![8, 20000, 1]⟩
abbrev T8x300 : Shape := ⟨2, ![8, 300]⟩

theorem along2 {a b : ℕ} (i : Fin a) (j k : Fin b) :
    Shape.Idx.along (s := ⟨2, ![a, b]⟩) (ix2 i j) (1 : Fin 2) k = ix2 i k := by
  funext c
  fin_cases c
  · rfl
  · rfl

theorem along3 {a b d : ℕ} (i : Fin a) (j : Fin b) (c k : Fin d) :
    Shape.Idx.along (s := ⟨3, ![a, b, d]⟩) (ix3 i j c) (2 : Fin 3) k = ix3 i j k := by
  funext c
  fin_cases c
  · rfl
  · rfl
  · rfl

/-- The sort of a table along its second axis, read at an entry. -/
theorem sort2_row {a b : ℕ} {β : Type} (x : FVec Ideal ⟨2, ![a, b]⟩ .f32) (y : (⟨2, ![a, b]⟩ : Shape).Idx → β) (i : Fin a) (j : Fin b) :
    (Host.sort2 ⟨2, ![a, b]⟩ 1 (fun l r => FloatOps.cmpfTotal (F := Ideal) (φ := .f32) .gt l.1 r.1) x y).1 (ix2 i j)
        = x (ix2 i (sortedFrom (fun k k' => FloatOps.cmpfTotal (F := Ideal) (φ := .f32) .gt (x (ix2 i k)) (x (ix2 i k')) == 1#1) j))
    ∧ (Host.sort2 ⟨2, ![a, b]⟩ 1 (fun l r => FloatOps.cmpfTotal (F := Ideal) (φ := .f32) .gt l.1 r.1) x y).2 (ix2 i j)
        = y (ix2 i (sortedFrom (fun k k' => FloatOps.cmpfTotal (F := Ideal) (φ := .f32) .gt (x (ix2 i k)) (x (ix2 i k')) == 1#1) j)) := by
  have hd : 1 < (⟨2, ![a, b]⟩ : Shape).rank := Nat.one_lt_two
  have e : ∀ k : Fin b, Shape.Idx.along (s := ⟨2, ![a, b]⟩) (ix2 i j) (⟨1, hd⟩ : Fin 2) k = ix2 i k := fun k => along2 i j k
  unfold Host.sort2
  rw [dif_pos hd]
  constructor
  · refine (congrArg x (e _)).trans ?_
    refine congrArg (fun q => x (ix2 i q)) ?_
    exact congrArg (fun R => sortedFrom R j) (funext fun k => funext fun k' => by rw [← e k, ← e k'])
  · refine (congrArg y (e _)).trans ?_
    refine congrArg (fun q => y (ix2 i q)) ?_
    exact congrArg (fun R => sortedFrom R j) (funext fun k => funext fun k' => by rw [← e k, ← e k'])

/-- The sort of a stack of tables along its last axis, read at an entry. -/
theorem sort2_stack {a b d : ℕ} {β : Type} (x : FVec Ideal ⟨3, ![a, b, d]⟩ .f32) (y : (⟨3, ![a, b, d]⟩ : Shape).Idx → β)
    (i : Fin a) (j : Fin b) (c : Fin d) :
    (Host.sort2 ⟨3, ![a, b, d]⟩ 2 (fun l r => FloatOps.cmpfTotal (F := Ideal) (φ := .f32) .gt l.1 r.1) x y).2 (ix3 i j c)
        = y (ix3 i j (sortedFrom (fun k k' => FloatOps.cmpfTotal (F := Ideal) (φ := .f32) .gt (x (ix3 i j k)) (x (ix3 i j k')) == 1#1) c)) := by
  have hd : 2 < (⟨3, ![a, b, d]⟩ : Shape).rank := Nat.lt_succ_self 2
  have e : ∀ k : Fin d, Shape.Idx.along (s := ⟨3, ![a, b, d]⟩) (ix3 i j c) (⟨2, hd⟩ : Fin 3) k = ix3 i j k := fun k => along3 i j c k
  unfold Host.sort2
  rw [dif_pos hd]
  refine (congrArg y (e _)).trans ?_
  refine congrArg (fun q => y (ix3 i j q)) ?_
  exact congrArg (fun R => sortedFrom R c) (funext fun k => funext fun k' => by rw [← e k, ← e k'])

/-- The best score of a row and its position. -/
theorem topOne (x : FVec Ideal T8x20000 .f32) (h : T8x20000.Slices (fun _ => 0) T8x1) (b : Fin 8) :
    (Host.topK T8x1 1 (FloatOps.cmpfTotal .gt) x h).1 (ix2 b 0) = x (ix2 b (pick fun i => x (ix2 b i)))
      ∧ (Host.topK T8x1 1 (FloatOps.cmpfTotal .gt) x h).2 (ix2 b 0) = BitVec.ofNat 32 (pick fun i => x (ix2 b i)).val := by
  constructor
  · pointwise [Host.topK]
    rw [(sort2_row x _ b 0).1, sortedFrom_zero (fun i => x (ix2 b i)) _ (fun a c => gt_iff _ _)]
  · pointwise [Host.topK]
    rw [(sort2_row x _ b 0).2, sortedFrom_zero (fun i => x (ix2 b i)) _ (fun a c => gt_iff _ _)]
    rfl

/-- The position of a box's best class. -/
theorem topClass (x : FVec Ideal T8x20000x80 .f32) (h : T8x20000x80.Slices (fun _ => 0) T8x20000x1) (b : Fin 8) (i : Fin 20000) :
    (Host.topK T8x20000x1 2 (FloatOps.cmpfTotal .gt) x h).2 (ix3 b i 0) = BitVec.ofNat 32 (pick fun k => x (ix3 b i k)).val := by
  pointwise [Host.topK]
  rw [sort2_stack x _ b i 0, sortedFrom_zero (fun k => x (ix3 b i k)) _ (fun a c => gt_iff _ _)]
  rfl

/-- A row that descends is its own ordering. -/
theorem topAll (x : FVec Ideal T8x300 .f32) (h : T8x300.Slices (fun _ => 0) T8x300) (b : Fin 8)
    (hx : ∀ i j : Fin 300, i ≤ j → x (ix2 b j) ≤ x (ix2 b i)) (i : Fin 300) :
    (Host.topK T8x300 1 (FloatOps.cmpfTotal .gt) x h).1 (ix2 b i) = x (ix2 b i)
      ∧ (Host.topK T8x300 1 (FloatOps.cmpfTotal .gt) x h).2 (ix2 b i) = BitVec.ofNat 32 i.val := by
  constructor
  · pointwise [Host.topK]
    rw [(sort2_row x _ b i).1, sortedFrom_desc (fun i => x (ix2 b i)) _ (fun a c => gt_iff _ _) hx]
  · pointwise [Host.topK]
    rw [(sort2_row x _ b i).2, sortedFrom_desc (fun i => x (ix2 b i)) _ (fun a c => gt_iff _ _) hx]
    rfl

end Cert.Proof.Greedy

end
-- ==== Proof.Gathers.lean ====
/- The reference's gathers: at an index word that holds a position, the table's entry at that position. -/
module

public import proofs.«01_k».proof.Proof.Folds
public import proofs.«01_k».proof.ReferenceIdeal
public import Idealize.ShloMosaic.Lib.Pointwise

@[expose] public section

set_option maxRecDepth 65536
set_option maxHeartbeats 1000000

noncomputable section

namespace Cert.Proof.RefVal

open Cert.ReferenceIdeal
open Idealize.ShloMosaic
open Cert.Proof.Greedy

variable {α : Type} [Facts₀]

/-- A signed word read as a natural number, cut at a bound it does not exceed. -/
theorem clamp_small (k n : ℕ) (h : k < 2147483648) (hn : k ≤ n) : min (BitVec.ofNat 32 k).toInt.toNat n = k := by
  rw [toInt_small k h]
  exact min_eq_left hn

/-- A sum of three parts, each known. -/
theorem three {a b c u v w n : ℕ} (hu : u = a) (hv : v = b) (hw : w = c) (h : a + b + c = n) : u + v + w = n := by
  rw [hu, hv, hw, h]

/-- A trip's reading of the choice's corners. -/
theorem g1 (x : S8x20000x4.Idx → α) (t : IVec S8x1x1 32) (b : Fin 8) (k : Fin 4) (p : Fin 20000)
    (h : t (ix3 b 0 0) = BitVec.ofNat 32 p.val) :
    Host.gather gather_S8x20000x4_S8x1x1_S8x1x4_2_1_0_0_1_2_114 x t (ix3 b 0 k) = x (ix3 b p k) := by
  refine congrArg x (funext fun a => Fin.ext ?_)
  have hp := p.isLt
  fin_cases a
  · show _ + _ + _ = b.val
    exact three (a := 0) (b := b.val) (c := 0) rfl rfl rfl (by omega)
  · have e : GatherDims.start gather_S8x20000x4_S8x1x1_S8x1x4_2_1_0_0_1_2_114 (ix3 b 0 k) t 1 = min (t (ix3 b 0 0)).toInt.toNat 19999 := by
      show min (t _).toInt.toNat _ = _
      congr 4
      funext a
      fin_cases a <;> rfl
    rw [h, clamp_small _ _ (by omega) (by omega)] at e
    show _ + _ + _ = p.val
    exact three (b := 0) (c := 0) e rfl rfl (by omega)
  · show _ + _ + _ = k.val
    exact three (a := 0) (b := 0) (c := k.val) rfl rfl rfl (by omega)

/-- Each chosen box's entry in a table of the boxes. -/
theorem g2 (x : S8x20000.Idx → α) (t : IVec S8x300x1 32) (b : Fin 8) (i : Fin 300) (p : Fin 20000)
    (h : t (ix3 b i 0) = BitVec.ofNat 32 p.val) :
    Host.gather gather_S8x20000_S8x300x1_S8x300_n_1_0_0_1_2_11 x t (ix2 b i) = x (ix2 b p) := by
  refine congrArg x (funext fun a => Fin.ext ?_)
  have hp := p.isLt
  fin_cases a
  · show _ + _ + _ = b.val
    exact three (a := 0) (b := b.val) (c := 0) rfl rfl rfl (by omega)
  · have e : GatherDims.start gather_S8x20000_S8x300x1_S8x300_n_1_0_0_1_2_11 (ix2 b i) t 1 = min (t (ix3 b i 0)).toInt.toNat 19999 := by
      show min (t _).toInt.toNat _ = _
      congr 4
      funext a
      fin_cases a <;> rfl
    rw [h, clamp_small _ _ (by omega) (by omega)] at e
    show _ + _ + _ = p.val
    exact three (b := 0) (c := 0) e rfl rfl (by omega)

/-- Each chosen box's class scores. -/
theorem g3 (x : S8x20000x80.Idx → α) (t : IVec S8x300x1 32) (b : Fin 8) (i : Fin 300) (k : Fin 80) (p : Fin 20000)
    (h : t (ix3 b i 0) = BitVec.ofNat 32 p.val) :
    Host.gather gather_S8x20000x80_S8x300x1_S8x300x80_2_1_0_0_1_2_1180 x t (ix3 b i k) = x (ix3 b p k) := by
  refine congrArg x (funext fun a => Fin.ext ?_)
  have hp := p.isLt
  fin_cases a
  · show _ + _ + _ = b.val
    exact three (a := 0) (b := b.val) (c := 0) rfl rfl rfl (by omega)
  · have e : GatherDims.start gather_S8x20000x80_S8x300x1_S8x300x80_2_1_0_0_1_2_1180 (ix3 b i k) t 1 = min (t (ix3 b i 0)).toInt.toNat 19999 := by
      show min (t _).toInt.toNat _ = _
      congr 4
      funext a
      fin_cases a <;> rfl
    rw [h, clamp_small _ _ (by omega) (by omega)] at e
    show _ + _ + _ = p.val
    exact three (b := 0) (c := 0) e rfl rfl (by omega)
  · show _ + _ + _ = k.val
    exact three (a := 0) (b := 0) (c := k.val) rfl rfl rfl (by omega)

/-- Each chosen box's score of its class. -/
theorem g4 (x : S8x300x80.Idx → α) (t : IVec S8x300x1x1 32) (b : Fin 8) (i : Fin 300) (p : Fin 80)
    (h : t (ix4 b i 0 0) = BitVec.ofNat 32 p.val) :
    Host.gather gather_S8x300x80_S8x300x1x1_S8x300x1_n_2_01_01_2_3_111 x t (ix3 b i 0) = x (ix3 b i p) := by
  refine congrArg x (funext fun a => Fin.ext ?_)
  have hp := p.isLt
  fin_cases a
  · show _ + _ + _ = b.val
    exact three (a := 0) (b := b.val) (c := 0) rfl rfl rfl (by omega)
  · show _ + _ + _ = i.val
    exact three (a := 0) (b := i.val) (c := 0) rfl rfl rfl (by omega)
  · have e : GatherDims.start gather_S8x300x80_S8x300x1x1_S8x300x1_n_2_01_01_2_3_111 (ix3 b i 0) t 2 = min (t (ix4 b i 0 0)).toInt.toNat 79 := by
      show min (t _).toInt.toNat _ = _
      congr 4
      funext a
      fin_cases a <;> rfl
    rw [h, clamp_small _ _ (by omega) (by omega)] at e
    show _ + _ + _ = p.val
    exact three (b := 0) (c := 0) e rfl rfl (by omega)

/-- A choice's entry in a table of the choices. -/
theorem g5 (x : S8x300.Idx → α) (t : IVec S8x300x1 32) (b : Fin 8) (i : Fin 300) (p : Fin 300)
    (h : t (ix3 b i 0) = BitVec.ofNat 32 p.val) :
    Host.gather gather_S8x300_S8x300x1_S8x300_n_1_0_0_1_2_11 x t (ix2 b i) = x (ix2 b p) := by
  refine congrArg x (funext fun a => Fin.ext ?_)
  have hp := p.isLt
  fin_cases a
  · show _ + _ + _ = b.val
    exact three (a := 0) (b := b.val) (c := 0) rfl rfl rfl (by omega)
  · have e : GatherDims.start gather_S8x300_S8x300x1_S8x300_n_1_0_0_1_2_11 (ix2 b i) t 1 = min (t (ix3 b i 0)).toInt.toNat 299 := by
      show min (t _).toInt.toNat _ = _
      congr 4
      funext a
      fin_cases a <;> rfl
    rw [h, clamp_small _ _ (by omega) (by omega)] at e
    show _ + _ + _ = p.val
    exact three (b := 0) (c := 0) e rfl rfl (by omega)

/-- Each chosen box's corners. -/
theorem g6 (x : S8x20000x4.Idx → α) (t : IVec S8x300x1 32) (b : Fin 8) (i : Fin 300) (k : Fin 4) (p : Fin 20000)
    (h : t (ix3 b i 0) = BitVec.ofNat 32 p.val) :
    Host.gather gather_S8x20000x4_S8x300x1_S8x300x4_2_1_0_0_1_2_114 x t (ix3 b i k) = x (ix3 b p k) := by
  refine congrArg x (funext fun a => Fin.ext ?_)
  have hp := p.isLt
  fin_cases a
  · show _ + _ + _ = b.val
    exact three (a := 0) (b := b.val) (c := 0) rfl rfl rfl (by omega)
  · have e : GatherDims.start gather_S8x20000x4_S8x300x1_S8x300x4_2_1_0_0_1_2_114 (ix3 b i k) t 1 = min (t (ix3 b i 0)).toInt.toNat 19999 := by
      show min (t _).toInt.toNat _ = _
      congr 4
      funext a
      fin_cases a <;> rfl
    rw [h, clamp_small _ _ (by omega) (by omega)] at e
    show _ + _ + _ = p.val
    exact three (b := 0) (c := 0) e rfl rfl (by omega)
  · show _ + _ + _ = k.val
    exact three (a := 0) (b := 0) (c := k.val) rfl rfl rfl (by omega)

end Cert.Proof.RefVal

end
-- ==== Proof.RefVal.lean ====
/- One trip of the reference's loop, in the extended reals: a greedy step, the choice entered in two tables. -/
module

public import proofs.«01_k».proof.Proof.Problem
public import proofs.«01_k».proof.Proof.TopOne
public import proofs.«01_k».proof.Proof.Gathers
public import proofs.«01_k».proof.Proof.RefRun

@[expose] public section

set_option maxRecDepth 65536
set_option maxHeartbeats 1000000

noncomputable section

namespace Cert.Proof.RefVal

open Cert.ReferenceIdeal Cert.ReferenceIdeal.Step
open Idealize.ShloMosaic Idealize.ShloMosaic.TcCoe
open Cert.Proof.Greedy

variable (s : State Ideal) (j : ℕ) (b : Fin 8)

/-- The scores a state holds of batch `b`. -/
abbrev avOf (i : Fin 20000) : EReal := s.main_v6_2 (ix2 b i)

theorem b0_val : b0 j s (ix2 b 0) = avOf s b (pick (avOf s b)) := (topOne s.main_v6_2 _ b).1
theorem b1_val : b1 j s (ix2 b 0) = BitVec.ofNat 32 (pick (avOf s b)).val := (topOne s.main_v6_2 _ b).2
theorem b2_val : b2 j s (ix3 b 0 0) = BitVec.ofNat 32 (pick (avOf s b)).val := by
  have h := b1_val s j b
  pointwise [b2]
  exact h
theorem b3_val (k : Fin 4) : b3 j s (ix3 b 0 k) = s.main_v6_0 (ix3 b (pick (avOf s b)) k) := g1 _ _ b k _ (b2_val s j b)

/-- The corners of the choice. -/
theorem b5_val : b5 j s (ix2 b 0) = (corners s.main_v6_0 b).x1 (pick (avOf s b)) := by
  have h := b3_val s j b 0
  pointwise [b5, b4]
  exact h
theorem b11_val : b11 j s (ix2 b 0) = (corners s.main_v6_0 b).y1 (pick (avOf s b)) := by
  have h := b3_val s j b 1
  pointwise [b11, b10]
  exact h
theorem b17_val : b17 j s (ix2 b 0) = (corners s.main_v6_0 b).x2 (pick (avOf s b)) := by
  have h := b3_val s j b 2
  pointwise [b17, b16]
  exact h
theorem b23_val : b23 j s (ix2 b 0) = (corners s.main_v6_0 b).y2 (pick (avOf s b)) := by
  have h := b3_val s j b 3
  pointwise [b23, b22]
  exact h
/-- The corners of every box. -/
theorem b7_val (i : Fin 20000) : b7 j s (ix2 b i) = (corners s.main_v6_0 b).x1 i := by
  pointwise [b7, b6]
  rfl
theorem b13_val (i : Fin 20000) : b13 j s (ix2 b i) = (corners s.main_v6_0 b).y1 i := by
  pointwise [b13, b12]
  rfl
theorem b19_val (i : Fin 20000) : b19 j s (ix2 b i) = (corners s.main_v6_0 b).x2 i := by
  pointwise [b19, b18]
  rfl
theorem b25_val (i : Fin 20000) : b25 j s (ix2 b i) = (corners s.main_v6_0 b).y2 i := by
  pointwise [b25, b24]
  rfl

/-- The intersection of the choice with every box. -/
theorem b36_val (i : Fin 20000) : b36 j s (ix2 b i) =
    inter ((corners s.main_v6_0 b).x1 (pick (avOf s b))) ((corners s.main_v6_0 b).y1 (pick (avOf s b)))
      ((corners s.main_v6_0 b).x2 (pick (avOf s b))) ((corners s.main_v6_0 b).y2 (pick (avOf s b)))
      ((corners s.main_v6_0 b).x1 i) ((corners s.main_v6_0 b).y1 i) ((corners s.main_v6_0 b).x2 i) ((corners s.main_v6_0 b).y2 i) := by
  have h1 := b5_val s j b
  have h2 := b11_val s j b
  have h3 := b17_val s j b
  have h4 := b23_val s j b
  have h5 := b7_val s j b i
  have h6 := b13_val s j b i
  have h7 := b19_val s j b i
  have h8 := b25_val s j b i
  pointwise [b36, b35, b34, b33, b32, b31, b30, b29, b28, b27, b26, b21, b20, b15, b14, b9, b8]
  rw [h1, h2, h3, h4, h5, h6, h7, h8]
  rfl

/-- The area of the choice. -/
theorem b47_val : b47 j s (ix2 b 0) =
    ((corners s.main_v6_0 b).x2 (pick (avOf s b)) - (corners s.main_v6_0 b).x1 (pick (avOf s b)))
      * ((corners s.main_v6_0 b).y2 (pick (avOf s b)) - (corners s.main_v6_0 b).y1 (pick (avOf s b))) := by
  have h1 := b3_val s j b 0
  have h2 := b3_val s j b 1
  have h3 := b3_val s j b 2
  have h4 := b3_val s j b 3
  pointwise [b47, b46, b45, b44, b43, b42, b41, b40, b39, b38, b37]
  rw [h1, h2, h3, h4]
  rfl

/-- The areas of every box. -/
theorem b58_val (i : Fin 20000) : b58 j s (ix2 b i) =
    ((corners s.main_v6_0 b).x2 i - (corners s.main_v6_0 b).x1 i) * ((corners s.main_v6_0 b).y2 i - (corners s.main_v6_0 b).y1 i) := by
  pointwise [b58, b57, b56, b55, b54, b53, b52, b51, b50, b49, b48]
  rfl

/-- The overlap of the choice with every box. -/
theorem b65_val (i : Fin 20000) : b65 j s (ix2 b i) = (corners s.main_v6_0 b).ovl (pick (avOf s b)) i := by
  have h1 := b36_val s j b i
  have h2 := b47_val s j b
  have h3 := b58_val s j b i
  pointwise [b65, b64, b63, b62, b61, b60, b59]
  rw [h1, h2, h3]
  rfl

/-- The scores left where the overlap is large. -/
theorem b72_val (i : Fin 20000) : b72 j s (ix2 b i) = (corners s.main_v6_0 b).step (avOf s b) i := by
  have h1 := b65_val s j b i
  pointwise [b72, b71, b70, b69, b68, b67, b66]
  rw [h1, ofBits_bot]
  rfl

/-- The scores a trip leaves: the greedy step's, when a box overlaps itself. -/
theorem b81_val (hself : ∀ i, half < (corners s.main_v6_0 b).ovl i i) (i : Fin 20000) :
    b81 j s (ix2 b i) = (corners s.main_v6_0 b).step (avOf s b) i := by
  have h1 := b72_val s j b i
  have h2 := b1_val s j b
  pointwise [b81, b80, b79, b78, b77, b76, b75, b74, b73]
  rw [h1, h2, ofBits_bot]
  by_cases hi : i = pick (avOf s b)
  · subst hi
    have : (corners s.main_v6_0 b).step (avOf s b) (pick (avOf s b)) = ⊥ := if_pos (hself _)
    rw [this]
    unfold Scalar.select
    exact ite_self _
  · have hi' : IntOp.cmpi .eq (BitVec.ofNat 32 i.val) (BitVec.ofNat 32 (pick (avOf s b)).val) = 0#1 := by
      have hne : BitVec.ofNat 32 i.val ≠ BitVec.ofNat 32 (pick (avOf s b)).val := fun e => hi (Fin.ext
        ((ofNat_inj_small (by omega) (by omega)).1 e))
      show BitVec.ofBool (_ == _) = 0#1
      rw [beq_eq_false_iff_ne.2 hne]
      rfl
    rw [hi']
    rfl

end Cert.Proof.RefVal

end
-- ==== Proof.RefTab.lean ====
/- The reference's loop runs the greedy trips and enters each choice in its tables. -/
module

public import proofs.«01_k».proof.Proof.RefVal
public import Idealize.ShloMosaic.Lib.WordCmp
public import proofs.«01_k».proof.Proof.Answer

@[expose] public section

set_option maxRecDepth 65536
set_option maxHeartbeats 1000000

noncomputable section

namespace Cert.Proof.RefVal

open Cert.ReferenceIdeal Cert.ReferenceIdeal.Step
open Idealize.ShloMosaic Idealize.ShloMosaic.TcCoe
open Cert.Proof.Greedy

/-- The greatest of a box's class scores. -/
theorem top_val (x : S8x20000x80.Idx → EReal) (b : Fin 8) (i : Fin 20000) :
    A_main_v0 (F := Ideal) x (ix2 b i) = x (ix3 b i (cls x b i)) := by
  pointwise [A_main_v0, K_main_cst]
  refine fold_max1 (fun k => x (ix3 b i k)) _ fun k => ?_
  exact (pick_spec fun k => x (ix3 b i k)).top k

/-- Keeping the values above the threshold, nothing elsewhere. -/
theorem keep_val (v : FVec Ideal S8x20000 .f32) (b : Fin 8) (i : Fin 20000) :
    select (cmpf .ogt v (K_main_v1 (F := Ideal))) v (K_main_call0_v1 (F := Ideal)) (ix2 b i)
      = if thr < v (ix2 b i) then v (ix2 b i) else (⊥ : EReal) := by
  pointwise [K_main_v1, K_main_cst_0, K_main_call0_v1, K_main_call0_v0, K_main_cst_1]
  rw [show (id (constant (F := Ideal) S_ .f32 4286578688#32) ix0 : EReal) = ⊥ from ofBits_bot]
  rfl

/-- The scores the loop starts from. -/
theorem scores_val (x : S8x20000x80.Idx → EReal) (b : Fin 8) (i : Fin 20000) :
    A_main_v3 (F := Ideal) x (ix2 b i) = scores x b i := by
  refine (keep_val (A_main_v0 (F := Ideal) x) b i).trans ?_
  rw [top_val x b i]
  rfl

section trip
variable (s : State Ideal) (j : ℕ) (b : Fin 8)

/-- Entering a row in a table of three hundred. -/
theorem put_val {α : Type} (x : S300x8.Idx → α) (u : S1x8.Idx → α) (st : Fin 2 → Int) (h : S300x8.Slices (fun _ => 0) S1x8)
    (h0 : st 0 = j) (h1 : st 1 = 0) (hj : j < 300) (i : Fin 300) :
    Host.dynamicUpdateSlice x u st h (ix2 i b) = if i.val = j then u (ix2 0 b) else x (ix2 i b) := by
  have hk : S300x8.Slices ![j, 0] S1x8 := ⟨rfl, fun a => by
    fin_cases a
    · show j + 1 ≤ 300; omega
    · show 0 + 8 ≤ 8; omega⟩
  rw [WordCmp.dynamicUpdateSlice_eq_update x u st h ![j, 0] hk (fun a => by
    fin_cases a
    · exact h0
    · exact h1)]
  have hb := b.isLt
  unfold updateSlice
  by_cases e : i.val = j
  · rw [if_pos e, dif_pos (fun a => by
      fin_cases a
      · show j ≤ i.val ∧ i.val < j + 1; omega
      · show 0 ≤ b.val ∧ b.val < 0 + 8; omega)]
    refine congrArg u (funext fun a => Fin.ext ?_)
    fin_cases a
    · show i.val - j = 0; omega
    · show b.val - 0 = b.val; omega
  · rw [if_neg e, dif_neg (fun h => e ?_)]
    have h := h 0
    have h' : j ≤ i.val ∧ i.val < j + 1 := h
    omega

/-- Whether the trip's choice is reported. -/
theorem b90_val : b90 j s (ix2 0 b) = BitVec.ofBool (decide (floor < avOf s b (pick (avOf s b)))) := by
  have h := b0_val s j b
  pointwise [b90, b86, b85, b84, b83]
  rw [h]
  rfl

/-- The row entered in the table of choices. -/
theorem b87_val : b87 j s (ix2 0 b) = BitVec.ofNat 32 (pick (avOf s b)).val := by
  have h := b1_val s j b
  pointwise [b87, b82]
  exact h

/-- The table of choices after a trip. -/
theorem b89_val (hj : j < 300) (i : Fin 300) :
    b89 j s (ix2 i b) = if i.val = j then BitVec.ofNat 32 (pick (avOf s b)).val else s.main_v6_3 (ix2 i b) := by
  rw [← b87_val s j b]
  exact put_val j b s.main_v6_3 (b87 j s) _ _ (toInt_small j (by omega)) (toInt_small 0 (by omega)) hj i

/-- The table of reports after a trip. -/
theorem b92_val (hj : j < 300) (i : Fin 300) :
    b92 j s (ix2 i b) = if i.val = j then BitVec.ofBool (decide (floor < avOf s b (pick (avOf s b)))) else s.main_v6_4 (ix2 i b) := by
  rw [← b90_val s j b]
  exact put_val j b s.main_v6_4 (b90 j s) _ _ (toInt_small j (by omega)) (toInt_small 0 (by omega)) hj i

end trip

/-- What the state before trip `k` holds of batch `b`: the boxes, the scores left, the choices made. -/
structure Holds (y : S8x20000x4.Idx → EReal) (x : S8x20000x80.Idx → EReal) (b : Fin 8) (k : ℕ) (s : State Ideal) : Prop where
  boxes : s.main_v6_0 = y
  left : avOf s b = (corners y b).avail (scores x b) k
  chosen : ∀ t : Fin 300, t.val < k → s.main_v6_3 (ix2 t b) = BitVec.ofNat 32 (selAt y x b t.val).val
  reported : ∀ t : Fin 300, t.val < k → s.main_v6_4 (ix2 t b) = BitVec.ofBool (decide (floor < bestAt y x b t.val))

variable {y : S8x20000x4.Idx → EReal} {x : S8x20000x80.Idx → EReal} {b : Fin 8}

/-- A trip keeps what the states hold. -/
theorem holds_step (hself : ∀ i, half < (corners y b).ovl i i) {k : ℕ} (hk : k < 300) {s : State Ideal} (h : Holds y x b k s) :
    Holds y x b (k + 1) (step k s) where
  boxes := h.boxes
  left := by
    funext i
    show b81 k s (ix2 b i) = (corners y b).step ((corners y b).avail (scores x b) k) i
    rw [b81_val s k b (by rw [h.boxes]; exact hself) i, h.boxes, h.left]
  chosen := fun t ht => by
    show b89 k s (ix2 t b) = _
    rw [b89_val s k b hk t, h.left]
    by_cases e : t.val = k
    · rw [if_pos e, e]; rfl
    · rw [if_neg e]; exact h.chosen t (by omega)
  reported := fun t ht => by
    show b92 k s (ix2 t b) = _
    rw [b92_val s k b hk t, h.left]
    by_cases e : t.val = k
    · rw [if_pos e, e]; rfl
    · rw [if_neg e]; exact h.reported t (by omega)

/-- The state the loop starts from. -/
theorem holds_init : Holds y x b 0 (init (F := Ideal) y x) where
  boxes := rfl
  left := by
    funext i
    have e : (init (F := Ideal) y x).main_v6_2 = A_main_v3 (F := Ideal) x := by
      unfold init
      dsimp only
    unfold avOf
    rw [e, scores_val]
    unfold Boxes.avail
    rfl
  chosen := fun t h => absurd h (Nat.not_lt_zero _)
  reported := fun t h => absurd h (Nat.not_lt_zero _)

/-- The state before the first trip. -/
theorem state_zero (m : (ℓ : Loc nD τ sig) → Buf (Elt Ideal) ℓ) (c : Dev nD) : RefRun.stateAt m c 0
    = init (F := Ideal) (m ((c.tc : Thread nD τ).loc main_arg0)) (m ((c.tc : Thread nD τ).loc main_arg1)) := rfl
/-- The state after one trip more. -/
theorem state_succ (m : (ℓ : Loc nD τ sig) → Buf (Elt Ideal) ℓ) (c : Dev nD) (k : ℕ) :
    RefRun.stateAt m c (k + 1) = step k (RefRun.stateAt m c k) := rfl

/-- The states of the loop hold the greedy trips. -/
theorem holds_all (m : (ℓ : Loc nD τ sig) → Buf (Elt Ideal) ℓ) (c : Dev nD)
    (hy : m ((c.tc : Thread nD τ).loc main_arg0) = y) (hx : m ((c.tc : Thread nD τ).loc main_arg1) = x)
    (hself : ∀ i, half < (corners y b).ovl i i) (k : ℕ) (hk : k ≤ 300) : Holds y x b k (RefRun.stateAt m c k) := by
  induction k with
  | zero =>
    rw [state_zero, hy, hx]
    exact holds_init
  | succ k ih =>
    rw [state_succ]
    exact holds_step hself (by omega) (ih (by omega))

end Cert.Proof.RefVal

end
-- ==== Proof.RefEnd.lean ====
/- The reference's results are the problem's answers. -/
module

public import proofs.«01_k».proof.Proof.RefTab

@[expose] public section

set_option maxRecDepth 65536
set_option maxHeartbeats 1000000

noncomputable section

namespace Cert.Proof.RefVal

open Cert.ReferenceIdeal Cert.ReferenceIdeal.Step Cert.ReferenceIdeal.Gen
open Idealize.ShloMosaic Idealize.ShloMosaic.TcCoe
open Cert.Proof.Greedy

section text
variable {F : FTy → Type} [FloatOps F] (s : State F) (y : FVec F S8x20000x4 .f32) (x : FVec F S8x20000x80 .f32)

/-! The values the operations after the loop make, each named. -/

/-- A table of one word per result as the positions a gather reads. -/
def asIdx (t : IVec S8x300 32) : IVec S8x300x1 32 := broadcastInDim S8x300x1 ![0, 1] bcast_S8x300_S8x300x1_0_1 t
/-- The same of a table of bits. -/
def asIdx' (t : IVec S8x300 1) : IVec S8x300x1 1 := broadcastInDim S8x300x1 ![0, 1] bcast_S8x300_S8x300x1_0_1 t
/-- The choices, batch by batch. -/
def idxT : IVec S8x300 32 := transpose S8x300 [1, 0] s.main_v6_3 transposes_S300x8_S8x300_1_0
/-- Whether they are reported, batch by batch. -/
def repT : IVec S8x300 1 := transpose S8x300 [1, 0] s.main_v6_4 transposes_S300x8_S8x300_1_0
/-- Every box's class. -/
def allLab : IVec S8x20000 32 :=
  shapeCast _ ((Host.topK S8x20000x1 2 (FloatOps.cmpfTotal (F := F) (φ := .f32) .gt) x sliceFits_S8x20000x80_S8x20000x1).2) shapeCasts_S8x20000x1_S8x20000
/-- The choices' classes. -/
def selLab : IVec S8x300 32 := Host.gather gather_S8x20000_S8x300x1_S8x300_n_1_0_0_1_2_11 (allLab x) (asIdx (idxT s))
/-- The choices' scores. -/
def selSc : FVec F S8x300 .f32 :=
  shapeCast _ (Host.gather gather_S8x300x80_S8x300x1x1_S8x300x1_n_2_01_01_2_3_111
    (Host.gather gather_S8x20000x80_S8x300x1_S8x300x80_2_1_0_0_1_2_1180 x (asIdx (idxT s)))
    (broadcastInDim S8x300x1x1 ![0, 1, 2] bcast_S8x300x1_S8x300x1x1_0_1_2 (asIdx (selLab s x)))) shapeCasts_S8x300x1_S8x300
/-- The scores reported, nothing elsewhere. -/
def kept : FVec F S8x300 .f32 :=
  select (repT s) (selSc s x) (broadcastInDim S8x300 ![] bcast_S_S8x300 (id (constant (F := F) S_ .f32 0xFF800000#32)))
/-- Their ordering. -/
def ord : IVec S8x300 32 := (Host.topK S8x300 1 (FloatOps.cmpfTotal (F := F) (φ := .f32) .gt) (kept s x) sliceFits_S8x300_S8x300).2
/-- The reports in that order. -/
def ordRep : IVec S8x300 1 := Host.gather gather_S8x300_S8x300x1_S8x300_n_1_0_0_1_2_11 (repT s) (asIdx (ord s x))

/-- The scores result in these names. -/
theorem scores_text : R_main_v27 s x = select (ordRep s x)
    (Host.topK S8x300 1 (FloatOps.cmpfTotal (F := F) (φ := .f32) .gt) (kept s x) sliceFits_S8x300_S8x300).1
    (broadcastInDim S8x300 ![] bcast_S_S8x300 (id (constant (F := F) S_ .f32 0xBF800000#32))) := rfl
/-- The labels result in these names. -/
theorem labels_text : R_main_v30 s x = select (ordRep s x)
    (Host.gather gather_S8x300_S8x300x1_S8x300_n_1_0_0_1_2_11 (selLab s x) (asIdx (ord s x)))
    (broadcastInDim S8x300 ![] bcast_S_S8x300 (id (constantI S_ 32 4294967295#32))) := rfl
/-- The boxes result in these names. -/
theorem boxes_text : R_main_v26 s y x = select
    (broadcastInDim S8x300x4 ![0, 1, 2] bcast_S8x300x1_S8x300x4_0_1_2 (asIdx' (ordRep s x)))
    (Host.gather gather_S8x20000x4_S8x300x1_S8x300x4_2_1_0_0_1_2_114 y
      (asIdx (Host.gather gather_S8x300_S8x300x1_S8x300_n_1_0_0_1_2_11 (idxT s) (asIdx (ord s x)))))
    (broadcastInDim S8x300x4 ![] bcast_S_S8x300x4 (id (constant (F := F) S_ .f32 0xBF800000#32))) := rfl

end text

variable {s : State Ideal} {y : S8x20000x4.Idx → EReal} {x : S8x20000x80.Idx → EReal} {b : Fin 8}

/-- A position a gather reads is the table's word. -/
theorem asIdx_val (t : IVec S8x300 32) (b : Fin 8) (i : Fin 300) : asIdx t (ix3 b i 0) = t (ix2 b i) := by
  pointwise [asIdx]
/-- The choices of the three hundred trips. -/
theorem idxT_val (h : Holds y x b 300 s) (i : Fin 300) : idxT s (ix2 b i) = BitVec.ofNat 32 (selAt y x b i.val).val := by
  have h1 := h.chosen i i.isLt
  pointwise [idxT]
  exact h1
/-- A choice is reported when its score exceeds the floor. -/
theorem repT_val (h : Holds y x b 300 s) (i : Fin 300) : repT s (ix2 b i) = BitVec.ofBool (decide (floor < bestAt y x b i.val)) := by
  have h1 := h.reported i i.isLt
  pointwise [repT]
  exact h1
/-- The class of a box. -/
theorem allLab_val (b : Fin 8) (i : Fin 20000) : allLab (F := Ideal) x (ix2 b i) = BitVec.ofNat 32 (cls x b i).val := by
  have h1 := topClass x sliceFits_S8x20000x80_S8x20000x1 b i
  pointwise [allLab]
  exact h1
/-- The class of a choice. -/
theorem selLab_val (h : Holds y x b 300 s) (i : Fin 300) :
    selLab s x (ix2 b i) = BitVec.ofNat 32 (cls x b (selAt y x b i.val)).val := by
  unfold selLab
  rw [g2 (allLab (F := Ideal) x) (asIdx (idxT s)) b i _ ((asIdx_val _ b i).trans (idxT_val h i)), allLab_val]
/-- The class score of a choice. -/
theorem selSc_val (h : Holds y x b 300 s) (i : Fin 300) :
    selSc s x (ix2 b i) = x (ix3 b (selAt y x b i.val) (cls x b (selAt y x b i.val))) := by
  have e := g4 (Host.gather gather_S8x20000x80_S8x300x1_S8x300x80_2_1_0_0_1_2_1180 x (asIdx (idxT s)))
    (broadcastInDim S8x300x1x1 ![0, 1, 2] bcast_S8x300x1_S8x300x1x1_0_1_2 (asIdx (selLab s x))) b i (cls x b (selAt y x b i.val))
    (by
      have h1 := (asIdx_val (selLab s x) b i).trans (selLab_val h i)
      pointwise []
      exact h1)
  rw [g3 x (asIdx (idxT s)) b i _ _ ((asIdx_val _ b i).trans (idxT_val h i))] at e
  unfold selSc
  generalize Host.gather gather_S8x300x80_S8x300x1x1_S8x300x1_n_2_01_01_2_3_111 _ _ = G at e ⊢
  pointwise []
  exact e

/-- A choice between two values by a decided bit. -/
theorem pick_bit {α : Type} (p : Prop) [Decidable p] (u v : α) : (if BitVec.ofBool (decide p) = 1#1 then u else v) = if p then u else v := by
  by_cases h : p <;> simp [h]

/-- Selecting by the reports. -/
theorem sel_val {α : Type} (t : IVec S8x300 1) (u v : S8x300.Idx → α) (i : S8x300.Idx) (p : Prop) [Decidable p]
    (h : t i = BitVec.ofBool (decide p)) : select t u v i = if p then u i else v i := by
  show (if t i = 1#1 then u i else v i) = _
  rw [h, pick_bit]

/-- The score of a reported choice, nothing for the others. -/
theorem kept_val (h : Holds y x b 300 s) (i : Fin 300) :
    kept s x (ix2 b i) = if floor < bestAt y x b i.val then bestAt y x b i.val else (⊥ : EReal) := by
  unfold kept
  rw [sel_val _ _ _ _ _ (repT_val h i), selSc_val h i]
  by_cases e : floor < bestAt y x b i.val
  · rw [if_pos e, if_pos e, bestAt_eq y x b i.val e]
  · rw [if_neg e, if_neg e]
    exact ofBits_bot

/-- These scores descend. -/
theorem kept_anti (h : Holds y x b 300 s) (i j : Fin 300) (hij : i ≤ j) : kept s x (ix2 b j) ≤ kept s x (ix2 b i) := by
  rw [kept_val h, kept_val h]
  have hle := bestAt_anti y x b (show i.val ≤ j.val from hij)
  by_cases e : floor < bestAt y x b j.val
  · rw [if_pos e, if_pos (lt_of_lt_of_le e hle)]; exact hle
  · rw [if_neg e]; exact bot_le

/-- So their ordering changes nothing, -/
theorem ord_val (h : Holds y x b 300 s) (i : Fin 300) : ord s x (ix2 b i) = BitVec.ofNat 32 i.val :=
  (topAll (kept s x) _ b (kept_anti h) i).2
/-- nor does a table read in that order differ from itself, -/
theorem at_ord {α : Type} (t : S8x300.Idx → α) (h : Holds y x b 300 s) (i : Fin 300) :
    Host.gather gather_S8x300_S8x300x1_S8x300_n_1_0_0_1_2_11 t (asIdx (ord s x)) (ix2 b i) = t (ix2 b i) :=
  g5 t _ b i i ((asIdx_val _ b i).trans (ord_val h i))
/-- the reports among them. -/
theorem ordRep_val (h : Holds y x b 300 s) (i : Fin 300) :
    ordRep s x (ix2 b i) = BitVec.ofBool (decide (floor < bestAt y x b i.val)) :=
  (at_ord (repT s) h i).trans (repT_val h i)

/-- The scores result. -/
theorem scores_ans (h : Holds y x b 300 s) (i : Fin 300) : R_main_v27 s x (ix2 b i) = scoreAns y x (ix2 b i) := by
  rw [scores_text, sel_val _ _ _ _ _ (ordRep_val h i), (topAll (kept s x) _ b (kept_anti h) i).1, kept_val h]
  show _ = shown (bestAt y x b i.val) (bestAt y x b i.val)
  unfold shown
  by_cases e : floor < bestAt y x b i.val
  · rw [if_pos e, if_pos e, if_pos e]
  · rw [if_neg e, if_neg e]; rfl

/-- The labels result. -/
theorem labels_ans (h : Holds y x b 300 s) (i : Fin 300) : R_main_v30 s x (ix2 b i) = labAns y x (ix2 b i) := by
  rw [labels_text, sel_val _ _ _ _ _ (ordRep_val h i), at_ord (selLab s x) h i, selLab_val h]
  show _ = shownLab (bestAt y x b i.val) (cls x b (selAt y x b i.val)).val
  unfold shownLab
  by_cases e : floor < bestAt y x b i.val
  · rw [if_pos e, if_pos e]
  · rw [if_neg e, if_neg e]; rfl

/-- The boxes result. -/
theorem boxes_ans (h : Holds y x b 300 s) (i : Fin 300) (k : Fin 4) : R_main_v26 s y x (ix3 b i k) = boxAns y x (ix3 b i k) := by
  have hr := ordRep_val h i
  have hg := g6 y (asIdx (Host.gather gather_S8x300_S8x300x1_S8x300_n_1_0_0_1_2_11 (idxT s) (asIdx (ord s x)))) b i k
    (selAt y x b i.val) ((asIdx_val _ b i).trans ((at_ord (idxT s) h i).trans (idxT_val h i)))
  rw [boxes_text]
  generalize Host.gather gather_S8x20000x4_S8x300x1_S8x300x4_2_1_0_0_1_2_114 y _ = G at hg ⊢
  generalize ordRep s x = R at hr ⊢
  show (if broadcastInDim S8x300x4 ![0, 1, 2] bcast_S8x300x1_S8x300x4_0_1_2 (asIdx' R) (ix3 b i k) = 1#1 then G (ix3 b i k) else _) = _
  have e1 : broadcastInDim S8x300x4 ![0, 1, 2] bcast_S8x300x1_S8x300x4_0_1_2 (asIdx' R) (ix3 b i k) = R (ix2 b i) := by
    pointwise [asIdx']
  rw [e1, hr, pick_bit, hg]
  show _ = shown (bestAt y x b i.val) (y (ix3 b (selAt y x b i.val) k))
  unfold shown
  by_cases e : floor < bestAt y x b i.val
  · rw [if_pos e, if_pos e]
  · rw [if_neg e, if_neg e]; rfl

end Cert.Proof.RefVal

end
-- ==== Proof.SelfOverlap.lean ====
/- A box of finite corners and an area above the small number overlaps itself by more than half. -/
module

public import proofs.«01_k».proof.Proof.Problem

@[expose] public section

noncomputable section

namespace Cert.Proof.Greedy

open Idealize.ShloMosaic

/-- The small number is a real one above zero. -/
theorem eps_real : ∃ e : ℝ, 0 < e ∧ eps = (e : EReal) := by
  refine ⟨_, ?_, by unfold eps; simp [Ideal.ofBits, Ideal.ieee]; rfl⟩
  positivity

/-- A half. -/
theorem half_real : half = ((1 / 2 : ℝ) : EReal) := by
  unfold half
  simp [Ideal.ofBits, Ideal.ieee]
  rw [← EReal.coe_mul]
  norm_num

/-- A value whose size is below infinity is a real one. -/
theorem real_of_size (v : EReal) (h : max v (-v) < ⊤) : ∃ r : ℝ, v = (r : EReal) := by
  induction v with
  | bot => simp at h
  | top => simp at h
  | coe r => exact ⟨r, rfl⟩

/-- The overlap of a box with itself. -/
theorem self_ovl (x1 y1 x2 y2 : ℝ) (hx : x1 < x2) (e : ℝ) (he : 0 < e) (ha : e < (x2 - x1) * (y2 - y1)) (hE : eps = (e : EReal)) :
    half < ovlA (x1 : EReal) y1 x2 y2 x1 y1 x2 y2 (((x2 : EReal) - x1) * ((y2 : EReal) - y1)) := by
  have hX : 0 < x2 - x1 := by linarith
  have hY : 0 < y2 - y1 := by
    by_contra h
    have h1 : y2 - y1 ≤ 0 := not_lt.1 h
    have : (x2 - x1) * (y2 - y1) ≤ 0 := mul_nonpos_of_nonneg_of_nonpos hX.le h1
    linarith
  have e1 : max ((x2 : EReal) - x1) 0 = ((x2 - x1 : ℝ) : EReal) := by
    rw [← EReal.coe_sub]
    exact max_eq_left (by exact_mod_cast hX.le)
  have e2 : max ((y2 : EReal) - y1) 0 = ((y2 - y1 : ℝ) : EReal) := by
    rw [← EReal.coe_sub]
    exact max_eq_left (by exact_mod_cast hY.le)
  unfold ovlA inter
  rw [min_self, max_self, min_self, max_self, e1, e2, hE, half_real]
  simp only [← EReal.coe_sub, ← EReal.coe_mul, ← EReal.coe_add]
  generalize (x2 - x1) * (y2 - y1) = A at ha ⊢
  unfold Ideal.div
  have hd : 0 < A + A - A + e := by linarith
  rw [if_neg (by exact_mod_cast hd.ne'), ← EReal.coe_inv, ← EReal.coe_mul]
  rw [EReal.coe_lt_coe_iff, ← div_eq_mul_inv, div_lt_div_iff₀ (by norm_num) hd]
  linarith

end Cert.Proof.Greedy

end
-- ==== Proof.Precond.lean ====
/- What the precondition says of the boxes: every box overlaps itself by more than half. -/
module

public import proofs.«01_k».proof.Pre_proper_boxes
public import proofs.«01_k».proof.Proof.SelfOverlap
public import Idealize.ShloMosaic.Lib.ReduceAll
public import Idealize.ShloMosaic.Lib.Pointwise

@[expose] public section

set_option maxRecDepth 65536
set_option maxHeartbeats 1000000

noncomputable section

namespace Cert.Proof.Precond

open Cert.Pre_proper_boxes
open Idealize.ShloMosaic
open Cert.Proof.Greedy

/-- The precondition's shape relations. -/
theorem facts : Cert.Pre_proper_boxes.Facts where
  slices_S8x20000x4_S8x20000x1_0_0_0 := by decide
  slices_S8x20000x4_S8x20000x1_0_0_1 := by decide
  slices_S8x20000x4_S8x20000x1_0_0_2 := by decide
  slices_S8x20000x4_S8x20000x1_0_0_3 := by decide
  bcast_S_S8x20000x4 := by decide
  reducesTo_S8x20000x4_S_d0_1_2 := by decide
  h_S_ := by decide
  reducesTo_S8x20000x1_S_d0_1_2 := by decide
  bcast_S_S8x20000x1 := by decide

/-- The bound is infinity. -/
theorem ofBits_top : Ideal.ofBits .f32 0x7F800000#32 = ⊤ := by
  simp [Ideal.ofBits, Ideal.ieee]

variable [Facts]
open Facts

/-- A value whose size is below infinity is a real one. -/
theorem fin_bit (y : FVec Ideal S8x20000x4 .f32) (b : Fin 8) (j : Fin 20000) (k : Fin 4)
    (h : cmpf .olt (Host.absf y) (broadcastInDim S8x20000x4 ![] bcast_S_S8x20000x4 (constant S_ .f32 0x7F800000#32)) (ix3 b j k) = 1#1) :
    ∃ r : ℝ, y (ix3 b j k) = (r : EReal) := by
  revert h
  pointwise []
  rw [ofBits_top]
  intro h
  by_cases e : (FloatOps.absf (y (ix3 b j k)) : EReal) < ⊤
  · exact real_of_size _ e
  · rw [decide_eq_false e] at h
    exact absurd h (by decide)

/-- The first comparison: the left edge is left of the right one. -/
theorem lt_bit (y : FVec Ideal S8x20000x4 .f32) (b : Fin 8) (j : Fin 20000)
    (h : cmpf .olt (extractStridedSlice S8x20000x1 ![0, 0, 0] y slices_S8x20000x4_S8x20000x1_0_0_0)
      (extractStridedSlice S8x20000x1 ![0, 0, 2] y slices_S8x20000x4_S8x20000x1_0_0_2) (ix3 b j 0) = 1#1) :
    (y (ix3 b j 0) : EReal) < y (ix3 b j 2) := by
  revert h
  pointwise []
  intro h
  by_cases e : (y (ix3 b j 0) : EReal) < y (ix3 b j 2)
  · exact e
  · rw [decide_eq_false e] at h
    exact absurd h (by decide)

/-- The second comparison: the area is above the small number. -/
theorem area_bit (y : FVec Ideal S8x20000x4 .f32) (b : Fin 8) (j : Fin 20000)
    (h : cmpf .ogt (mulf
        (subf (extractStridedSlice S8x20000x1 ![0, 0, 2] y slices_S8x20000x4_S8x20000x1_0_0_2) (extractStridedSlice S8x20000x1 ![0, 0, 0] y slices_S8x20000x4_S8x20000x1_0_0_0))
        (subf (extractStridedSlice S8x20000x1 ![0, 0, 3] y slices_S8x20000x4_S8x20000x1_0_0_3) (extractStridedSlice S8x20000x1 ![0, 0, 1] y slices_S8x20000x4_S8x20000x1_0_0_1)))
      (broadcastInDim S8x20000x1 ![] bcast_S_S8x20000x1 (constant S_ .f32 0x322BCC77#32)) (ix3 b j 0) = 1#1) :
    eps < ((y (ix3 b j 2) : EReal) - y (ix3 b j 0)) * ((y (ix3 b j 3) : EReal) - y (ix3 b j 1)) := by
  revert h
  pointwise []
  intro h
  by_cases e : eps < ((y (ix3 b j 2) : EReal) - y (ix3 b j 0)) * ((y (ix3 b j 3) : EReal) - y (ix3 b j 1))
  · exact e
  · have h' : BitVec.ofBool (decide (eps < ((y (ix3 b j 2) : EReal) - y (ix3 b j 0)) * ((y (ix3 b j 3) : EReal) - y (ix3 b j 1)))) = 1#1 := h
    rw [decide_eq_false e] at h'
    exact absurd h' (by decide)

instance : Subsingleton S_.Idx := ⟨fun a b => funext fun k => k.elim0⟩

/-- Under the precondition every box overlaps itself by more than half. -/
theorem self (y : FVec Ideal S8x20000x4 .f32) (x : FVec Ideal S8x20000x80 .f32) (h : fn (F := Ideal) y x = fun _ => 1#1) (b : Fin 8) (i : Fin 20000) :
    half < (corners y b).ovl i i := by
  dsimp only [fn] at h
  obtain ⟨h01, h2⟩ := IntOp.andi_eq_one.1 (congrFun h ix0)
  obtain ⟨h0, h1⟩ := IntOp.andi_eq_one.1 h01
  have f := fun k => fin_bit y b i k (Host.reduce_andi_all _ _ _ _ _ h0 (ix3 b i k))
  have hl := lt_bit y b i (Host.reduce_andi_all _ _ _ _ _ h1 (ix3 b i 0))
  have ha := area_bit y b i (Host.reduce_andi_all _ _ _ _ _ h2 (ix3 b i 0))
  obtain ⟨r0, e0⟩ := f 0
  obtain ⟨r1, e1⟩ := f 1
  obtain ⟨r2, e2⟩ := f 2
  obtain ⟨r3, e3⟩ := f 3
  obtain ⟨e, he, hE⟩ := eps_real
  rw [e0, e2] at hl
  rw [e0, e1, e2, e3, hE, ← EReal.coe_sub, ← EReal.coe_sub, ← EReal.coe_mul] at ha
  show half < ovlA (y (ix3 b i 0)) (y (ix3 b i 1)) (y (ix3 b i 2)) (y (ix3 b i 3)) (y (ix3 b i 0)) (y (ix3 b i 1)) (y (ix3 b i 2)) (y (ix3 b i 3))
    (((y (ix3 b i 2) : EReal) - y (ix3 b i 0)) * ((y (ix3 b i 3) : EReal) - y (ix3 b i 1)))
  rw [e0, e1, e2, e3]
  exact self_ovl r0 r1 r2 r3 (EReal.coe_lt_coe_iff.1 hl) e he (EReal.coe_lt_coe_iff.1 ha) hE

end Cert.Proof.Precond

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.IdealRun
public import proofs.«01_k».proof.Proof.KernelFrame
public import proofs.«01_k».proof.Proof.RefRun
public import proofs.«01_k».proof.Proof.KernEnd
public import proofs.«01_k».proof.Proof.RefEnd
public import proofs.«01_k».proof.Proof.Precond
public import Idealize.ShloMosaic.Adequacy
public import Idealize.ShloMosaic.Init

@[expose] public section

noncomputable section

namespace Cert.Proof

open Idealize.ShloMosaic Idealize.ShloMosaic.TcCoe Idealize.SL.Sem

/-- The kernel's frame at machine floats. -/
theorem frame_kernel : Cert.quiescent_Kernel (hKernel := Cert.Kernel.Gen.facts) := fun m g _ => Kernel.frame_run m g

/-- The kernel's frame at exact floats. -/
theorem frame_ideal : Cert.quiescent_KernelIdeal (hKernelIdeal := Cert.KernelIdeal.Gen.facts) := fun m g _ => KernelIdeal.frame_run m g

/-- The reference's frame at exact floats: it declares no semaphore. -/
theorem frame_reference : Cert.quiescent_ReferenceIdeal (hReferenceIdeal := Cert.ReferenceIdeal.Gen.facts) := fun m g _ =>
  (θ_run _ _ _).mono (fun r h => ⟨fun c => ⟨(h c).2.2.2.1, (h c).2.2.2.2⟩, sem_eq_zero_of_no_sems (by decide) _⟩) (RefRun.run m g)

/-- The same under the precondition. -/
theorem frame_ideal_pre : Cert.quiescent_KernelIdeal_pre_proper_boxes (hKernelIdeal := Cert.KernelIdeal.Gen.facts)
    (hPre_proper_boxes := Precond.facts) := fun m g _ => KernelIdeal.frame_run m g
theorem frame_reference_pre : Cert.quiescent_ReferenceIdeal_pre_proper_boxes (hReferenceIdeal := Cert.ReferenceIdeal.Gen.facts)
    (hPre_proper_boxes := Precond.facts) := fun m g _ => frame_reference m g trivial

/-- Arrays of three, and of two, axes are equal when their entries are. -/
theorem ext3 {α : Type} {n0 n1 n2 : ℕ} {u v : (⟨3, ![n0, n1, n2]⟩ : Shape).Idx → α} (h : ∀ a b c, u (ix3 a b c) = v (ix3 a b c)) : u = v := by
  funext p
  have e : p = ix3 (p 0) (p 1) (p 2) := by funext a; fin_cases a <;> rfl
  rw [e]
  exact h _ _ _
theorem ext2 {α : Type} {n0 n1 : ℕ} {u v : (⟨2, ![n0, n1]⟩ : Shape).Idx → α} (h : ∀ a b, u (ix2 a b) = v (ix2 a b)) : u = v := by
  funext p
  have e : p = ix2 (p 0) (p 1) := by funext a; fin_cases a <;> rfl
  rw [e]
  exact h _ _

/-- The kernel and the reference end with equal results: both are the problem's answers. -/
theorem same : Cert.algebraic_KernelIdeal_ReferenceIdeal_pre_proper_boxes (hKernelIdeal := Cert.KernelIdeal.Gen.facts)
    (hReferenceIdeal := Cert.ReferenceIdeal.Gen.facts) (hPre_proper_boxes := Precond.facts) := by
  intro m g m' g' hpre hargs
  refine ⟨fun c => Greedy.boxAns (KernelIdeal.inY m c) (KernelIdeal.inX m c), fun c => Greedy.scoreAns (KernelIdeal.inY m c) (KernelIdeal.inX m c),
    fun c => Greedy.labAns (KernelIdeal.inY m c) (KernelIdeal.inX m c), ?_, ?_⟩
  · refine (θ_run _ _ _).mono (fun r h c => ?_) (KernelIdeal.run m g)
    have hc := h.1 c
    exact ⟨(hc _ (KernelIdeal.mem_uc Cert.KernelIdeal.main_v34 (by decide))).trans (KernelIdeal.end_boxes m c),
      (hc _ (KernelIdeal.mem_uc Cert.KernelIdeal.main_v29_0 (by decide))).trans (KernelIdeal.end_scores m c),
      (hc _ (KernelIdeal.mem_uc Cert.KernelIdeal.main_v29_1 (by decide))).trans (KernelIdeal.end_labels m c),
      (hc _ (KernelIdeal.mem_uc Cert.KernelIdeal.main_arg0 (by decide))).trans (Cert.KernelIdeal.Gen.V16_main_arg0 m (KernelIdeal.outs m) c),
      (hc _ (KernelIdeal.mem_uc Cert.KernelIdeal.main_arg1 (by decide))).trans (Cert.KernelIdeal.Gen.V16_main_arg1 m (KernelIdeal.outs m) c)⟩
  · haveI := Precond.facts
    refine (θ_run _ _ _).mono (fun r h c => ?_) (RefRun.run m' g')
    obtain ⟨h0, h1, h2, h3, h4⟩ := h c
    obtain ⟨e0, e1⟩ := hargs c
    have H : ∀ b, RefVal.Holds (KernelIdeal.inY m c) (KernelIdeal.inX m c) b 300 (RefRun.stateAt m' c 300) := fun b =>
      RefVal.holds_all m' c e0 e1 (fun i => Precond.self _ _ (hpre c) b i) 300 le_rfl
    rw [e0, e1] at h0
    rw [e1] at h1 h2
    exact ⟨h0.trans (ext3 fun b i k => RefVal.boxes_ans (H b) i k), h1.trans (ext2 fun b i => RefVal.scores_ans (H b) i),
      h2.trans (ext2 fun b i => RefVal.labels_ans (H b) i), h3, h4⟩

/-- Everything claimed. -/
theorem claim : Cert.Claim := ⟨Cert.Kernel.Gen.facts, Cert.KernelIdeal.Gen.facts, Cert.ReferenceIdeal.Gen.facts, Precond.facts,
  frame_kernel, frame_ideal, frame_ideal_pre, frame_reference, frame_reference_pre, trivial, same⟩

end Cert.Proof

end
